-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepMem (m : (ℓ : Loc Cert.StepMem.nD Cert.StepMem.τ Cert.StepMem.sig) → Buf (Elt Bits) ℓ) : Prop :=
  True

def Pre_StepMemIdeal (m : (ℓ : Loc Cert.StepMemIdeal.nD Cert.StepMemIdeal.τ Cert.StepMemIdeal.sig) → Buf (Elt Ideal) ℓ) : Prop :=
  True

def Pre_StepMemRefIdeal (m : (ℓ : Loc Cert.StepMemRefIdeal.nD Cert.StepMemRefIdeal.τ Cert.StepMemRefIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownRefIdeal (m : (ℓ : Loc Cert.StepDownRefIdeal.nD Cert.StepDownRefIdeal.τ Cert.StepDownRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumKv (m : (ℓ : Loc Cert.SumKv.nD Cert.SumKv.τ Cert.SumKv.sig) → Buf (Elt Bits) ℓ) : Prop :=
  True

def Pre_SumKvIdeal (m : (ℓ : Loc Cert.SumKvIdeal.nD Cert.SumKvIdeal.τ Cert.SumKvIdeal.sig) → Buf (Elt Ideal) ℓ) : Prop :=
  True

def Pre_SumKvRefIdeal (m : (ℓ : Loc Cert.SumKvRefIdeal.nD Cert.SumKvRefIdeal.τ Cert.SumKvRefIdeal.sig) → Buf (Elt Ideal) ℓ) : Prop :=
  True

def Pre_SumMix (m : (ℓ : Loc Cert.SumMix.nD Cert.SumMix.τ Cert.SumMix.sig) → Buf (Elt Bits) ℓ) : Prop :=
  True

def Pre_SumMixIdeal (m : (ℓ : Loc Cert.SumMixIdeal.nD Cert.SumMixIdeal.τ Cert.SumMixIdeal.sig) → Buf (Elt Ideal) ℓ) : Prop :=
  True

def Pre_SumMixRefIdeal (m : (ℓ : Loc Cert.SumMixRefIdeal.nD Cert.SumMixRefIdeal.τ Cert.SumMixRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepKv (m : (ℓ : Loc Cert.StepKv.nD Cert.StepKv.τ Cert.StepKv.sig) → Buf (Elt Bits) ℓ) : Prop :=
  True

def Pre_StepKvIdeal (m : (ℓ : Loc Cert.StepKvIdeal.nD Cert.StepKvIdeal.τ Cert.StepKvIdeal.sig) → Buf (Elt Ideal) ℓ) : Prop :=
  True

def Pre_StepKvRefIdeal (m : (ℓ : Loc Cert.StepKvRefIdeal.nD Cert.StepKvRefIdeal.τ Cert.StepKvRefIdeal.sig) → Buf (Elt Ideal) ℓ) : Prop :=
  True

def Pre_StepMix (m : (ℓ : Loc Cert.StepMix.nD Cert.StepMix.τ Cert.StepMix.sig) → Buf (Elt Bits) ℓ) : Prop :=
  True

def Pre_StepMixIdeal (m : (ℓ : Loc Cert.StepMixIdeal.nD Cert.StepMixIdeal.τ Cert.StepMixIdeal.sig) → Buf (Elt Ideal) ℓ) : Prop :=
  True

def Pre_StepMixRefIdeal (m : (ℓ : Loc Cert.StepMixRefIdeal.nD Cert.StepMixRefIdeal.τ Cert.StepMixRefIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpRefIdeal (m : (ℓ : Loc Cert.StepUpRefIdeal.nD Cert.StepUpRefIdeal.τ Cert.StepUpRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxRefIdeal (m : (ℓ : Loc Cert.NormDxRefIdeal.nD Cert.NormDxRefIdeal.τ Cert.NormDxRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_NormTwo (m : (ℓ : Loc Cert.NormTwo.nD Cert.NormTwo.τ Cert.NormTwo.sig) → Buf (Elt Bits) ℓ) : Prop :=
  True

def Pre_NormTwoIdeal (m : (ℓ : Loc Cert.NormTwoIdeal.nD Cert.NormTwoIdeal.τ Cert.NormTwoIdeal.sig) → Buf (Elt Ideal) ℓ) : Prop :=
  True

def Pre_NormTwoRefIdeal (m : (ℓ : Loc Cert.NormTwoRefIdeal.nD Cert.NormTwoRefIdeal.τ Cert.NormTwoRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepMem [hStepMem : Cert.StepMem.Facts] : Prop :=
  ∀ (m : (ℓ : Loc Cert.StepMem.nD Cert.StepMem.τ Cert.StepMem.sig) → Buf (Elt Bits) ℓ) (g : Dev Cert.StepMem.nD → PrngReg), Pre_StepMem m →
    θ_run (Cert.StepMem.defs (F := Bits)) (onTc (τ := Cert.StepMem.τ) (Cert.StepMem.main (F := Bits))) ⟨m, fun _ => 0, g⟩ (fun r => (∀ c : Dev Cert.StepMem.nD,
      r.2.mem ((c.tc : Thread Cert.StepMem.nD Cert.StepMem.τ).loc Cert.StepMem.main_arg0) = m ((c.tc : Thread Cert.StepMem.nD Cert.StepMem.τ).loc Cert.StepMem.main_arg0)
      ∧ r.2.mem ((c.tc : Thread Cert.StepMem.nD Cert.StepMem.τ).loc Cert.StepMem.main_arg1) = m ((c.tc : Thread Cert.StepMem.nD Cert.StepMem.τ).loc Cert.StepMem.main_arg1)
      ∧ r.2.mem ((c.tc : Thread Cert.StepMem.nD Cert.StepMem.τ).loc Cert.StepMem.main_arg2) = m ((c.tc : Thread Cert.StepMem.nD Cert.StepMem.τ).loc Cert.StepMem.main_arg2)
      ∧ r.2.mem ((c.tc : Thread Cert.StepMem.nD Cert.StepMem.τ).loc Cert.StepMem.main_arg3) = m ((c.tc : Thread Cert.StepMem.nD Cert.StepMem.τ).loc Cert.StepMem.main_arg3))
      ∧ r.2.sem = fun _ => 0)

def quiescent_StepMemIdeal [hStepMemIdeal : Cert.StepMemIdeal.Facts] : Prop :=
  ∀ (m : (ℓ : Loc Cert.StepMemIdeal.nD Cert.StepMemIdeal.τ Cert.StepMemIdeal.sig) → Buf (Elt Ideal) ℓ) (g : Dev Cert.StepMemIdeal.nD → PrngReg), Pre_StepMemIdeal m →
    θ_run (Cert.StepMemIdeal.defs (F := Ideal)) (onTc (τ := Cert.StepMemIdeal.τ) (Cert.StepMemIdeal.main (F := Ideal))) ⟨m, fun _ => 0, g⟩ (fun r => (∀ c : Dev Cert.StepMemIdeal.nD,
      r.2.mem ((c.tc : Thread Cert.StepMemIdeal.nD Cert.StepMemIdeal.τ).loc Cert.StepMemIdeal.main_arg0) = m ((c.tc : Thread Cert.StepMemIdeal.nD Cert.StepMemIdeal.τ).loc Cert.StepMemIdeal.main_arg0)
      ∧ r.2.mem ((c.tc : Thread Cert.StepMemIdeal.nD Cert.StepMemIdeal.τ).loc Cert.StepMemIdeal.main_arg1) = m ((c.tc : Thread Cert.StepMemIdeal.nD Cert.StepMemIdeal.τ).loc Cert.StepMemIdeal.main_arg1)
      ∧ r.2.mem ((c.tc : Thread Cert.StepMemIdeal.nD Cert.StepMemIdeal.τ).loc Cert.StepMemIdeal.main_arg2) = m ((c.tc : Thread Cert.StepMemIdeal.nD Cert.StepMemIdeal.τ).loc Cert.StepMemIdeal.main_arg2)
      ∧ r.2.mem ((c.tc : Thread Cert.StepMemIdeal.nD Cert.StepMemIdeal.τ).loc Cert.StepMemIdeal.main_arg3) = m ((c.tc : Thread Cert.StepMemIdeal.nD Cert.StepMemIdeal.τ).loc Cert.StepMemIdeal.main_arg3))
      ∧ r.2.sem = fun _ => 0)

def quiescent_StepMemRefIdeal [hStepMemRefIdeal : Cert.StepMemRefIdeal.Facts] : Prop :=
  ∀ (m : (ℓ : Loc Cert.StepMemRefIdeal.nD Cert.StepMemRefIdeal.τ Cert.StepMemRefIdeal.sig) → Buf (Elt Ideal) ℓ) (g : Dev Cert.StepMemRefIdeal.nD → PrngReg), Pre_StepMemRefIdeal m →
    θ_run (Cert.StepMemRefIdeal.defs (F := Ideal)) (onTc (τ := Cert.StepMemRefIdeal.τ) (Cert.StepMemRefIdeal.main (F := Ideal))) ⟨m, fun _ => 0, g⟩ (fun r => (∀ c : Dev Cert.StepMemRefIdeal.nD,
      r.2.mem ((c.tc : Thread Cert.StepMemRefIdeal.nD Cert.StepMemRefIdeal.τ).loc Cert.StepMemRefIdeal.main_arg0) = m ((c.tc : Thread Cert.StepMemRefIdeal.nD Cert.StepMemRefIdeal.τ).loc Cert.StepMemRefIdeal.main_arg0)
      ∧ r.2.mem ((c.tc : Thread Cert.StepMemRefIdeal.nD Cert.StepMemRefIdeal.τ).loc Cert.StepMemRefIdeal.main_arg1) = m ((c.tc : Thread Cert.StepMemRefIdeal.nD Cert.StepMemRefIdeal.τ).loc Cert.StepMemRefIdeal.main_arg1)
      ∧ r.2.mem ((c.tc : Thread Cert.StepMemRefIdeal.nD Cert.StepMemRefIdeal.τ).loc Cert.StepMemRefIdeal.main_arg2) = m ((c.tc : Thread Cert.StepMemRefIdeal.nD Cert.StepMemRefIdeal.τ).loc Cert.StepMemRefIdeal.main_arg2)
      ∧ r.2.mem ((c.tc : Thread Cert.StepMemRefIdeal.nD Cert.StepMemRefIdeal.τ).loc Cert.StepMemRefIdeal.main_arg3) = m ((c.tc : Thread Cert.StepMemRefIdeal.nD Cert.StepMemRefIdeal.τ).loc Cert.StepMemRefIdeal.main_arg3))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_StepDownRefIdeal [hStepDownRefIdeal : Cert.StepDownRefIdeal.Facts] : Prop :=
  ∀ (m : (ℓ : Loc Cert.StepDownRefIdeal.nD Cert.StepDownRefIdeal.τ Cert.StepDownRefIdeal.sig) → Buf (Elt Ideal) ℓ) (g : Dev Cert.StepDownRefIdeal.nD → PrngReg), Pre_StepDownRefIdeal m →
    θ_run (Cert.StepDownRefIdeal.defs (F := Ideal)) (onTc (τ := Cert.StepDownRefIdeal.τ) (Cert.StepDownRefIdeal.main (F := Ideal))) ⟨m, fun _ => 0, g⟩ (fun r => (∀ c : Dev Cert.StepDownRefIdeal.nD,
      r.2.mem ((c.tc : Thread Cert.StepDownRefIdeal.nD Cert.StepDownRefIdeal.τ).loc Cert.StepDownRefIdeal.main_arg0) = m ((c.tc : Thread Cert.StepDownRefIdeal.nD Cert.StepDownRefIdeal.τ).loc Cert.StepDownRefIdeal.main_arg0)
      ∧ r.2.mem ((c.tc : Thread Cert.StepDownRefIdeal.nD Cert.StepDownRefIdeal.τ).loc Cert.StepDownRefIdeal.main_arg1) = m ((c.tc : Thread Cert.StepDownRefIdeal.nD Cert.StepDownRefIdeal.τ).loc Cert.StepDownRefIdeal.main_arg1)
      ∧ r.2.mem ((c.tc : Thread Cert.StepDownRefIdeal.nD Cert.StepDownRefIdeal.τ).loc Cert.StepDownRefIdeal.main_arg2) = m ((c.tc : Thread Cert.StepDownRefIdeal.nD Cert.StepDownRefIdeal.τ).loc Cert.StepDownRefIdeal.main_arg2)
      ∧ r.2.mem ((c.tc : Thread Cert.StepDownRefIdeal.nD Cert.StepDownRefIdeal.τ).loc Cert.StepDownRefIdeal.main_arg3) = m ((c.tc : Thread Cert.StepDownRefIdeal.nD Cert.StepDownRefIdeal.τ).loc Cert.StepDownRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumKv [hSumKv : Cert.SumKv.Facts] : Prop :=
  ∀ (m : (ℓ : Loc Cert.SumKv.nD Cert.SumKv.τ Cert.SumKv.sig) → Buf (Elt Bits) ℓ) (g : Dev Cert.SumKv.nD → PrngReg), Pre_SumKv m →
    θ_run (Cert.SumKv.defs (F := Bits)) (onTc (τ := Cert.SumKv.τ) (Cert.SumKv.main (F := Bits))) ⟨m, fun _ => 0, g⟩ (fun r => (∀ c : Dev Cert.SumKv.nD,
      r.2.mem ((c.tc : Thread Cert.SumKv.nD Cert.SumKv.τ).loc Cert.SumKv.main_arg0) = m ((c.tc : Thread Cert.SumKv.nD Cert.SumKv.τ).loc Cert.SumKv.main_arg0))
      ∧ r.2.sem = fun _ => 0)

def quiescent_SumKvIdeal [hSumKvIdeal : Cert.SumKvIdeal.Facts] : Prop :=
  ∀ (m : (ℓ : Loc Cert.SumKvIdeal.nD Cert.SumKvIdeal.τ Cert.SumKvIdeal.sig) → Buf (Elt Ideal) ℓ) (g : Dev Cert.SumKvIdeal.nD → PrngReg), Pre_SumKvIdeal m →
    θ_run (Cert.SumKvIdeal.defs (F := Ideal)) (onTc (τ := Cert.SumKvIdeal.τ) (Cert.SumKvIdeal.main (F := Ideal))) ⟨m, fun _ => 0, g⟩ (fun r => (∀ c : Dev Cert.SumKvIdeal.nD,
      r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0))
      ∧ r.2.sem = fun _ => 0)

def quiescent_SumKvRefIdeal [hSumKvRefIdeal : Cert.SumKvRefIdeal.Facts] : Prop :=
  ∀ (m : (ℓ : Loc Cert.SumKvRefIdeal.nD Cert.SumKvRefIdeal.τ Cert.SumKvRefIdeal.sig) → Buf (Elt Ideal) ℓ) (g : Dev Cert.SumKvRefIdeal.nD → PrngReg), Pre_SumKvRefIdeal m →
    θ_run (Cert.SumKvRefIdeal.defs (F := Ideal)) (onTc (τ := Cert.SumKvRefIdeal.τ) (Cert.SumKvRefIdeal.main (F := Ideal))) ⟨m, fun _ => 0, g⟩ (fun r => (∀ c : Dev Cert.SumKvRefIdeal.nD,
      r.2.mem ((c.tc : Thread Cert.SumKvRefIdeal.nD Cert.SumKvRefIdeal.τ).loc Cert.SumKvRefIdeal.main_arg0) = m ((c.tc : Thread Cert.SumKvRefIdeal.nD Cert.SumKvRefIdeal.τ).loc Cert.SumKvRefIdeal.main_arg0))
      ∧ r.2.sem = fun _ => 0)

def quiescent_SumMix [hSumMix : Cert.SumMix.Facts] : Prop :=
  ∀ (m : (ℓ : Loc Cert.SumMix.nD Cert.SumMix.τ Cert.SumMix.sig) → Buf (Elt Bits) ℓ) (g : Dev Cert.SumMix.nD → PrngReg), Pre_SumMix m →
    θ_run (Cert.SumMix.defs (F := Bits)) (onTc (τ := Cert.SumMix.τ) (Cert.SumMix.main (F := Bits))) ⟨m, fun _ => 0, g⟩ (fun r => (∀ c : Dev Cert.SumMix.nD,
      r.2.mem ((c.tc : Thread Cert.SumMix.nD Cert.SumMix.τ).loc Cert.SumMix.main_arg0) = m ((c.tc : Thread Cert.SumMix.nD Cert.SumMix.τ).loc Cert.SumMix.main_arg0))
      ∧ r.2.sem = fun _ => 0)

def quiescent_SumMixIdeal [hSumMixIdeal : Cert.SumMixIdeal.Facts] : Prop :=
  ∀ (m : (ℓ : Loc Cert.SumMixIdeal.nD Cert.SumMixIdeal.τ Cert.SumMixIdeal.sig) → Buf (Elt Ideal) ℓ) (g : Dev Cert.SumMixIdeal.nD → PrngReg), Pre_SumMixIdeal m →
    θ_run (Cert.SumMixIdeal.defs (F := Ideal)) (onTc (τ := Cert.SumMixIdeal.τ) (Cert.SumMixIdeal.main (F := Ideal))) ⟨m, fun _ => 0, g⟩ (fun r => (∀ c : Dev Cert.SumMixIdeal.nD,
      r.2.mem ((c.tc : Thread Cert.SumMixIdeal.nD Cert.SumMixIdeal.τ).loc Cert.SumMixIdeal.main_arg0) = m ((c.tc : Thread Cert.SumMixIdeal.nD Cert.SumMixIdeal.τ).loc Cert.SumMixIdeal.main_arg0))
      ∧ r.2.sem = fun _ => 0)

def quiescent_SumMixRefIdeal [hSumMixRefIdeal : Cert.SumMixRefIdeal.Facts] : Prop :=
  ∀ (m : (ℓ : Loc Cert.SumMixRefIdeal.nD Cert.SumMixRefIdeal.τ Cert.SumMixRefIdeal.sig) → Buf (Elt Ideal) ℓ) (g : Dev Cert.SumMixRefIdeal.nD → PrngReg), Pre_SumMixRefIdeal m →
    θ_run (Cert.SumMixRefIdeal.defs (F := Ideal)) (onTc (τ := Cert.SumMixRefIdeal.τ) (Cert.SumMixRefIdeal.main (F := Ideal))) ⟨m, fun _ => 0, g⟩ (fun r => (∀ c : Dev Cert.SumMixRefIdeal.nD,
      r.2.mem ((c.tc : Thread Cert.SumMixRefIdeal.nD Cert.SumMixRefIdeal.τ).loc Cert.SumMixRefIdeal.main_arg0) = m ((c.tc : Thread Cert.SumMixRefIdeal.nD Cert.SumMixRefIdeal.τ).loc Cert.SumMixRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepKv [hStepKv : Cert.StepKv.Facts] : Prop :=
  ∀ (m : (ℓ : Loc Cert.StepKv.nD Cert.StepKv.τ Cert.StepKv.sig) → Buf (Elt Bits) ℓ) (g : Dev Cert.StepKv.nD → PrngReg), Pre_StepKv m →
    θ_run (Cert.StepKv.defs (F := Bits)) (onTc (τ := Cert.StepKv.τ) (Cert.StepKv.main (F := Bits))) ⟨m, fun _ => 0, g⟩ (fun r => (∀ c : Dev Cert.StepKv.nD,
      r.2.mem ((c.tc : Thread Cert.StepKv.nD Cert.StepKv.τ).loc Cert.StepKv.main_arg0) = m ((c.tc : Thread Cert.StepKv.nD Cert.StepKv.τ).loc Cert.StepKv.main_arg0)
      ∧ r.2.mem ((c.tc : Thread Cert.StepKv.nD Cert.StepKv.τ).loc Cert.StepKv.main_arg1) = m ((c.tc : Thread Cert.StepKv.nD Cert.StepKv.τ).loc Cert.StepKv.main_arg1)
      ∧ r.2.mem ((c.tc : Thread Cert.StepKv.nD Cert.StepKv.τ).loc Cert.StepKv.main_arg2) = m ((c.tc : Thread Cert.StepKv.nD Cert.StepKv.τ).loc Cert.StepKv.main_arg2)
      ∧ r.2.mem ((c.tc : Thread Cert.StepKv.nD Cert.StepKv.τ).loc Cert.StepKv.main_arg3) = m ((c.tc : Thread Cert.StepKv.nD Cert.StepKv.τ).loc Cert.StepKv.main_arg3))
      ∧ r.2.sem = fun _ => 0)

def quiescent_StepKvIdeal [hStepKvIdeal : Cert.StepKvIdeal.Facts] : Prop :=
  ∀ (m : (ℓ : Loc Cert.StepKvIdeal.nD Cert.StepKvIdeal.τ Cert.StepKvIdeal.sig) → Buf (Elt Ideal) ℓ) (g : Dev Cert.StepKvIdeal.nD → PrngReg), Pre_StepKvIdeal m →
    θ_run (Cert.StepKvIdeal.defs (F := Ideal)) (onTc (τ := Cert.StepKvIdeal.τ) (Cert.StepKvIdeal.main (F := Ideal))) ⟨m, fun _ => 0, g⟩ (fun r => (∀ c : Dev Cert.StepKvIdeal.nD,
      r.2.mem ((c.tc : Thread Cert.StepKvIdeal.nD Cert.StepKvIdeal.τ).loc Cert.StepKvIdeal.main_arg0) = m ((c.tc : Thread Cert.StepKvIdeal.nD Cert.StepKvIdeal.τ).loc Cert.StepKvIdeal.main_arg0)
      ∧ r.2.mem ((c.tc : Thread Cert.StepKvIdeal.nD Cert.StepKvIdeal.τ).loc Cert.StepKvIdeal.main_arg1) = m ((c.tc : Thread Cert.StepKvIdeal.nD Cert.StepKvIdeal.τ).loc Cert.StepKvIdeal.main_arg1)
      ∧ r.2.mem ((c.tc : Thread Cert.StepKvIdeal.nD Cert.StepKvIdeal.τ).loc Cert.StepKvIdeal.main_arg2) = m ((c.tc : Thread Cert.StepKvIdeal.nD Cert.StepKvIdeal.τ).loc Cert.StepKvIdeal.main_arg2)
      ∧ r.2.mem ((c.tc : Thread Cert.StepKvIdeal.nD Cert.StepKvIdeal.τ).loc Cert.StepKvIdeal.main_arg3) = m ((c.tc : Thread Cert.StepKvIdeal.nD Cert.StepKvIdeal.τ).loc Cert.StepKvIdeal.main_arg3))
      ∧ r.2.sem = fun _ => 0)

def quiescent_StepKvRefIdeal [hStepKvRefIdeal : Cert.StepKvRefIdeal.Facts] : Prop :=
  ∀ (m : (ℓ : Loc Cert.StepKvRefIdeal.nD Cert.StepKvRefIdeal.τ Cert.StepKvRefIdeal.sig) → Buf (Elt Ideal) ℓ) (g : Dev Cert.StepKvRefIdeal.nD → PrngReg), Pre_StepKvRefIdeal m →
    θ_run (Cert.StepKvRefIdeal.defs (F := Ideal)) (onTc (τ := Cert.StepKvRefIdeal.τ) (Cert.StepKvRefIdeal.main (F := Ideal))) ⟨m, fun _ => 0, g⟩ (fun r => (∀ c : Dev Cert.StepKvRefIdeal.nD,
      r.2.mem ((c.tc : Thread Cert.StepKvRefIdeal.nD Cert.StepKvRefIdeal.τ).loc Cert.StepKvRefIdeal.main_arg0) = m ((c.tc : Thread Cert.StepKvRefIdeal.nD Cert.StepKvRefIdeal.τ).loc Cert.StepKvRefIdeal.main_arg0)
      ∧ r.2.mem ((c.tc : Thread Cert.StepKvRefIdeal.nD Cert.StepKvRefIdeal.τ).loc Cert.StepKvRefIdeal.main_arg1) = m ((c.tc : Thread Cert.StepKvRefIdeal.nD Cert.StepKvRefIdeal.τ).loc Cert.StepKvRefIdeal.main_arg1)
      ∧ r.2.mem ((c.tc : Thread Cert.StepKvRefIdeal.nD Cert.StepKvRefIdeal.τ).loc Cert.StepKvRefIdeal.main_arg2) = m ((c.tc : Thread Cert.StepKvRefIdeal.nD Cert.StepKvRefIdeal.τ).loc Cert.StepKvRefIdeal.main_arg2)
      ∧ r.2.mem ((c.tc : Thread Cert.StepKvRefIdeal.nD Cert.StepKvRefIdeal.τ).loc Cert.StepKvRefIdeal.main_arg3) = m ((c.tc : Thread Cert.StepKvRefIdeal.nD Cert.StepKvRefIdeal.τ).loc Cert.StepKvRefIdeal.main_arg3))
      ∧ r.2.sem = fun _ => 0)

def quiescent_StepMix [hStepMix : Cert.StepMix.Facts] : Prop :=
  ∀ (m : (ℓ : Loc Cert.StepMix.nD Cert.StepMix.τ Cert.StepMix.sig) → Buf (Elt Bits) ℓ) (g : Dev Cert.StepMix.nD → PrngReg), Pre_StepMix m →
    θ_run (Cert.StepMix.defs (F := Bits)) (onTc (τ := Cert.StepMix.τ) (Cert.StepMix.main (F := Bits))) ⟨m, fun _ => 0, g⟩ (fun r => (∀ c : Dev Cert.StepMix.nD,
      r.2.mem ((c.tc : Thread Cert.StepMix.nD Cert.StepMix.τ).loc Cert.StepMix.main_arg0) = m ((c.tc : Thread Cert.StepMix.nD Cert.StepMix.τ).loc Cert.StepMix.main_arg0)
      ∧ r.2.mem ((c.tc : Thread Cert.StepMix.nD Cert.StepMix.τ).loc Cert.StepMix.main_arg1) = m ((c.tc : Thread Cert.StepMix.nD Cert.StepMix.τ).loc Cert.StepMix.main_arg1)
      ∧ r.2.mem ((c.tc : Thread Cert.StepMix.nD Cert.StepMix.τ).loc Cert.StepMix.main_arg2) = m ((c.tc : Thread Cert.StepMix.nD Cert.StepMix.τ).loc Cert.StepMix.main_arg2)
      ∧ r.2.mem ((c.tc : Thread Cert.StepMix.nD Cert.StepMix.τ).loc Cert.StepMix.main_arg3) = m ((c.tc : Thread Cert.StepMix.nD Cert.StepMix.τ).loc Cert.StepMix.main_arg3))
      ∧ r.2.sem = fun _ => 0)

def quiescent_StepMixIdeal [hStepMixIdeal : Cert.StepMixIdeal.Facts] : Prop :=
  ∀ (m : (ℓ : Loc Cert.StepMixIdeal.nD Cert.StepMixIdeal.τ Cert.StepMixIdeal.sig) → Buf (Elt Ideal) ℓ) (g : Dev Cert.StepMixIdeal.nD → PrngReg), Pre_StepMixIdeal m →
    θ_run (Cert.StepMixIdeal.defs (F := Ideal)) (onTc (τ := Cert.StepMixIdeal.τ) (Cert.StepMixIdeal.main (F := Ideal))) ⟨m, fun _ => 0, g⟩ (fun r => (∀ c : Dev Cert.StepMixIdeal.nD,
      r.2.mem ((c.tc : Thread Cert.StepMixIdeal.nD Cert.StepMixIdeal.τ).loc Cert.StepMixIdeal.main_arg0) = m ((c.tc : Thread Cert.StepMixIdeal.nD Cert.StepMixIdeal.τ).loc Cert.StepMixIdeal.main_arg0)
      ∧ r.2.mem ((c.tc : Thread Cert.StepMixIdeal.nD Cert.StepMixIdeal.τ).loc Cert.StepMixIdeal.main_arg1) = m ((c.tc : Thread Cert.StepMixIdeal.nD Cert.StepMixIdeal.τ).loc Cert.StepMixIdeal.main_arg1)
      ∧ r.2.mem ((c.tc : Thread Cert.StepMixIdeal.nD Cert.StepMixIdeal.τ).loc Cert.StepMixIdeal.main_arg2) = m ((c.tc : Thread Cert.StepMixIdeal.nD Cert.StepMixIdeal.τ).loc Cert.StepMixIdeal.main_arg2)
      ∧ r.2.mem ((c.tc : Thread Cert.StepMixIdeal.nD Cert.StepMixIdeal.τ).loc Cert.StepMixIdeal.main_arg3) = m ((c.tc : Thread Cert.StepMixIdeal.nD Cert.StepMixIdeal.τ).loc Cert.StepMixIdeal.main_arg3))
      ∧ r.2.sem = fun _ => 0)

def quiescent_StepMixRefIdeal [hStepMixRefIdeal : Cert.StepMixRefIdeal.Facts] : Prop :=
  ∀ (m : (ℓ : Loc Cert.StepMixRefIdeal.nD Cert.StepMixRefIdeal.τ Cert.StepMixRefIdeal.sig) → Buf (Elt Ideal) ℓ) (g : Dev Cert.StepMixRefIdeal.nD → PrngReg), Pre_StepMixRefIdeal m →
    θ_run (Cert.StepMixRefIdeal.defs (F := Ideal)) (onTc (τ := Cert.StepMixRefIdeal.τ) (Cert.StepMixRefIdeal.main (F := Ideal))) ⟨m, fun _ => 0, g⟩ (fun r => (∀ c : Dev Cert.StepMixRefIdeal.nD,
      r.2.mem ((c.tc : Thread Cert.StepMixRefIdeal.nD Cert.StepMixRefIdeal.τ).loc Cert.StepMixRefIdeal.main_arg0) = m ((c.tc : Thread Cert.StepMixRefIdeal.nD Cert.StepMixRefIdeal.τ).loc Cert.StepMixRefIdeal.main_arg0)
      ∧ r.2.mem ((c.tc : Thread Cert.StepMixRefIdeal.nD Cert.StepMixRefIdeal.τ).loc Cert.StepMixRefIdeal.main_arg1) = m ((c.tc : Thread Cert.StepMixRefIdeal.nD Cert.StepMixRefIdeal.τ).loc Cert.StepMixRefIdeal.main_arg1)
      ∧ r.2.mem ((c.tc : Thread Cert.StepMixRefIdeal.nD Cert.StepMixRefIdeal.τ).loc Cert.StepMixRefIdeal.main_arg2) = m ((c.tc : Thread Cert.StepMixRefIdeal.nD Cert.StepMixRefIdeal.τ).loc Cert.StepMixRefIdeal.main_arg2)
      ∧ r.2.mem ((c.tc : Thread Cert.StepMixRefIdeal.nD Cert.StepMixRefIdeal.τ).loc Cert.StepMixRefIdeal.main_arg3) = m ((c.tc : Thread Cert.StepMixRefIdeal.nD Cert.StepMixRefIdeal.τ).loc Cert.StepMixRefIdeal.main_arg3))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_StepUpRefIdeal [hStepUpRefIdeal : Cert.StepUpRefIdeal.Facts] : Prop :=
  ∀ (m : (ℓ : Loc Cert.StepUpRefIdeal.nD Cert.StepUpRefIdeal.τ Cert.StepUpRefIdeal.sig) → Buf (Elt Ideal) ℓ) (g : Dev Cert.StepUpRefIdeal.nD → PrngReg), Pre_StepUpRefIdeal m →
    θ_run (Cert.StepUpRefIdeal.defs (F := Ideal)) (onTc (τ := Cert.StepUpRefIdeal.τ) (Cert.StepUpRefIdeal.main (F := Ideal))) ⟨m, fun _ => 0, g⟩ (fun r => (∀ c : Dev Cert.StepUpRefIdeal.nD,
      r.2.mem ((c.tc : Thread Cert.StepUpRefIdeal.nD Cert.StepUpRefIdeal.τ).loc Cert.StepUpRefIdeal.main_arg0) = m ((c.tc : Thread Cert.StepUpRefIdeal.nD Cert.StepUpRefIdeal.τ).loc Cert.StepUpRefIdeal.main_arg0)
      ∧ r.2.mem ((c.tc : Thread Cert.StepUpRefIdeal.nD Cert.StepUpRefIdeal.τ).loc Cert.StepUpRefIdeal.main_arg1) = m ((c.tc : Thread Cert.StepUpRefIdeal.nD Cert.StepUpRefIdeal.τ).loc Cert.StepUpRefIdeal.main_arg1)
      ∧ r.2.mem ((c.tc : Thread Cert.StepUpRefIdeal.nD Cert.StepUpRefIdeal.τ).loc Cert.StepUpRefIdeal.main_arg2) = m ((c.tc : Thread Cert.StepUpRefIdeal.nD Cert.StepUpRefIdeal.τ).loc Cert.StepUpRefIdeal.main_arg2)
      ∧ r.2.mem ((c.tc : Thread Cert.StepUpRefIdeal.nD Cert.StepUpRefIdeal.τ).loc Cert.StepUpRefIdeal.main_arg3) = m ((c.tc : Thread Cert.StepUpRefIdeal.nD Cert.StepUpRefIdeal.τ).loc Cert.StepUpRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ r.2.sem = fun _ => 0)

def quiescent_NormDxRefIdeal [hNormDxRefIdeal : Cert.NormDxRefIdeal.Facts] : Prop :=
  ∀ (m : (ℓ : Loc Cert.NormDxRefIdeal.nD Cert.NormDxRefIdeal.τ Cert.NormDxRefIdeal.sig) → Buf (Elt Ideal) ℓ) (g : Dev Cert.NormDxRefIdeal.nD → PrngReg), Pre_NormDxRefIdeal m →
    θ_run (Cert.NormDxRefIdeal.defs (F := Ideal)) (onTc (τ := Cert.NormDxRefIdeal.τ) (Cert.NormDxRefIdeal.main (F := Ideal))) ⟨m, fun _ => 0, g⟩ (fun r => (∀ c : Dev Cert.NormDxRefIdeal.nD,
      r.2.mem ((c.tc : Thread Cert.NormDxRefIdeal.nD Cert.NormDxRefIdeal.τ).loc Cert.NormDxRefIdeal.main_arg0) = m ((c.tc : Thread Cert.NormDxRefIdeal.nD Cert.NormDxRefIdeal.τ).loc Cert.NormDxRefIdeal.main_arg0)
      ∧ r.2.mem ((c.tc : Thread Cert.NormDxRefIdeal.nD Cert.NormDxRefIdeal.τ).loc Cert.NormDxRefIdeal.main_arg1) = m ((c.tc : Thread Cert.NormDxRefIdeal.nD Cert.NormDxRefIdeal.τ).loc Cert.NormDxRefIdeal.main_arg1)
      ∧ r.2.mem ((c.tc : Thread Cert.NormDxRefIdeal.nD Cert.NormDxRefIdeal.τ).loc Cert.NormDxRefIdeal.main_arg2) = m ((c.tc : Thread Cert.NormDxRefIdeal.nD Cert.NormDxRefIdeal.τ).loc Cert.NormDxRefIdeal.main_arg2)
      ∧ r.2.mem ((c.tc : Thread Cert.NormDxRefIdeal.nD Cert.NormDxRefIdeal.τ).loc Cert.NormDxRefIdeal.main_arg3) = m ((c.tc : Thread Cert.NormDxRefIdeal.nD Cert.NormDxRefIdeal.τ).loc Cert.NormDxRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_NormTwo [hNormTwo : Cert.NormTwo.Facts] : Prop :=
  ∀ (m : (ℓ : Loc Cert.NormTwo.nD Cert.NormTwo.τ Cert.NormTwo.sig) → Buf (Elt Bits) ℓ) (g : Dev Cert.NormTwo.nD → PrngReg), Pre_NormTwo m →
    θ_run (Cert.NormTwo.defs (F := Bits)) (onTc (τ := Cert.NormTwo.τ) (Cert.NormTwo.main (F := Bits))) ⟨m, fun _ => 0, g⟩ (fun r => (∀ c : Dev Cert.NormTwo.nD,
      r.2.mem ((c.tc : Thread Cert.NormTwo.nD Cert.NormTwo.τ).loc Cert.NormTwo.main_arg0) = m ((c.tc : Thread Cert.NormTwo.nD Cert.NormTwo.τ).loc Cert.NormTwo.main_arg0)
      ∧ r.2.mem ((c.tc : Thread Cert.NormTwo.nD Cert.NormTwo.τ).loc Cert.NormTwo.main_arg1) = m ((c.tc : Thread Cert.NormTwo.nD Cert.NormTwo.τ).loc Cert.NormTwo.main_arg1)
      ∧ r.2.mem ((c.tc : Thread Cert.NormTwo.nD Cert.NormTwo.τ).loc Cert.NormTwo.main_arg2) = m ((c.tc : Thread Cert.NormTwo.nD Cert.NormTwo.τ).loc Cert.NormTwo.main_arg2))
      ∧ r.2.sem = fun _ => 0)

def quiescent_NormTwoIdeal [hNormTwoIdeal : Cert.NormTwoIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg), Pre_NormTwoIdeal m →
    θ_run (Cert.NormTwoIdeal.defs (F := Ideal)) (onTc (τ := Cert.NormTwoIdeal.τ) (Cert.NormTwoIdeal.main (F := Ideal))) ⟨m, fun _ => 0, g⟩ (fun r => (∀ c : Dev Cert.NormTwoIdeal.nD,
      r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
      ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
      ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ r.2.sem = fun _ => 0)

def quiescent_NormTwoRefIdeal [hNormTwoRefIdeal : Cert.NormTwoRefIdeal.Facts] : Prop :=
  ∀ (m : (ℓ : Loc Cert.NormTwoRefIdeal.nD Cert.NormTwoRefIdeal.τ Cert.NormTwoRefIdeal.sig) → Buf (Elt Ideal) ℓ) (g : Dev Cert.NormTwoRefIdeal.nD → PrngReg), Pre_NormTwoRefIdeal m →
    θ_run (Cert.NormTwoRefIdeal.defs (F := Ideal)) (onTc (τ := Cert.NormTwoRefIdeal.τ) (Cert.NormTwoRefIdeal.main (F := Ideal))) ⟨m, fun _ => 0, g⟩ (fun r => (∀ c : Dev Cert.NormTwoRefIdeal.nD,
      r.2.mem ((c.tc : Thread Cert.NormTwoRefIdeal.nD Cert.NormTwoRefIdeal.τ).loc Cert.NormTwoRefIdeal.main_arg0) = m ((c.tc : Thread Cert.NormTwoRefIdeal.nD Cert.NormTwoRefIdeal.τ).loc Cert.NormTwoRefIdeal.main_arg0)
      ∧ r.2.mem ((c.tc : Thread Cert.NormTwoRefIdeal.nD Cert.NormTwoRefIdeal.τ).loc Cert.NormTwoRefIdeal.main_arg1) = m ((c.tc : Thread Cert.NormTwoRefIdeal.nD Cert.NormTwoRefIdeal.τ).loc Cert.NormTwoRefIdeal.main_arg1)
      ∧ r.2.mem ((c.tc : Thread Cert.NormTwoRefIdeal.nD Cert.NormTwoRefIdeal.τ).loc Cert.NormTwoRefIdeal.main_arg2) = m ((c.tc : Thread Cert.NormTwoRefIdeal.nD Cert.NormTwoRefIdeal.τ).loc Cert.NormTwoRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_StepOut_StepOutIdeal : Prop :=
  IdealRules.named_const.Statement Cert.StepOutIdeal.κ "c1" .f32 0x3FC48605#32 ((8388608 / 5463681 : ℝ) : EReal)
  ∧ IdealRules.named_const.Statement Cert.StepOutIdeal.κ "c2" .f32 0x42C8E6D3#32 ((268435456 / 2672307 : ℝ) : EReal)

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v4_0)) (v1 : (c : Dev Cert.StepOutIdeal.nD) → Buf (Elt Ideal) ((c.tc : Thread Cert.StepOutIdeal.nD Cert.StepOutIdeal.τ).loc Cert.StepOutIdeal.main_v4_1)) (v2 : (c : Dev Cert.StepOutIdeal.nD) → Buf (Elt Ideal) ((c.tc : Thread Cert.StepOutIdeal.nD Cert.StepOutIdeal.τ).loc Cert.StepOutIdeal.main_v4_2)) (v3 : (c : Dev Cert.StepOutIdeal.nD) → Buf (Elt Ideal) ((c.tc : Thread Cert.StepOutIdeal.nD Cert.StepOutIdeal.τ).loc Cert.StepOutIdeal.main_v4_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v4_0) = v0 c
          ∧ r.2.mem ((c.tc : Thread Cert.StepOutIdeal.nD Cert.StepOutIdeal.τ).loc Cert.StepOutIdeal.main_v4_1) = v1 c
          ∧ r.2.mem ((c.tc : Thread Cert.StepOutIdeal.nD Cert.StepOutIdeal.τ).loc Cert.StepOutIdeal.main_v4_2) = v2 c
          ∧ r.2.mem ((c.tc : Thread Cert.StepOutIdeal.nD Cert.StepOutIdeal.τ).loc Cert.StepOutIdeal.main_v4_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v2) = v0 c
          ∧ r.2.mem ((c.tc : Thread Cert.StepOutRefIdeal.nD Cert.StepOutRefIdeal.τ).loc Cert.StepOutRefIdeal.main_v29) = v1 c
          ∧ r.2.mem ((c.tc : Thread Cert.StepOutRefIdeal.nD Cert.StepOutRefIdeal.τ).loc Cert.StepOutRefIdeal.main_v10) = v2 c
          ∧ r.2.mem ((c.tc : Thread Cert.StepOutRefIdeal.nD Cert.StepOutRefIdeal.τ).loc Cert.StepOutRefIdeal.main_v16) = v3 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepMem_StepMemIdeal : Prop :=
  IdealRules.named_const.Statement Cert.StepMemIdeal.κ "c1" .f32 0x3FC48605#32 ((8388608 / 5463681 : ℝ) : EReal)
  ∧ IdealRules.named_const.Statement Cert.StepMemIdeal.κ "c2" .f32 0x42C8E6D3#32 ((268435456 / 2672307 : ℝ) : EReal)

def algebraic_StepMemIdeal_StepMemRefIdeal [hStepMemIdeal : Cert.StepMemIdeal.Facts] [hStepMemRefIdeal : Cert.StepMemRefIdeal.Facts] : Prop :=
  ∀ (m : (ℓ : Loc Cert.StepMemIdeal.nD Cert.StepMemIdeal.τ Cert.StepMemIdeal.sig) → Buf (Elt Ideal) ℓ) (g : Dev Cert.StepMemIdeal.nD → PrngReg)
    (m' : (ℓ : Loc Cert.StepMemRefIdeal.nD Cert.StepMemRefIdeal.τ Cert.StepMemRefIdeal.sig) → Buf (Elt Ideal) ℓ) (g' : Dev Cert.StepMemRefIdeal.nD → PrngReg), Pre_StepMemIdeal m →
    (∀ c : Dev Cert.StepMemIdeal.nD,
      m' ((c.tc : Thread Cert.StepMemRefIdeal.nD Cert.StepMemRefIdeal.τ).loc Cert.StepMemRefIdeal.main_arg0) = m ((c.tc : Thread Cert.StepMemIdeal.nD Cert.StepMemIdeal.τ).loc Cert.StepMemIdeal.main_arg0)
      ∧ m' ((c.tc : Thread Cert.StepMemRefIdeal.nD Cert.StepMemRefIdeal.τ).loc Cert.StepMemRefIdeal.main_arg1) = m ((c.tc : Thread Cert.StepMemIdeal.nD Cert.StepMemIdeal.τ).loc Cert.StepMemIdeal.main_arg1)
      ∧ m' ((c.tc : Thread Cert.StepMemRefIdeal.nD Cert.StepMemRefIdeal.τ).loc Cert.StepMemRefIdeal.main_arg2) = m ((c.tc : Thread Cert.StepMemIdeal.nD Cert.StepMemIdeal.τ).loc Cert.StepMemIdeal.main_arg2)
      ∧ m' ((c.tc : Thread Cert.StepMemRefIdeal.nD Cert.StepMemRefIdeal.τ).loc Cert.StepMemRefIdeal.main_arg3) = m ((c.tc : Thread Cert.StepMemIdeal.nD Cert.StepMemIdeal.τ).loc Cert.StepMemIdeal.main_arg3)) →
    ∃ (v0 : (c : Dev Cert.StepMemIdeal.nD) → Buf (Elt Ideal) ((c.tc : Thread Cert.StepMemIdeal.nD Cert.StepMemIdeal.τ).loc Cert.StepMemIdeal.main_v4_0)) (v1 : (c : Dev Cert.StepMemIdeal.nD) → Buf (Elt Ideal) ((c.tc : Thread Cert.StepMemIdeal.nD Cert.StepMemIdeal.τ).loc Cert.StepMemIdeal.main_v4_1)) (v2 : (c : Dev Cert.StepMemIdeal.nD) → Buf (Elt Ideal) ((c.tc : Thread Cert.StepMemIdeal.nD Cert.StepMemIdeal.τ).loc Cert.StepMemIdeal.main_v4_2)) (v3 : (c : Dev Cert.StepMemIdeal.nD) → Buf (Elt Ideal) ((c.tc : Thread Cert.StepMemIdeal.nD Cert.StepMemIdeal.τ).loc Cert.StepMemIdeal.main_v4_3)),
      θ_run (Cert.StepMemIdeal.defs (F := Ideal)) (onTc (τ := Cert.StepMemIdeal.τ) (Cert.StepMemIdeal.main (F := Ideal))) ⟨m, fun _ => 0, g⟩ (fun r => ∀ c : Dev Cert.StepMemIdeal.nD,
          r.2.mem ((c.tc : Thread Cert.StepMemIdeal.nD Cert.StepMemIdeal.τ).loc Cert.StepMemIdeal.main_v4_0) = v0 c
          ∧ r.2.mem ((c.tc : Thread Cert.StepMemIdeal.nD Cert.StepMemIdeal.τ).loc Cert.StepMemIdeal.main_v4_1) = v1 c
          ∧ r.2.mem ((c.tc : Thread Cert.StepMemIdeal.nD Cert.StepMemIdeal.τ).loc Cert.StepMemIdeal.main_v4_2) = v2 c
          ∧ r.2.mem ((c.tc : Thread Cert.StepMemIdeal.nD Cert.StepMemIdeal.τ).loc Cert.StepMemIdeal.main_v4_3) = v3 c
          ∧ r.2.mem ((c.tc : Thread Cert.StepMemIdeal.nD Cert.StepMemIdeal.τ).loc Cert.StepMemIdeal.main_arg0) = m ((c.tc : Thread Cert.StepMemIdeal.nD Cert.StepMemIdeal.τ).loc Cert.StepMemIdeal.main_arg0)
          ∧ r.2.mem ((c.tc : Thread Cert.StepMemIdeal.nD Cert.StepMemIdeal.τ).loc Cert.StepMemIdeal.main_arg1) = m ((c.tc : Thread Cert.StepMemIdeal.nD Cert.StepMemIdeal.τ).loc Cert.StepMemIdeal.main_arg1)
          ∧ r.2.mem ((c.tc : Thread Cert.StepMemIdeal.nD Cert.StepMemIdeal.τ).loc Cert.StepMemIdeal.main_arg2) = m ((c.tc : Thread Cert.StepMemIdeal.nD Cert.StepMemIdeal.τ).loc Cert.StepMemIdeal.main_arg2)
          ∧ r.2.mem ((c.tc : Thread Cert.StepMemIdeal.nD Cert.StepMemIdeal.τ).loc Cert.StepMemIdeal.main_arg3) = m ((c.tc : Thread Cert.StepMemIdeal.nD Cert.StepMemIdeal.τ).loc Cert.StepMemIdeal.main_arg3))
      ∧ θ_run (Cert.StepMemRefIdeal.defs (F := Ideal)) (onTc (τ := Cert.StepMemRefIdeal.τ) (Cert.StepMemRefIdeal.main (F := Ideal))) ⟨m', fun _ => 0, g'⟩ (fun r => ∀ c : Dev Cert.StepMemRefIdeal.nD,
          r.2.mem ((c.tc : Thread Cert.StepMemRefIdeal.nD Cert.StepMemRefIdeal.τ).loc Cert.StepMemRefIdeal.main_v2) = v0 c
          ∧ r.2.mem ((c.tc : Thread Cert.StepMemRefIdeal.nD Cert.StepMemRefIdeal.τ).loc Cert.StepMemRefIdeal.main_v29) = v1 c
          ∧ r.2.mem ((c.tc : Thread Cert.StepMemRefIdeal.nD Cert.StepMemRefIdeal.τ).loc Cert.StepMemRefIdeal.main_v10) = v2 c
          ∧ r.2.mem ((c.tc : Thread Cert.StepMemRefIdeal.nD Cert.StepMemRefIdeal.τ).loc Cert.StepMemRefIdeal.main_v16) = v3 c
          ∧ r.2.mem ((c.tc : Thread Cert.StepMemRefIdeal.nD Cert.StepMemRefIdeal.τ).loc Cert.StepMemRefIdeal.main_arg0) = m' ((c.tc : Thread Cert.StepMemRefIdeal.nD Cert.StepMemRefIdeal.τ).loc Cert.StepMemRefIdeal.main_arg0)
          ∧ r.2.mem ((c.tc : Thread Cert.StepMemRefIdeal.nD Cert.StepMemRefIdeal.τ).loc Cert.StepMemRefIdeal.main_arg1) = m' ((c.tc : Thread Cert.StepMemRefIdeal.nD Cert.StepMemRefIdeal.τ).loc Cert.StepMemRefIdeal.main_arg1)
          ∧ r.2.mem ((c.tc : Thread Cert.StepMemRefIdeal.nD Cert.StepMemRefIdeal.τ).loc Cert.StepMemRefIdeal.main_arg2) = m' ((c.tc : Thread Cert.StepMemRefIdeal.nD Cert.StepMemRefIdeal.τ).loc Cert.StepMemRefIdeal.main_arg2)
          ∧ r.2.mem ((c.tc : Thread Cert.StepMemRefIdeal.nD Cert.StepMemRefIdeal.τ).loc Cert.StepMemRefIdeal.main_arg3) = m' ((c.tc : Thread Cert.StepMemRefIdeal.nD Cert.StepMemRefIdeal.τ).loc Cert.StepMemRefIdeal.main_arg3))

def preserves_StepDown_StepDownIdeal : Prop :=
  IdealRules.named_const.Statement Cert.StepDownIdeal.κ "c1" .f32 0x3FC48605#32 ((8388608 / 5463681 : ℝ) : EReal)
  ∧ IdealRules.named_const.Statement Cert.StepDownIdeal.κ "c2" .f32 0x42C8E6D3#32 ((268435456 / 2672307 : ℝ) : EReal)

def algebraic_StepDownIdeal_StepDownRefIdeal [hStepDownIdeal : Cert.StepDownIdeal.Facts] [hStepDownRefIdeal : Cert.StepDownRefIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownRefIdeal.nD Cert.StepDownRefIdeal.τ Cert.StepDownRefIdeal.sig) → Buf (Elt Ideal) ℓ) (g' : Dev Cert.StepDownRefIdeal.nD → PrngReg), Pre_StepDownIdeal m →
    (∀ c : Dev Cert.StepDownIdeal.nD,
      m' ((c.tc : Thread Cert.StepDownRefIdeal.nD Cert.StepDownRefIdeal.τ).loc Cert.StepDownRefIdeal.main_arg0) = m ((c.tc : Thread Cert.StepDownIdeal.nD Cert.StepDownIdeal.τ).loc Cert.StepDownIdeal.main_arg0)
      ∧ m' ((c.tc : Thread Cert.StepDownRefIdeal.nD Cert.StepDownRefIdeal.τ).loc Cert.StepDownRefIdeal.main_arg1) = m ((c.tc : Thread Cert.StepDownIdeal.nD Cert.StepDownIdeal.τ).loc Cert.StepDownIdeal.main_arg1)
      ∧ m' ((c.tc : Thread Cert.StepDownRefIdeal.nD Cert.StepDownRefIdeal.τ).loc Cert.StepDownRefIdeal.main_arg2) = m ((c.tc : Thread Cert.StepDownIdeal.nD Cert.StepDownIdeal.τ).loc Cert.StepDownIdeal.main_arg2)
      ∧ m' ((c.tc : Thread Cert.StepDownRefIdeal.nD Cert.StepDownRefIdeal.τ).loc Cert.StepDownRefIdeal.main_arg3) = m ((c.tc : Thread Cert.StepDownIdeal.nD Cert.StepDownIdeal.τ).loc Cert.StepDownIdeal.main_arg3)) →
    ∃ (v0 : (c : Dev Cert.StepDownIdeal.nD) → Buf (Elt Ideal) ((c.tc : Thread Cert.StepDownIdeal.nD Cert.StepDownIdeal.τ).loc Cert.StepDownIdeal.main_v4_0)) (v1 : (c : Dev Cert.StepDownIdeal.nD) → Buf (Elt Ideal) ((c.tc : Thread Cert.StepDownIdeal.nD Cert.StepDownIdeal.τ).loc Cert.StepDownIdeal.main_v4_1)) (v2 : (c : Dev Cert.StepDownIdeal.nD) → Buf (Elt Ideal) ((c.tc : Thread Cert.StepDownIdeal.nD Cert.StepDownIdeal.τ).loc Cert.StepDownIdeal.main_v4_2)) (v3 : (c : Dev Cert.StepDownIdeal.nD) → Buf (Elt Ideal) ((c.tc : Thread Cert.StepDownIdeal.nD Cert.StepDownIdeal.τ).loc Cert.StepDownIdeal.main_v4_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v4_0) = v0 c
          ∧ r.2.mem ((c.tc : Thread Cert.StepDownIdeal.nD Cert.StepDownIdeal.τ).loc Cert.StepDownIdeal.main_v4_1) = v1 c
          ∧ r.2.mem ((c.tc : Thread Cert.StepDownIdeal.nD Cert.StepDownIdeal.τ).loc Cert.StepDownIdeal.main_v4_2) = v2 c
          ∧ r.2.mem ((c.tc : Thread Cert.StepDownIdeal.nD Cert.StepDownIdeal.τ).loc Cert.StepDownIdeal.main_v4_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ θ_run (Cert.StepDownRefIdeal.defs (F := Ideal)) (onTc (τ := Cert.StepDownRefIdeal.τ) (Cert.StepDownRefIdeal.main (F := Ideal))) ⟨m', fun _ => 0, g'⟩ (fun r => ∀ c : Dev Cert.StepDownRefIdeal.nD,
          r.2.mem ((c.tc : Thread Cert.StepDownRefIdeal.nD Cert.StepDownRefIdeal.τ).loc Cert.StepDownRefIdeal.main_v2) = v0 c
          ∧ r.2.mem ((c.tc : Thread Cert.StepDownRefIdeal.nD Cert.StepDownRefIdeal.τ).loc Cert.StepDownRefIdeal.main_v29) = v1 c
          ∧ r.2.mem ((c.tc : Thread Cert.StepDownRefIdeal.nD Cert.StepDownRefIdeal.τ).loc Cert.StepDownRefIdeal.main_v10) = v2 c
          ∧ r.2.mem ((c.tc : Thread Cert.StepDownRefIdeal.nD Cert.StepDownRefIdeal.τ).loc Cert.StepDownRefIdeal.main_v16) = v3 c
          ∧ r.2.mem ((c.tc : Thread Cert.StepDownRefIdeal.nD Cert.StepDownRefIdeal.τ).loc Cert.StepDownRefIdeal.main_arg0) = m' ((c.tc : Thread Cert.StepDownRefIdeal.nD Cert.StepDownRefIdeal.τ).loc Cert.StepDownRefIdeal.main_arg0)
          ∧ r.2.mem ((c.tc : Thread Cert.StepDownRefIdeal.nD Cert.StepDownRefIdeal.τ).loc Cert.StepDownRefIdeal.main_arg1) = m' ((c.tc : Thread Cert.StepDownRefIdeal.nD Cert.StepDownRefIdeal.τ).loc Cert.StepDownRefIdeal.main_arg1)
          ∧ r.2.mem ((c.tc : Thread Cert.StepDownRefIdeal.nD Cert.StepDownRefIdeal.τ).loc Cert.StepDownRefIdeal.main_arg2) = m' ((c.tc : Thread Cert.StepDownRefIdeal.nD Cert.StepDownRefIdeal.τ).loc Cert.StepDownRefIdeal.main_arg2)
          ∧ r.2.mem ((c.tc : Thread Cert.StepDownRefIdeal.nD Cert.StepDownRefIdeal.τ).loc Cert.StepDownRefIdeal.main_arg3) = m' ((c.tc : Thread Cert.StepDownRefIdeal.nD Cert.StepDownRefIdeal.τ).loc Cert.StepDownRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v1)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v1) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumKv_SumKvIdeal : Prop :=
  True

def algebraic_SumKvIdeal_SumKvRefIdeal [hSumKvIdeal : Cert.SumKvIdeal.Facts] [hSumKvRefIdeal : Cert.SumKvRefIdeal.Facts] : Prop :=
  ∀ (m : (ℓ : Loc Cert.SumKvIdeal.nD Cert.SumKvIdeal.τ Cert.SumKvIdeal.sig) → Buf (Elt Ideal) ℓ) (g : Dev Cert.SumKvIdeal.nD → PrngReg)
    (m' : (ℓ : Loc Cert.SumKvRefIdeal.nD Cert.SumKvRefIdeal.τ Cert.SumKvRefIdeal.sig) → Buf (Elt Ideal) ℓ) (g' : Dev Cert.SumKvRefIdeal.nD → PrngReg), Pre_SumKvIdeal m →
    (∀ c : Dev Cert.SumKvIdeal.nD,
      m' ((c.tc : Thread Cert.SumKvRefIdeal.nD Cert.SumKvRefIdeal.τ).loc Cert.SumKvRefIdeal.main_arg0) = m ((c.tc : Thread Cert.SumKvIdeal.nD Cert.SumKvIdeal.τ).loc Cert.SumKvIdeal.main_arg0)) →
    ∃ (v0 : (c : Dev Cert.SumKvIdeal.nD) → Buf (Elt Ideal) ((c.tc : Thread Cert.SumKvIdeal.nD Cert.SumKvIdeal.τ).loc Cert.SumKvIdeal.main_v1)),
      θ_run (Cert.SumKvIdeal.defs (F := Ideal)) (onTc (τ := Cert.SumKvIdeal.τ) (Cert.SumKvIdeal.main (F := Ideal))) ⟨m, fun _ => 0, g⟩ (fun r => ∀ c : Dev Cert.SumKvIdeal.nD,
          r.2.mem ((c.tc : Thread Cert.SumKvIdeal.nD Cert.SumKvIdeal.τ).loc Cert.SumKvIdeal.main_v1) = v0 c
          ∧ r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0))
      ∧ θ_run (Cert.SumKvRefIdeal.defs (F := Ideal)) (onTc (τ := Cert.SumKvRefIdeal.τ) (Cert.SumKvRefIdeal.main (F := Ideal))) ⟨m', fun _ => 0, g'⟩ (fun r => ∀ c : Dev Cert.SumKvRefIdeal.nD,
          r.2.mem ((c.tc : Thread Cert.SumKvRefIdeal.nD Cert.SumKvRefIdeal.τ).loc Cert.SumKvRefIdeal.main_v2) = v0 c
          ∧ r.2.mem ((c.tc : Thread Cert.SumKvRefIdeal.nD Cert.SumKvRefIdeal.τ).loc Cert.SumKvRefIdeal.main_arg0) = m' ((c.tc : Thread Cert.SumKvRefIdeal.nD Cert.SumKvRefIdeal.τ).loc Cert.SumKvRefIdeal.main_arg0))

def preserves_SumMix_SumMixIdeal : Prop :=
  True

def algebraic_SumMixIdeal_SumMixRefIdeal [hSumMixIdeal : Cert.SumMixIdeal.Facts] [hSumMixRefIdeal : Cert.SumMixRefIdeal.Facts] : Prop :=
  ∀ (m : (ℓ : Loc Cert.SumMixIdeal.nD Cert.SumMixIdeal.τ Cert.SumMixIdeal.sig) → Buf (Elt Ideal) ℓ) (g : Dev Cert.SumMixIdeal.nD → PrngReg)
    (m' : (ℓ : Loc Cert.SumMixRefIdeal.nD Cert.SumMixRefIdeal.τ Cert.SumMixRefIdeal.sig) → Buf (Elt Ideal) ℓ) (g' : Dev Cert.SumMixRefIdeal.nD → PrngReg), Pre_SumMixIdeal m →
    (∀ c : Dev Cert.SumMixIdeal.nD,
      m' ((c.tc : Thread Cert.SumMixRefIdeal.nD Cert.SumMixRefIdeal.τ).loc Cert.SumMixRefIdeal.main_arg0) = m ((c.tc : Thread Cert.SumMixIdeal.nD Cert.SumMixIdeal.τ).loc Cert.SumMixIdeal.main_arg0)) →
    ∃ (v0 : (c : Dev Cert.SumMixIdeal.nD) → Buf (Elt Ideal) ((c.tc : Thread Cert.SumMixIdeal.nD Cert.SumMixIdeal.τ).loc Cert.SumMixIdeal.main_v1)),
      θ_run (Cert.SumMixIdeal.defs (F := Ideal)) (onTc (τ := Cert.SumMixIdeal.τ) (Cert.SumMixIdeal.main (F := Ideal))) ⟨m, fun _ => 0, g⟩ (fun r => ∀ c : Dev Cert.SumMixIdeal.nD,
          r.2.mem ((c.tc : Thread Cert.SumMixIdeal.nD Cert.SumMixIdeal.τ).loc Cert.SumMixIdeal.main_v1) = v0 c
          ∧ r.2.mem ((c.tc : Thread Cert.SumMixIdeal.nD Cert.SumMixIdeal.τ).loc Cert.SumMixIdeal.main_arg0) = m ((c.tc : Thread Cert.SumMixIdeal.nD Cert.SumMixIdeal.τ).loc Cert.SumMixIdeal.main_arg0))
      ∧ θ_run (Cert.SumMixRefIdeal.defs (F := Ideal)) (onTc (τ := Cert.SumMixRefIdeal.τ) (Cert.SumMixRefIdeal.main (F := Ideal))) ⟨m', fun _ => 0, g'⟩ (fun r => ∀ c : Dev Cert.SumMixRefIdeal.nD,
          r.2.mem ((c.tc : Thread Cert.SumMixRefIdeal.nD Cert.SumMixRefIdeal.τ).loc Cert.SumMixRefIdeal.main_v2) = v0 c
          ∧ r.2.mem ((c.tc : Thread Cert.SumMixRefIdeal.nD Cert.SumMixRefIdeal.τ).loc Cert.SumMixRefIdeal.main_arg0) = m' ((c.tc : Thread Cert.SumMixRefIdeal.nD Cert.SumMixRefIdeal.τ).loc Cert.SumMixRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v1)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v1) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v2) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_StepIn_StepInIdeal : Prop :=
  IdealRules.named_const.Statement Cert.StepInIdeal.κ "c1" .f32 0x3FC48605#32 ((8388608 / 5463681 : ℝ) : EReal)
  ∧ IdealRules.named_const.Statement Cert.StepInIdeal.κ "c2" .f32 0x42C8E6D3#32 ((268435456 / 2672307 : ℝ) : EReal)

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v5_0)) (v1 : (c : Dev Cert.StepInIdeal.nD) → Buf (Elt Ideal) ((c.tc : Thread Cert.StepInIdeal.nD Cert.StepInIdeal.τ).loc Cert.StepInIdeal.main_v5_1)) (v2 : (c : Dev Cert.StepInIdeal.nD) → Buf (Elt Ideal) ((c.tc : Thread Cert.StepInIdeal.nD Cert.StepInIdeal.τ).loc Cert.StepInIdeal.main_v5_2)) (v3 : (c : Dev Cert.StepInIdeal.nD) → Buf (Elt Ideal) ((c.tc : Thread Cert.StepInIdeal.nD Cert.StepInIdeal.τ).loc Cert.StepInIdeal.main_v5_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v5_0) = v0 c
          ∧ r.2.mem ((c.tc : Thread Cert.StepInIdeal.nD Cert.StepInIdeal.τ).loc Cert.StepInIdeal.main_v5_1) = v1 c
          ∧ r.2.mem ((c.tc : Thread Cert.StepInIdeal.nD Cert.StepInIdeal.τ).loc Cert.StepInIdeal.main_v5_2) = v2 c
          ∧ r.2.mem ((c.tc : Thread Cert.StepInIdeal.nD Cert.StepInIdeal.τ).loc Cert.StepInIdeal.main_v5_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v1) = v0 c
          ∧ r.2.mem ((c.tc : Thread Cert.StepInRefIdeal.nD Cert.StepInRefIdeal.τ).loc Cert.StepInRefIdeal.main_v28) = v1 c
          ∧ r.2.mem ((c.tc : Thread Cert.StepInRefIdeal.nD Cert.StepInRefIdeal.τ).loc Cert.StepInRefIdeal.main_v9) = v2 c
          ∧ r.2.mem ((c.tc : Thread Cert.StepInRefIdeal.nD Cert.StepInRefIdeal.τ).loc Cert.StepInRefIdeal.main_v15) = v3 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepKv_StepKvIdeal : Prop :=
  IdealRules.named_const.Statement Cert.StepKvIdeal.κ "c1" .f32 0x3FC48605#32 ((8388608 / 5463681 : ℝ) : EReal)
  ∧ IdealRules.named_const.Statement Cert.StepKvIdeal.κ "c2" .f32 0x42C8E6D3#32 ((268435456 / 2672307 : ℝ) : EReal)

def algebraic_StepKvIdeal_StepKvRefIdeal [hStepKvIdeal : Cert.StepKvIdeal.Facts] [hStepKvRefIdeal : Cert.StepKvRefIdeal.Facts] : Prop :=
  ∀ (m : (ℓ : Loc Cert.StepKvIdeal.nD Cert.StepKvIdeal.τ Cert.StepKvIdeal.sig) → Buf (Elt Ideal) ℓ) (g : Dev Cert.StepKvIdeal.nD → PrngReg)
    (m' : (ℓ : Loc Cert.StepKvRefIdeal.nD Cert.StepKvRefIdeal.τ Cert.StepKvRefIdeal.sig) → Buf (Elt Ideal) ℓ) (g' : Dev Cert.StepKvRefIdeal.nD → PrngReg), Pre_StepKvIdeal m →
    (∀ c : Dev Cert.StepKvIdeal.nD,
      m' ((c.tc : Thread Cert.StepKvRefIdeal.nD Cert.StepKvRefIdeal.τ).loc Cert.StepKvRefIdeal.main_arg0) = m ((c.tc : Thread Cert.StepKvIdeal.nD Cert.StepKvIdeal.τ).loc Cert.StepKvIdeal.main_arg0)
      ∧ m' ((c.tc : Thread Cert.StepKvRefIdeal.nD Cert.StepKvRefIdeal.τ).loc Cert.StepKvRefIdeal.main_arg1) = m ((c.tc : Thread Cert.StepKvIdeal.nD Cert.StepKvIdeal.τ).loc Cert.StepKvIdeal.main_arg1)
      ∧ m' ((c.tc : Thread Cert.StepKvRefIdeal.nD Cert.StepKvRefIdeal.τ).loc Cert.StepKvRefIdeal.main_arg2) = m ((c.tc : Thread Cert.StepKvIdeal.nD Cert.StepKvIdeal.τ).loc Cert.StepKvIdeal.main_arg2)
      ∧ m' ((c.tc : Thread Cert.StepKvRefIdeal.nD Cert.StepKvRefIdeal.τ).loc Cert.StepKvRefIdeal.main_arg3) = m ((c.tc : Thread Cert.StepKvIdeal.nD Cert.StepKvIdeal.τ).loc Cert.StepKvIdeal.main_arg3)) →
    ∃ (v0 : (c : Dev Cert.StepKvIdeal.nD) → Buf (Elt Ideal) ((c.tc : Thread Cert.StepKvIdeal.nD Cert.StepKvIdeal.τ).loc Cert.StepKvIdeal.main_v1_0)) (v1 : (c : Dev Cert.StepKvIdeal.nD) → Buf (Elt Ideal) ((c.tc : Thread Cert.StepKvIdeal.nD Cert.StepKvIdeal.τ).loc Cert.StepKvIdeal.main_v1_1)) (v2 : (c : Dev Cert.StepKvIdeal.nD) → Buf (Elt Ideal) ((c.tc : Thread Cert.StepKvIdeal.nD Cert.StepKvIdeal.τ).loc Cert.StepKvIdeal.main_v1_2)) (v3 : (c : Dev Cert.StepKvIdeal.nD) → Buf (Elt Ideal) ((c.tc : Thread Cert.StepKvIdeal.nD Cert.StepKvIdeal.τ).loc Cert.StepKvIdeal.main_v1_3)),
      θ_run (Cert.StepKvIdeal.defs (F := Ideal)) (onTc (τ := Cert.StepKvIdeal.τ) (Cert.StepKvIdeal.main (F := Ideal))) ⟨m, fun _ => 0, g⟩ (fun r => ∀ c : Dev Cert.StepKvIdeal.nD,
          r.2.mem ((c.tc : Thread Cert.StepKvIdeal.nD Cert.StepKvIdeal.τ).loc Cert.StepKvIdeal.main_v1_0) = v0 c
          ∧ r.2.mem ((c.tc : Thread Cert.StepKvIdeal.nD Cert.StepKvIdeal.τ).loc Cert.StepKvIdeal.main_v1_1) = v1 c
          ∧ r.2.mem ((c.tc : Thread Cert.StepKvIdeal.nD Cert.StepKvIdeal.τ).loc Cert.StepKvIdeal.main_v1_2) = v2 c
          ∧ r.2.mem ((c.tc : Thread Cert.StepKvIdeal.nD Cert.StepKvIdeal.τ).loc Cert.StepKvIdeal.main_v1_3) = v3 c
          ∧ r.2.mem ((c.tc : Thread Cert.StepKvIdeal.nD Cert.StepKvIdeal.τ).loc Cert.StepKvIdeal.main_arg0) = m ((c.tc : Thread Cert.StepKvIdeal.nD Cert.StepKvIdeal.τ).loc Cert.StepKvIdeal.main_arg0)
          ∧ r.2.mem ((c.tc : Thread Cert.StepKvIdeal.nD Cert.StepKvIdeal.τ).loc Cert.StepKvIdeal.main_arg1) = m ((c.tc : Thread Cert.StepKvIdeal.nD Cert.StepKvIdeal.τ).loc Cert.StepKvIdeal.main_arg1)
          ∧ r.2.mem ((c.tc : Thread Cert.StepKvIdeal.nD Cert.StepKvIdeal.τ).loc Cert.StepKvIdeal.main_arg2) = m ((c.tc : Thread Cert.StepKvIdeal.nD Cert.StepKvIdeal.τ).loc Cert.StepKvIdeal.main_arg2)
          ∧ r.2.mem ((c.tc : Thread Cert.StepKvIdeal.nD Cert.StepKvIdeal.τ).loc Cert.StepKvIdeal.main_arg3) = m ((c.tc : Thread Cert.StepKvIdeal.nD Cert.StepKvIdeal.τ).loc Cert.StepKvIdeal.main_arg3))
      ∧ θ_run (Cert.StepKvRefIdeal.defs (F := Ideal)) (onTc (τ := Cert.StepKvRefIdeal.τ) (Cert.StepKvRefIdeal.main (F := Ideal))) ⟨m', fun _ => 0, g'⟩ (fun r => ∀ c : Dev Cert.StepKvRefIdeal.nD,
          r.2.mem ((c.tc : Thread Cert.StepKvRefIdeal.nD Cert.StepKvRefIdeal.τ).loc Cert.StepKvRefIdeal.main_v1) = v0 c
          ∧ r.2.mem ((c.tc : Thread Cert.StepKvRefIdeal.nD Cert.StepKvRefIdeal.τ).loc Cert.StepKvRefIdeal.main_v25) = v1 c
          ∧ r.2.mem ((c.tc : Thread Cert.StepKvRefIdeal.nD Cert.StepKvRefIdeal.τ).loc Cert.StepKvRefIdeal.main_v6) = v2 c
          ∧ r.2.mem ((c.tc : Thread Cert.StepKvRefIdeal.nD Cert.StepKvRefIdeal.τ).loc Cert.StepKvRefIdeal.main_v12) = v3 c
          ∧ r.2.mem ((c.tc : Thread Cert.StepKvRefIdeal.nD Cert.StepKvRefIdeal.τ).loc Cert.StepKvRefIdeal.main_arg0) = m' ((c.tc : Thread Cert.StepKvRefIdeal.nD Cert.StepKvRefIdeal.τ).loc Cert.StepKvRefIdeal.main_arg0)
          ∧ r.2.mem ((c.tc : Thread Cert.StepKvRefIdeal.nD Cert.StepKvRefIdeal.τ).loc Cert.StepKvRefIdeal.main_arg1) = m' ((c.tc : Thread Cert.StepKvRefIdeal.nD Cert.StepKvRefIdeal.τ).loc Cert.StepKvRefIdeal.main_arg1)
          ∧ r.2.mem ((c.tc : Thread Cert.StepKvRefIdeal.nD Cert.StepKvRefIdeal.τ).loc Cert.StepKvRefIdeal.main_arg2) = m' ((c.tc : Thread Cert.StepKvRefIdeal.nD Cert.StepKvRefIdeal.τ).loc Cert.StepKvRefIdeal.main_arg2)
          ∧ r.2.mem ((c.tc : Thread Cert.StepKvRefIdeal.nD Cert.StepKvRefIdeal.τ).loc Cert.StepKvRefIdeal.main_arg3) = m' ((c.tc : Thread Cert.StepKvRefIdeal.nD Cert.StepKvRefIdeal.τ).loc Cert.StepKvRefIdeal.main_arg3))

def preserves_StepMix_StepMixIdeal : Prop :=
  IdealRules.named_const.Statement Cert.StepMixIdeal.κ "c1" .f32 0x3FC48605#32 ((8388608 / 5463681 : ℝ) : EReal)
  ∧ IdealRules.named_const.Statement Cert.StepMixIdeal.κ "c2" .f32 0x42C8E6D3#32 ((268435456 / 2672307 : ℝ) : EReal)

def algebraic_StepMixIdeal_StepMixRefIdeal [hStepMixIdeal : Cert.StepMixIdeal.Facts] [hStepMixRefIdeal : Cert.StepMixRefIdeal.Facts] : Prop :=
  ∀ (m : (ℓ : Loc Cert.StepMixIdeal.nD Cert.StepMixIdeal.τ Cert.StepMixIdeal.sig) → Buf (Elt Ideal) ℓ) (g : Dev Cert.StepMixIdeal.nD → PrngReg)
    (m' : (ℓ : Loc Cert.StepMixRefIdeal.nD Cert.StepMixRefIdeal.τ Cert.StepMixRefIdeal.sig) → Buf (Elt Ideal) ℓ) (g' : Dev Cert.StepMixRefIdeal.nD → PrngReg), Pre_StepMixIdeal m →
    (∀ c : Dev Cert.StepMixIdeal.nD,
      m' ((c.tc : Thread Cert.StepMixRefIdeal.nD Cert.StepMixRefIdeal.τ).loc Cert.StepMixRefIdeal.main_arg0) = m ((c.tc : Thread Cert.StepMixIdeal.nD Cert.StepMixIdeal.τ).loc Cert.StepMixIdeal.main_arg0)
      ∧ m' ((c.tc : Thread Cert.StepMixRefIdeal.nD Cert.StepMixRefIdeal.τ).loc Cert.StepMixRefIdeal.main_arg1) = m ((c.tc : Thread Cert.StepMixIdeal.nD Cert.StepMixIdeal.τ).loc Cert.StepMixIdeal.main_arg1)
      ∧ m' ((c.tc : Thread Cert.StepMixRefIdeal.nD Cert.StepMixRefIdeal.τ).loc Cert.StepMixRefIdeal.main_arg2) = m ((c.tc : Thread Cert.StepMixIdeal.nD Cert.StepMixIdeal.τ).loc Cert.StepMixIdeal.main_arg2)
      ∧ m' ((c.tc : Thread Cert.StepMixRefIdeal.nD Cert.StepMixRefIdeal.τ).loc Cert.StepMixRefIdeal.main_arg3) = m ((c.tc : Thread Cert.StepMixIdeal.nD Cert.StepMixIdeal.τ).loc Cert.StepMixIdeal.main_arg3)) →
    ∃ (v0 : (c : Dev Cert.StepMixIdeal.nD) → Buf (Elt Ideal) ((c.tc : Thread Cert.StepMixIdeal.nD Cert.StepMixIdeal.τ).loc Cert.StepMixIdeal.main_v5_0)) (v1 : (c : Dev Cert.StepMixIdeal.nD) → Buf (Elt Ideal) ((c.tc : Thread Cert.StepMixIdeal.nD Cert.StepMixIdeal.τ).loc Cert.StepMixIdeal.main_v5_1)) (v2 : (c : Dev Cert.StepMixIdeal.nD) → Buf (Elt Ideal) ((c.tc : Thread Cert.StepMixIdeal.nD Cert.StepMixIdeal.τ).loc Cert.StepMixIdeal.main_v5_2)) (v3 : (c : Dev Cert.StepMixIdeal.nD) → Buf (Elt Ideal) ((c.tc : Thread Cert.StepMixIdeal.nD Cert.StepMixIdeal.τ).loc Cert.StepMixIdeal.main_v5_3)),
      θ_run (Cert.StepMixIdeal.defs (F := Ideal)) (onTc (τ := Cert.StepMixIdeal.τ) (Cert.StepMixIdeal.main (F := Ideal))) ⟨m, fun _ => 0, g⟩ (fun r => ∀ c : Dev Cert.StepMixIdeal.nD,
          r.2.mem ((c.tc : Thread Cert.StepMixIdeal.nD Cert.StepMixIdeal.τ).loc Cert.StepMixIdeal.main_v5_0) = v0 c
          ∧ r.2.mem ((c.tc : Thread Cert.StepMixIdeal.nD Cert.StepMixIdeal.τ).loc Cert.StepMixIdeal.main_v5_1) = v1 c
          ∧ r.2.mem ((c.tc : Thread Cert.StepMixIdeal.nD Cert.StepMixIdeal.τ).loc Cert.StepMixIdeal.main_v5_2) = v2 c
          ∧ r.2.mem ((c.tc : Thread Cert.StepMixIdeal.nD Cert.StepMixIdeal.τ).loc Cert.StepMixIdeal.main_v5_3) = v3 c
          ∧ r.2.mem ((c.tc : Thread Cert.StepMixIdeal.nD Cert.StepMixIdeal.τ).loc Cert.StepMixIdeal.main_arg0) = m ((c.tc : Thread Cert.StepMixIdeal.nD Cert.StepMixIdeal.τ).loc Cert.StepMixIdeal.main_arg0)
          ∧ r.2.mem ((c.tc : Thread Cert.StepMixIdeal.nD Cert.StepMixIdeal.τ).loc Cert.StepMixIdeal.main_arg1) = m ((c.tc : Thread Cert.StepMixIdeal.nD Cert.StepMixIdeal.τ).loc Cert.StepMixIdeal.main_arg1)
          ∧ r.2.mem ((c.tc : Thread Cert.StepMixIdeal.nD Cert.StepMixIdeal.τ).loc Cert.StepMixIdeal.main_arg2) = m ((c.tc : Thread Cert.StepMixIdeal.nD Cert.StepMixIdeal.τ).loc Cert.StepMixIdeal.main_arg2)
          ∧ r.2.mem ((c.tc : Thread Cert.StepMixIdeal.nD Cert.StepMixIdeal.τ).loc Cert.StepMixIdeal.main_arg3) = m ((c.tc : Thread Cert.StepMixIdeal.nD Cert.StepMixIdeal.τ).loc Cert.StepMixIdeal.main_arg3))
      ∧ θ_run (Cert.StepMixRefIdeal.defs (F := Ideal)) (onTc (τ := Cert.StepMixRefIdeal.τ) (Cert.StepMixRefIdeal.main (F := Ideal))) ⟨m', fun _ => 0, g'⟩ (fun r => ∀ c : Dev Cert.StepMixRefIdeal.nD,
          r.2.mem ((c.tc : Thread Cert.StepMixRefIdeal.nD Cert.StepMixRefIdeal.τ).loc Cert.StepMixRefIdeal.main_v1) = v0 c
          ∧ r.2.mem ((c.tc : Thread Cert.StepMixRefIdeal.nD Cert.StepMixRefIdeal.τ).loc Cert.StepMixRefIdeal.main_v28) = v1 c
          ∧ r.2.mem ((c.tc : Thread Cert.StepMixRefIdeal.nD Cert.StepMixRefIdeal.τ).loc Cert.StepMixRefIdeal.main_v9) = v2 c
          ∧ r.2.mem ((c.tc : Thread Cert.StepMixRefIdeal.nD Cert.StepMixRefIdeal.τ).loc Cert.StepMixRefIdeal.main_v15) = v3 c
          ∧ r.2.mem ((c.tc : Thread Cert.StepMixRefIdeal.nD Cert.StepMixRefIdeal.τ).loc Cert.StepMixRefIdeal.main_arg0) = m' ((c.tc : Thread Cert.StepMixRefIdeal.nD Cert.StepMixRefIdeal.τ).loc Cert.StepMixRefIdeal.main_arg0)
          ∧ r.2.mem ((c.tc : Thread Cert.StepMixRefIdeal.nD Cert.StepMixRefIdeal.τ).loc Cert.StepMixRefIdeal.main_arg1) = m' ((c.tc : Thread Cert.StepMixRefIdeal.nD Cert.StepMixRefIdeal.τ).loc Cert.StepMixRefIdeal.main_arg1)
          ∧ r.2.mem ((c.tc : Thread Cert.StepMixRefIdeal.nD Cert.StepMixRefIdeal.τ).loc Cert.StepMixRefIdeal.main_arg2) = m' ((c.tc : Thread Cert.StepMixRefIdeal.nD Cert.StepMixRefIdeal.τ).loc Cert.StepMixRefIdeal.main_arg2)
          ∧ r.2.mem ((c.tc : Thread Cert.StepMixRefIdeal.nD Cert.StepMixRefIdeal.τ).loc Cert.StepMixRefIdeal.main_arg3) = m' ((c.tc : Thread Cert.StepMixRefIdeal.nD Cert.StepMixRefIdeal.τ).loc Cert.StepMixRefIdeal.main_arg3))

def preserves_StepUp_StepUpIdeal : Prop :=
  IdealRules.named_const.Statement Cert.StepUpIdeal.κ "c1" .f32 0x3FC48605#32 ((8388608 / 5463681 : ℝ) : EReal)
  ∧ IdealRules.named_const.Statement Cert.StepUpIdeal.κ "c2" .f32 0x42C8E6D3#32 ((268435456 / 2672307 : ℝ) : EReal)

def algebraic_StepUpIdeal_StepUpRefIdeal [hStepUpIdeal : Cert.StepUpIdeal.Facts] [hStepUpRefIdeal : Cert.StepUpRefIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpRefIdeal.nD Cert.StepUpRefIdeal.τ Cert.StepUpRefIdeal.sig) → Buf (Elt Ideal) ℓ) (g' : Dev Cert.StepUpRefIdeal.nD → PrngReg), Pre_StepUpIdeal m →
    (∀ c : Dev Cert.StepUpIdeal.nD,
      m' ((c.tc : Thread Cert.StepUpRefIdeal.nD Cert.StepUpRefIdeal.τ).loc Cert.StepUpRefIdeal.main_arg0) = m ((c.tc : Thread Cert.StepUpIdeal.nD Cert.StepUpIdeal.τ).loc Cert.StepUpIdeal.main_arg0)
      ∧ m' ((c.tc : Thread Cert.StepUpRefIdeal.nD Cert.StepUpRefIdeal.τ).loc Cert.StepUpRefIdeal.main_arg1) = m ((c.tc : Thread Cert.StepUpIdeal.nD Cert.StepUpIdeal.τ).loc Cert.StepUpIdeal.main_arg1)
      ∧ m' ((c.tc : Thread Cert.StepUpRefIdeal.nD Cert.StepUpRefIdeal.τ).loc Cert.StepUpRefIdeal.main_arg2) = m ((c.tc : Thread Cert.StepUpIdeal.nD Cert.StepUpIdeal.τ).loc Cert.StepUpIdeal.main_arg2)
      ∧ m' ((c.tc : Thread Cert.StepUpRefIdeal.nD Cert.StepUpRefIdeal.τ).loc Cert.StepUpRefIdeal.main_arg3) = m ((c.tc : Thread Cert.StepUpIdeal.nD Cert.StepUpIdeal.τ).loc Cert.StepUpIdeal.main_arg3)) →
    ∃ (v0 : (c : Dev Cert.StepUpIdeal.nD) → Buf (Elt Ideal) ((c.tc : Thread Cert.StepUpIdeal.nD Cert.StepUpIdeal.τ).loc Cert.StepUpIdeal.main_v6_0)) (v1 : (c : Dev Cert.StepUpIdeal.nD) → Buf (Elt Ideal) ((c.tc : Thread Cert.StepUpIdeal.nD Cert.StepUpIdeal.τ).loc Cert.StepUpIdeal.main_v6_1)) (v2 : (c : Dev Cert.StepUpIdeal.nD) → Buf (Elt Ideal) ((c.tc : Thread Cert.StepUpIdeal.nD Cert.StepUpIdeal.τ).loc Cert.StepUpIdeal.main_v6_2)) (v3 : (c : Dev Cert.StepUpIdeal.nD) → Buf (Elt Ideal) ((c.tc : Thread Cert.StepUpIdeal.nD Cert.StepUpIdeal.τ).loc Cert.StepUpIdeal.main_v6_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v6_0) = v0 c
          ∧ r.2.mem ((c.tc : Thread Cert.StepUpIdeal.nD Cert.StepUpIdeal.τ).loc Cert.StepUpIdeal.main_v6_1) = v1 c
          ∧ r.2.mem ((c.tc : Thread Cert.StepUpIdeal.nD Cert.StepUpIdeal.τ).loc Cert.StepUpIdeal.main_v6_2) = v2 c
          ∧ r.2.mem ((c.tc : Thread Cert.StepUpIdeal.nD Cert.StepUpIdeal.τ).loc Cert.StepUpIdeal.main_v6_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ θ_run (Cert.StepUpRefIdeal.defs (F := Ideal)) (onTc (τ := Cert.StepUpRefIdeal.τ) (Cert.StepUpRefIdeal.main (F := Ideal))) ⟨m', fun _ => 0, g'⟩ (fun r => ∀ c : Dev Cert.StepUpRefIdeal.nD,
          r.2.mem ((c.tc : Thread Cert.StepUpRefIdeal.nD Cert.StepUpRefIdeal.τ).loc Cert.StepUpRefIdeal.main_v1) = v0 c
          ∧ r.2.mem ((c.tc : Thread Cert.StepUpRefIdeal.nD Cert.StepUpRefIdeal.τ).loc Cert.StepUpRefIdeal.main_v28) = v1 c
          ∧ r.2.mem ((c.tc : Thread Cert.StepUpRefIdeal.nD Cert.StepUpRefIdeal.τ).loc Cert.StepUpRefIdeal.main_v9) = v2 c
          ∧ r.2.mem ((c.tc : Thread Cert.StepUpRefIdeal.nD Cert.StepUpRefIdeal.τ).loc Cert.StepUpRefIdeal.main_v15) = v3 c
          ∧ r.2.mem ((c.tc : Thread Cert.StepUpRefIdeal.nD Cert.StepUpRefIdeal.τ).loc Cert.StepUpRefIdeal.main_arg0) = m' ((c.tc : Thread Cert.StepUpRefIdeal.nD Cert.StepUpRefIdeal.τ).loc Cert.StepUpRefIdeal.main_arg0)
          ∧ r.2.mem ((c.tc : Thread Cert.StepUpRefIdeal.nD Cert.StepUpRefIdeal.τ).loc Cert.StepUpRefIdeal.main_arg1) = m' ((c.tc : Thread Cert.StepUpRefIdeal.nD Cert.StepUpRefIdeal.τ).loc Cert.StepUpRefIdeal.main_arg1)
          ∧ r.2.mem ((c.tc : Thread Cert.StepUpRefIdeal.nD Cert.StepUpRefIdeal.τ).loc Cert.StepUpRefIdeal.main_arg2) = m' ((c.tc : Thread Cert.StepUpRefIdeal.nD Cert.StepUpRefIdeal.τ).loc Cert.StepUpRefIdeal.main_arg2)
          ∧ r.2.mem ((c.tc : Thread Cert.StepUpRefIdeal.nD Cert.StepUpRefIdeal.τ).loc Cert.StepUpRefIdeal.main_arg3) = m' ((c.tc : Thread Cert.StepUpRefIdeal.nD Cert.StepUpRefIdeal.τ).loc Cert.StepUpRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_StepSmall_StepSmallIdeal : Prop :=
  IdealRules.named_const.Statement Cert.StepSmallIdeal.κ "c1" .f32 0x3FC48605#32 ((8388608 / 5463681 : ℝ) : EReal)
  ∧ IdealRules.named_const.Statement Cert.StepSmallIdeal.κ "c2" .f32 0x42C8E6D3#32 ((268435456 / 2672307 : ℝ) : EReal)

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v1_0)) (v1 : (c : Dev Cert.StepSmallIdeal.nD) → Buf (Elt Ideal) ((c.tc : Thread Cert.StepSmallIdeal.nD Cert.StepSmallIdeal.τ).loc Cert.StepSmallIdeal.main_v1_1)) (v2 : (c : Dev Cert.StepSmallIdeal.nD) → Buf (Elt Ideal) ((c.tc : Thread Cert.StepSmallIdeal.nD Cert.StepSmallIdeal.τ).loc Cert.StepSmallIdeal.main_v1_2)) (v3 : (c : Dev Cert.StepSmallIdeal.nD) → Buf (Elt Ideal) ((c.tc : Thread Cert.StepSmallIdeal.nD Cert.StepSmallIdeal.τ).loc Cert.StepSmallIdeal.main_v1_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v1_0) = v0 c
          ∧ r.2.mem ((c.tc : Thread Cert.StepSmallIdeal.nD Cert.StepSmallIdeal.τ).loc Cert.StepSmallIdeal.main_v1_1) = v1 c
          ∧ r.2.mem ((c.tc : Thread Cert.StepSmallIdeal.nD Cert.StepSmallIdeal.τ).loc Cert.StepSmallIdeal.main_v1_2) = v2 c
          ∧ r.2.mem ((c.tc : Thread Cert.StepSmallIdeal.nD Cert.StepSmallIdeal.τ).loc Cert.StepSmallIdeal.main_v1_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_arg0) = v0 c
          ∧ r.2.mem ((c.tc : Thread Cert.StepSmallRefIdeal.nD Cert.StepSmallRefIdeal.τ).loc Cert.StepSmallRefIdeal.main_v23) = v1 c
          ∧ r.2.mem ((c.tc : Thread Cert.StepSmallRefIdeal.nD Cert.StepSmallRefIdeal.τ).loc Cert.StepSmallRefIdeal.main_v4) = v2 c
          ∧ r.2.mem ((c.tc : Thread Cert.StepSmallRefIdeal.nD Cert.StepSmallRefIdeal.τ).loc Cert.StepSmallRefIdeal.main_v10) = v3 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3))

def preserves_NormDx_NormDxIdeal : Prop :=
  True

def algebraic_NormDxIdeal_NormDxRefIdeal [hNormDxIdeal : Cert.NormDxIdeal.Facts] [hNormDxRefIdeal : Cert.NormDxRefIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxRefIdeal.nD Cert.NormDxRefIdeal.τ Cert.NormDxRefIdeal.sig) → Buf (Elt Ideal) ℓ) (g' : Dev Cert.NormDxRefIdeal.nD → PrngReg), Pre_NormDxIdeal m →
    (∀ c : Dev Cert.NormDxIdeal.nD,
      m' ((c.tc : Thread Cert.NormDxRefIdeal.nD Cert.NormDxRefIdeal.τ).loc Cert.NormDxRefIdeal.main_arg0) = m ((c.tc : Thread Cert.NormDxIdeal.nD Cert.NormDxIdeal.τ).loc Cert.NormDxIdeal.main_arg0)
      ∧ m' ((c.tc : Thread Cert.NormDxRefIdeal.nD Cert.NormDxRefIdeal.τ).loc Cert.NormDxRefIdeal.main_arg1) = m ((c.tc : Thread Cert.NormDxIdeal.nD Cert.NormDxIdeal.τ).loc Cert.NormDxIdeal.main_arg1)
      ∧ m' ((c.tc : Thread Cert.NormDxRefIdeal.nD Cert.NormDxRefIdeal.τ).loc Cert.NormDxRefIdeal.main_arg2) = m ((c.tc : Thread Cert.NormDxIdeal.nD Cert.NormDxIdeal.τ).loc Cert.NormDxIdeal.main_arg2)
      ∧ m' ((c.tc : Thread Cert.NormDxRefIdeal.nD Cert.NormDxRefIdeal.τ).loc Cert.NormDxRefIdeal.main_arg3) = m ((c.tc : Thread Cert.NormDxIdeal.nD Cert.NormDxIdeal.τ).loc Cert.NormDxIdeal.main_arg3)) →
    ∃ (v0 : (c : Dev Cert.NormDxIdeal.nD) → Buf (Elt Ideal) ((c.tc : Thread Cert.NormDxIdeal.nD Cert.NormDxIdeal.τ).loc Cert.NormDxIdeal.main_v0_0)) (v1 : (c : Dev Cert.NormDxIdeal.nD) → Buf (Elt Ideal) ((c.tc : Thread Cert.NormDxIdeal.nD Cert.NormDxIdeal.τ).loc Cert.NormDxIdeal.main_v0_1)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v0_0) = v0 c
          ∧ r.2.mem ((c.tc : Thread Cert.NormDxIdeal.nD Cert.NormDxIdeal.τ).loc Cert.NormDxIdeal.main_v0_1) = v1 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3))
      ∧ θ_run (Cert.NormDxRefIdeal.defs (F := Ideal)) (onTc (τ := Cert.NormDxRefIdeal.τ) (Cert.NormDxRefIdeal.main (F := Ideal))) ⟨m', fun _ => 0, g'⟩ (fun r => ∀ c : Dev Cert.NormDxRefIdeal.nD,
          r.2.mem ((c.tc : Thread Cert.NormDxRefIdeal.nD Cert.NormDxRefIdeal.τ).loc Cert.NormDxRefIdeal.main_v34) = v0 c
          ∧ r.2.mem ((c.tc : Thread Cert.NormDxRefIdeal.nD Cert.NormDxRefIdeal.τ).loc Cert.NormDxRefIdeal.main_v17) = v1 c
          ∧ r.2.mem ((c.tc : Thread Cert.NormDxRefIdeal.nD Cert.NormDxRefIdeal.τ).loc Cert.NormDxRefIdeal.main_arg0) = m' ((c.tc : Thread Cert.NormDxRefIdeal.nD Cert.NormDxRefIdeal.τ).loc Cert.NormDxRefIdeal.main_arg0)
          ∧ r.2.mem ((c.tc : Thread Cert.NormDxRefIdeal.nD Cert.NormDxRefIdeal.τ).loc Cert.NormDxRefIdeal.main_arg1) = m' ((c.tc : Thread Cert.NormDxRefIdeal.nD Cert.NormDxRefIdeal.τ).loc Cert.NormDxRefIdeal.main_arg1)
          ∧ r.2.mem ((c.tc : Thread Cert.NormDxRefIdeal.nD Cert.NormDxRefIdeal.τ).loc Cert.NormDxRefIdeal.main_arg2) = m' ((c.tc : Thread Cert.NormDxRefIdeal.nD Cert.NormDxRefIdeal.τ).loc Cert.NormDxRefIdeal.main_arg2)
          ∧ r.2.mem ((c.tc : Thread Cert.NormDxRefIdeal.nD Cert.NormDxRefIdeal.τ).loc Cert.NormDxRefIdeal.main_arg3) = m' ((c.tc : Thread Cert.NormDxRefIdeal.nD Cert.NormDxRefIdeal.τ).loc Cert.NormDxRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_NormTwo_NormTwoIdeal : Prop :=
  True

def algebraic_NormTwoIdeal_NormTwoRefIdeal [hNormTwoIdeal : Cert.NormTwoIdeal.Facts] [hNormTwoRefIdeal : Cert.NormTwoRefIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg)
    (m' : (ℓ : Loc Cert.NormTwoRefIdeal.nD Cert.NormTwoRefIdeal.τ Cert.NormTwoRefIdeal.sig) → Buf (Elt Ideal) ℓ) (g' : Dev Cert.NormTwoRefIdeal.nD → PrngReg), Pre_NormTwoIdeal m →
    (∀ c : Dev Cert.NormTwoIdeal.nD,
      m' ((c.tc : Thread Cert.NormTwoRefIdeal.nD Cert.NormTwoRefIdeal.τ).loc Cert.NormTwoRefIdeal.main_arg0) = m ((c.tc : Thread Cert.NormTwoIdeal.nD Cert.NormTwoIdeal.τ).loc Cert.NormTwoIdeal.main_arg0)
      ∧ m' ((c.tc : Thread Cert.NormTwoRefIdeal.nD Cert.NormTwoRefIdeal.τ).loc Cert.NormTwoRefIdeal.main_arg1) = m ((c.tc : Thread Cert.NormTwoIdeal.nD Cert.NormTwoIdeal.τ).loc Cert.NormTwoIdeal.main_arg1)
      ∧ m' ((c.tc : Thread Cert.NormTwoRefIdeal.nD Cert.NormTwoRefIdeal.τ).loc Cert.NormTwoRefIdeal.main_arg2) = m ((c.tc : Thread Cert.NormTwoIdeal.nD Cert.NormTwoIdeal.τ).loc Cert.NormTwoIdeal.main_arg2)) →
    ∃ (v0 : (c : Dev Cert.NormTwoIdeal.nD) → Buf (Elt Ideal) ((c.tc : Thread Cert.NormTwoIdeal.nD Cert.NormTwoIdeal.τ).loc Cert.NormTwoIdeal.main_v0_0)) (v1 : (c : Dev Cert.NormTwoIdeal.nD) → Buf (Elt Ideal) ((c.tc : Thread Cert.NormTwoIdeal.nD Cert.NormTwoIdeal.τ).loc Cert.NormTwoIdeal.main_v0_1)),
      θ_run (Cert.NormTwoIdeal.defs (F := Ideal)) (onTc (τ := Cert.NormTwoIdeal.τ) (Cert.NormTwoIdeal.main (F := Ideal))) ⟨m, fun _ => 0, g⟩ (fun r => ∀ c : Dev Cert.NormTwoIdeal.nD,
          r.2.mem ((c.tc : Thread Cert.NormTwoIdeal.nD Cert.NormTwoIdeal.τ).loc Cert.NormTwoIdeal.main_v0_0) = v0 c
          ∧ r.2.mem ((c.tc : Thread Cert.NormTwoIdeal.nD Cert.NormTwoIdeal.τ).loc Cert.NormTwoIdeal.main_v0_1) = v1 c
          ∧ r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
          ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
          ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ θ_run (Cert.NormTwoRefIdeal.defs (F := Ideal)) (onTc (τ := Cert.NormTwoRefIdeal.τ) (Cert.NormTwoRefIdeal.main (F := Ideal))) ⟨m', fun _ => 0, g'⟩ (fun r => ∀ c : Dev Cert.NormTwoRefIdeal.nD,
          r.2.mem ((c.tc : Thread Cert.NormTwoRefIdeal.nD Cert.NormTwoRefIdeal.τ).loc Cert.NormTwoRefIdeal.main_v12) = v0 c
          ∧ r.2.mem ((c.tc : Thread Cert.NormTwoRefIdeal.nD Cert.NormTwoRefIdeal.τ).loc Cert.NormTwoRefIdeal.main_v25) = v1 c
          ∧ r.2.mem ((c.tc : Thread Cert.NormTwoRefIdeal.nD Cert.NormTwoRefIdeal.τ).loc Cert.NormTwoRefIdeal.main_arg0) = m' ((c.tc : Thread Cert.NormTwoRefIdeal.nD Cert.NormTwoRefIdeal.τ).loc Cert.NormTwoRefIdeal.main_arg0)
          ∧ r.2.mem ((c.tc : Thread Cert.NormTwoRefIdeal.nD Cert.NormTwoRefIdeal.τ).loc Cert.NormTwoRefIdeal.main_arg1) = m' ((c.tc : Thread Cert.NormTwoRefIdeal.nD Cert.NormTwoRefIdeal.τ).loc Cert.NormTwoRefIdeal.main_arg1)
          ∧ r.2.mem ((c.tc : Thread Cert.NormTwoRefIdeal.nD Cert.NormTwoRefIdeal.τ).loc Cert.NormTwoRefIdeal.main_arg2) = m' ((c.tc : Thread Cert.NormTwoRefIdeal.nD Cert.NormTwoRefIdeal.τ).loc Cert.NormTwoRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hInDx : Cert.InDx.Facts) (hInDxIdeal : Cert.InDxIdeal.Facts) (hInDxRefIdeal : Cert.InDxRefIdeal.Facts) (hStepOut : Cert.StepOut.Facts) (hStepOutIdeal : Cert.StepOutIdeal.Facts) (hStepOutRefIdeal : Cert.StepOutRefIdeal.Facts) (hStepMem : Cert.StepMem.Facts) (hStepMemIdeal : Cert.StepMemIdeal.Facts) (hStepMemRefIdeal : Cert.StepMemRefIdeal.Facts) (hStepDown : Cert.StepDown.Facts) (hStepDownIdeal : Cert.StepDownIdeal.Facts) (hStepDownRefIdeal : Cert.StepDownRefIdeal.Facts) (hSumIn : Cert.SumIn.Facts) (hSumInIdeal : Cert.SumInIdeal.Facts) (hSumInRefIdeal : Cert.SumInRefIdeal.Facts) (hSumKv : Cert.SumKv.Facts) (hSumKvIdeal : Cert.SumKvIdeal.Facts) (hSumKvRefIdeal : Cert.SumKvRefIdeal.Facts) (hSumMix : Cert.SumMix.Facts) (hSumMixIdeal : Cert.SumMixIdeal.Facts) (hSumMixRefIdeal : Cert.SumMixRefIdeal.Facts) (hSumUp : Cert.SumUp.Facts) (hSumUpIdeal : Cert.SumUpIdeal.Facts) (hSumUpRefIdeal : Cert.SumUpRefIdeal.Facts) (hStepIn : Cert.StepIn.Facts) (hStepInIdeal : Cert.StepInIdeal.Facts) (hStepInRefIdeal : Cert.StepInRefIdeal.Facts) (hStepKv : Cert.StepKv.Facts) (hStepKvIdeal : Cert.StepKvIdeal.Facts) (hStepKvRefIdeal : Cert.StepKvRefIdeal.Facts) (hStepMix : Cert.StepMix.Facts) (hStepMixIdeal : Cert.StepMixIdeal.Facts) (hStepMixRefIdeal : Cert.StepMixRefIdeal.Facts) (hStepUp : Cert.StepUp.Facts) (hStepUpIdeal : Cert.StepUpIdeal.Facts) (hStepUpRefIdeal : Cert.StepUpRefIdeal.Facts) (hSumSmall : Cert.SumSmall.Facts) (hSumSmallIdeal : Cert.SumSmallIdeal.Facts) (hSumSmallRefIdeal : Cert.SumSmallRefIdeal.Facts) (hStepSmall : Cert.StepSmall.Facts) (hStepSmallIdeal : Cert.StepSmallIdeal.Facts) (hStepSmallRefIdeal : Cert.StepSmallRefIdeal.Facts) (hNormDx : Cert.NormDx.Facts) (hNormDxIdeal : Cert.NormDxIdeal.Facts) (hNormDxRefIdeal : Cert.NormDxRefIdeal.Facts) (hNorm : Cert.Norm.Facts) (hNormIdeal : Cert.NormIdeal.Facts) (hNormRefIdeal : Cert.NormRefIdeal.Facts) (hMemNorm : Cert.MemNorm.Facts) (hMemNormIdeal : Cert.MemNormIdeal.Facts) (hMemNormRefIdeal : Cert.MemNormRefIdeal.Facts) (hNormTwo : Cert.NormTwo.Facts) (hNormTwoIdeal : Cert.NormTwoIdeal.Facts) (hNormTwoRefIdeal : Cert.NormTwoRefIdeal.Facts) (hLoss : Cert.Loss.Facts) (hLossIdeal : Cert.LossIdeal.Facts) (hLossRefIdeal : Cert.LossRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepMem (hStepMem := hStepMem)
    ∧ quiescent_StepMemIdeal (hStepMemIdeal := hStepMemIdeal)
    ∧ quiescent_StepMemRefIdeal (hStepMemRefIdeal := hStepMemRefIdeal)
    ∧ quiescent_StepDown (hStepDown := hStepDown)
    ∧ quiescent_StepDownIdeal (hStepDownIdeal := hStepDownIdeal)
    ∧ quiescent_StepDownRefIdeal (hStepDownRefIdeal := hStepDownRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumKv (hSumKv := hSumKv)
    ∧ quiescent_SumKvIdeal (hSumKvIdeal := hSumKvIdeal)
    ∧ quiescent_SumKvRefIdeal (hSumKvRefIdeal := hSumKvRefIdeal)
    ∧ quiescent_SumMix (hSumMix := hSumMix)
    ∧ quiescent_SumMixIdeal (hSumMixIdeal := hSumMixIdeal)
    ∧ quiescent_SumMixRefIdeal (hSumMixRefIdeal := hSumMixRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepKv (hStepKv := hStepKv)
    ∧ quiescent_StepKvIdeal (hStepKvIdeal := hStepKvIdeal)
    ∧ quiescent_StepKvRefIdeal (hStepKvRefIdeal := hStepKvRefIdeal)
    ∧ quiescent_StepMix (hStepMix := hStepMix)
    ∧ quiescent_StepMixIdeal (hStepMixIdeal := hStepMixIdeal)
    ∧ quiescent_StepMixRefIdeal (hStepMixRefIdeal := hStepMixRefIdeal)
    ∧ quiescent_StepUp (hStepUp := hStepUp)
    ∧ quiescent_StepUpIdeal (hStepUpIdeal := hStepUpIdeal)
    ∧ quiescent_StepUpRefIdeal (hStepUpRefIdeal := hStepUpRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_NormDx (hNormDx := hNormDx)
    ∧ quiescent_NormDxIdeal (hNormDxIdeal := hNormDxIdeal)
    ∧ quiescent_NormDxRefIdeal (hNormDxRefIdeal := hNormDxRefIdeal)
    ∧ quiescent_Norm (hNorm := hNorm)
    ∧ quiescent_NormIdeal (hNormIdeal := hNormIdeal)
    ∧ quiescent_NormRefIdeal (hNormRefIdeal := hNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_NormTwo (hNormTwo := hNormTwo)
    ∧ quiescent_NormTwoIdeal (hNormTwoIdeal := hNormTwoIdeal)
    ∧ quiescent_NormTwoRefIdeal (hNormTwoRefIdeal := hNormTwoRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_InDx_InDxIdeal
    ∧ algebraic_InDxIdeal_InDxRefIdeal (hInDxIdeal := hInDxIdeal) (hInDxRefIdeal := hInDxRefIdeal)
    ∧ preserves_StepOut_StepOutIdeal
    ∧ algebraic_StepOutIdeal_StepOutRefIdeal (hStepOutIdeal := hStepOutIdeal) (hStepOutRefIdeal := hStepOutRefIdeal)
    ∧ preserves_StepMem_StepMemIdeal
    ∧ algebraic_StepMemIdeal_StepMemRefIdeal (hStepMemIdeal := hStepMemIdeal) (hStepMemRefIdeal := hStepMemRefIdeal)
    ∧ preserves_StepDown_StepDownIdeal
    ∧ algebraic_StepDownIdeal_StepDownRefIdeal (hStepDownIdeal := hStepDownIdeal) (hStepDownRefIdeal := hStepDownRefIdeal)
    ∧ preserves_SumIn_SumInIdeal
    ∧ algebraic_SumInIdeal_SumInRefIdeal (hSumInIdeal := hSumInIdeal) (hSumInRefIdeal := hSumInRefIdeal)
    ∧ preserves_SumKv_SumKvIdeal
    ∧ algebraic_SumKvIdeal_SumKvRefIdeal (hSumKvIdeal := hSumKvIdeal) (hSumKvRefIdeal := hSumKvRefIdeal)
    ∧ preserves_SumMix_SumMixIdeal
    ∧ algebraic_SumMixIdeal_SumMixRefIdeal (hSumMixIdeal := hSumMixIdeal) (hSumMixRefIdeal := hSumMixRefIdeal)
    ∧ preserves_SumUp_SumUpIdeal
    ∧ algebraic_SumUpIdeal_SumUpRefIdeal (hSumUpIdeal := hSumUpIdeal) (hSumUpRefIdeal := hSumUpRefIdeal)
    ∧ preserves_StepIn_StepInIdeal
    ∧ algebraic_StepInIdeal_StepInRefIdeal (hStepInIdeal := hStepInIdeal) (hStepInRefIdeal := hStepInRefIdeal)
    ∧ preserves_StepKv_StepKvIdeal
    ∧ algebraic_StepKvIdeal_StepKvRefIdeal (hStepKvIdeal := hStepKvIdeal) (hStepKvRefIdeal := hStepKvRefIdeal)
    ∧ preserves_StepMix_StepMixIdeal
    ∧ algebraic_StepMixIdeal_StepMixRefIdeal (hStepMixIdeal := hStepMixIdeal) (hStepMixRefIdeal := hStepMixRefIdeal)
    ∧ preserves_StepUp_StepUpIdeal
    ∧ algebraic_StepUpIdeal_StepUpRefIdeal (hStepUpIdeal := hStepUpIdeal) (hStepUpRefIdeal := hStepUpRefIdeal)
    ∧ preserves_SumSmall_SumSmallIdeal
    ∧ algebraic_SumSmallIdeal_SumSmallRefIdeal (hSumSmallIdeal := hSumSmallIdeal) (hSumSmallRefIdeal := hSumSmallRefIdeal)
    ∧ preserves_StepSmall_StepSmallIdeal
    ∧ algebraic_StepSmallIdeal_StepSmallRefIdeal (hStepSmallIdeal := hStepSmallIdeal) (hStepSmallRefIdeal := hStepSmallRefIdeal)
    ∧ preserves_NormDx_NormDxIdeal
    ∧ algebraic_NormDxIdeal_NormDxRefIdeal (hNormDxIdeal := hNormDxIdeal) (hNormDxRefIdeal := hNormDxRefIdeal)
    ∧ preserves_Norm_NormIdeal
    ∧ algebraic_NormIdeal_NormRefIdeal (hNormIdeal := hNormIdeal) (hNormRefIdeal := hNormRefIdeal)
    ∧ preserves_MemNorm_MemNormIdeal
    ∧ algebraic_MemNormIdeal_MemNormRefIdeal (hMemNormIdeal := hMemNormIdeal) (hMemNormRefIdeal := hMemNormRefIdeal)
    ∧ preserves_NormTwo_NormTwoIdeal
    ∧ algebraic_NormTwoIdeal_NormTwoRefIdeal (hNormTwoIdeal := hNormTwoIdeal) (hNormTwoRefIdeal := hNormTwoRefIdeal)
    ∧ preserves_Loss_LossIdeal
    ∧ algebraic_LossIdeal_LossRefIdeal (hLossIdeal := hLossIdeal) (hLossRefIdeal := hLossRefIdeal)
-- ==== Pre_finite.lean ====
abbrev S4096x768 : Shape := ⟨2, ![4096, 768]⟩
abbrev S4096x1536 : Shape := ⟨2, ![4096, 1536]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)

variable [Facts]

def fn {F : FTy → Type} [FloatOps F] (main_arg0 : FVec F S4096x768 .f32) (main_arg1 : FVec F S4096x768 .f32) (main_arg2 : FVec F S4096x1536 .f32) (main_arg3 : FVec F S4096x256 .f32) (main_arg4 : FVec F S4096x256 .f32) : IVec S4096x768 1 × IVec S4096x768 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S4096x768 .f32 := Host.absf main_arg1
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  (main_v2, main_v5)
-- ==== Kernel.lean ====
abbrev S4096x768 : Shape := ⟨2, ![4096, 768]⟩
abbrev S4096x1536 : Shape := ⟨2, ![4096, 1536]⟩
abbrev S4096x256 : Shape := ⟨2, ![4096, 256]⟩
abbrev S128x256 : Shape := ⟨2, ![128, 256]⟩
abbrev S128x128 : Shape := ⟨2, ![128, 128]⟩
abbrev S1x256 : Shape := ⟨2, ![1, 256]⟩
abbrev S128 : Shape := ⟨1, ![128]⟩
abbrev S128x1 : Shape := ⟨2, ![128, 1]⟩
abbrev S3968x256 : Shape := ⟨2, ![3968, 256]⟩
abbrev S_ : Shape := ⟨0, ![]⟩

abbrev nBuf : Space → Nat
  | .hbm => 22
  | .vmem => 24
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x1536, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S3968x256, .f32⟩
  | .hbm, ⟨11, _⟩ => ⟨S128x256, .f32⟩
  | .hbm, ⟨12, _⟩ => ⟨S_, .f32⟩
  | .hbm, ⟨13, _⟩ => ⟨S128x256, .f32⟩
  | .hbm, ⟨14, _⟩ => ⟨S4096x256, .f32⟩
  | .hbm, ⟨15, _⟩ => ⟨S4096x256, .f32⟩
  | .hbm, ⟨16, _⟩ => ⟨S3968x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S4096x256, .f32⟩
  | .hbm, ⟨21, _⟩ => ⟨S4096x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.addi c3_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S4096x768 : Shape := ⟨2, ![4096, 768]⟩
abbrev S4096x1536 : Shape := ⟨2, ![4096, 1536]⟩
abbrev S4096x256 : Shape := ⟨2, ![4096, 256]⟩
abbrev S128x256 : Shape := ⟨2, ![128, 256]⟩
abbrev S128x128 : Shape := ⟨2, ![128, 128]⟩
abbrev S1x256 : Shape := ⟨2, ![1, 256]⟩
abbrev S128 : Shape := ⟨1, ![128]⟩
abbrev S128x1 : Shape := ⟨2, ![128, 1]⟩
abbrev S3968x256 : Shape := ⟨2, ![3968, 256]⟩
abbrev S_ : Shape := ⟨0, ![]⟩

abbrev nBuf : Space → Nat
  | .hbm => 22
  | .vmem => 24
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x1536, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S3968x256, .f32⟩
  | .hbm, ⟨11, _⟩ => ⟨S128x256, .f32⟩
  | .hbm, ⟨12, _⟩ => ⟨S_, .f32⟩
  | .hbm, ⟨13, _⟩ => ⟨S128x256, .f32⟩
  | .hbm, ⟨14, _⟩ => ⟨S4096x256, .f32⟩
  | .hbm, ⟨15, _⟩ => ⟨S4096x256, .f32⟩
  | .hbm, ⟨16, _⟩ => ⟨S3968x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S4096x256, .f32⟩
  | .hbm, ⟨21, _⟩ => ⟨S4096x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F] [Named F]

def κ : String → Option EReal := fun
  | "mask" => some ⊥
  | _ => none

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.addi c3_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x768 : Shape := ⟨2, ![4096, 768]⟩
abbrev S4096x1536 : Shape := ⟨2, ![4096, 1536]⟩
abbrev S4096x256 : Shape := ⟨2, ![4096, 256]⟩
abbrev S1x4096x4x64 : Shape := ⟨4, ![1, 4096, 4, 64]⟩
abbrev S_ : Shape := ⟨0, ![]⟩
abbrev S1x4096x1x4x64 : Shape := ⟨5, ![1, 4096, 1, 4, 64]⟩
abbrev S1x4x1x4096x64 : Shape := ⟨5, ![1, 4, 1, 4096, 64]⟩
abbrev S1x4x1x32x128x64 : Shape := ⟨6, ![1, 4, 1, 32, 128, 64]⟩
abbrev S1x4x1x1x128x64 : Shape := ⟨6, ![1, 4, 1, 1, 128, 64]⟩
abbrev S1x4x1x31x128x64 : Shape := ⟨6, ![1, 4, 1, 31, 128, 64]⟩
abbrev S1x4x1x32x256x64 : Shape := ⟨6, ![1, 4, 1, 32, 256, 64]⟩
abbrev S1x4x1x32x128x256 : Shape := ⟨6, ![1, 4, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S1x4x1x32x128 : Shape := ⟨5, ![1, 4, 1, 32, 128]⟩
abbrev S1x4x1x32x128x1 : Shape := ⟨6, ![1, 4, 1, 32, 128, 1]⟩
abbrev S1x4x1x4096 : Shape := ⟨4, ![1, 4, 1, 4096]⟩
abbrev S1x4096x1x4 : Shape := ⟨4, ![1, 4096, 1, 4]⟩
abbrev S1x4096x4 : Shape := ⟨3, ![1, 4096, 4]⟩
abbrev S4096x4 : Shape := ⟨2, ![4096, 4]⟩
abbrev S4096x4x64 : Shape := ⟨3, ![4096, 4, 64]⟩
abbrev S1x4x1x32x64x256 : Shape := ⟨6, ![1, 4, 1, 32, 64, 256]⟩
abbrev S4x32x128 : Shape := ⟨3, ![4, 32, 128]⟩

abbrev nBuf : Space → Nat
  | .hbm => 214
  | .vmem => 0
  | .smem => 0
  | _ => 0

abbrev hbmTy0_0 (i : Nat) : BufTy := match i % 128 with
  | 0 => ⟨S4096x768, .f32⟩
  | 1 => ⟨S4096x768, .f32⟩
  | 2 => ⟨S4096x1536, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S1x4096x4x64, .f32⟩
  | 9 => ⟨S1x4096x4x64, .f32⟩
  | 10 => ⟨S1x4096x4x64, .f32⟩
  | 11 => ⟨S_, .i32⟩
  | 12 => ⟨S_, .f32⟩
  | 13 => ⟨S1x4096x4x64, .f32⟩
  | 14 => ⟨S_, .f32⟩
  | 15 => ⟨S1x4096x1x4x64, .f32⟩
  | 16 => ⟨S1x4x1x4096x64, .f32⟩
  | 17 => ⟨S1x4x1x32x128x64, .f32⟩
  | 18 => ⟨S_, .i32⟩
  | 19 => ⟨S_, .f32⟩
  | 20 => ⟨S1x4096x4x64, .f32⟩
  | 21 => ⟨S_, .f32⟩
  | 22 => ⟨S1x4096x1x4x64, .f32⟩
  | 23 => ⟨S1x4x1x4096x64, .f32⟩
  | 24 => ⟨S1x4x1x32x128x64, .f32⟩
  | 25 => ⟨S1x4x1x1x128x64, .f32⟩
  | 26 => ⟨S_, .f32⟩
  | 27 => ⟨S1x4x1x1x128x64, .f32⟩
  | 28 => ⟨S1x4x1x31x128x64, .f32⟩
  | 29 => ⟨S1x4x1x32x128x64, .f32⟩
  | 30 => ⟨S_, .f32⟩
  | 31 => ⟨S1x4x1x1x128x64, .f32⟩
  | 32 => ⟨S1x4x1x32x256x64, .f32⟩
  | 33 => ⟨S_, .i32⟩
  | 34 => ⟨S_, .f32⟩
  | 35 => ⟨S1x4096x4x64, .f32⟩
  | 36 => ⟨S_, .f32⟩
  | 37 => ⟨S1x4096x1x4x64, .f32⟩
  | 38 => ⟨S1x4x1x4096x64, .f32⟩
  | 39 => ⟨S1x4x1x32x128x64, .f32⟩
  | 40 => ⟨S1x4x1x1x128x64, .f32⟩
  | 41 => ⟨S_, .f32⟩
  | 42 => ⟨S1x4x1x1x128x64, .f32⟩
  | 43 => ⟨S1x4x1x31x128x64, .f32⟩
  | 44 => ⟨S1x4x1x32x128x64, .f32⟩
  | 45 => ⟨S_, .f32⟩
  | 46 => ⟨S1x4x1x1x128x64, .f32⟩
  | 47 => ⟨S1x4x1x32x256x64, .f32⟩
  | 48 => ⟨S1x4x1x32x128x256, .f32⟩
  | 49 => ⟨S_, .f32⟩
  | 50 => ⟨S1x4x1x32x128x256, .f32⟩
  | 51 => ⟨S1x4x1x32x128x256, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i1⟩
  | 68 => ⟨S128x256, .i1⟩
  | 69 => ⟨S1x128x256, .i1⟩
  | 70 => ⟨S32, .i32⟩
  | 71 => ⟨S_, .i32⟩
  | 72 => ⟨S32, .i32⟩
  | 73 => ⟨S32, .i1⟩
  | 74 => ⟨S32x1x1, .i1⟩
  | 75 => ⟨S_, .i32⟩
  | 76 => ⟨S1x256, .i32⟩
  | 77 => ⟨S1x256, .i1⟩
  | 78 => ⟨S1x1x256, .i1⟩
  | 79 => ⟨S32x1x256, .i1⟩
  | 80 => ⟨S32x1x256, .i1⟩
  | 81 => ⟨S32x1x256, .i1⟩
  | 82 => ⟨S32x128x256, .i1⟩
  | 83 => ⟨S32x128x256, .i1⟩
  | 84 => ⟨S32x128x256, .i1⟩
  | 85 => ⟨S_, .f32⟩
  | 86 => ⟨S_, .f32⟩
  | 87 => ⟨S1x4x1x32x128x256, .i1⟩
  | 88 => ⟨S1x4x1x32x128x256, .f32⟩
  | 89 => ⟨S1x4x1x32x128x256, .f32⟩
  | 90 => ⟨S_, .f32⟩
  | 91 => ⟨S1x4x1x32x128x256, .f32⟩
  | 92 => ⟨S_, .f32⟩
  | 93 => ⟨S1x4x1x32x128, .f32⟩
  | 94 => ⟨S1x4x1x32x128x1, .f32⟩
  | 95 => ⟨S1x4x1x32x128x256, .f32⟩
  | 96 => ⟨S1x4x1x32x128x256, .i1⟩
  | 97 => ⟨S1x4x1x32x128x256, .f32⟩
  | 98 => ⟨S_, .f32⟩
  | 99 => ⟨S1x4x1x32x128, .f32⟩
  | 100 => ⟨S1x4x1x32x128x1, .f32⟩
  | 101 => ⟨S1x4x1x32x128x256, .f32⟩
  | 102 => ⟨S1x4x1x32x128x256, .f32⟩
  | 103 => ⟨S1x4x1x32x128x256, .f32⟩
  | 104 => ⟨S_, .f32⟩
  | 105 => ⟨S1x4x1x32x128, .f32⟩
  | 106 => ⟨S1x4x1x32x128x1, .f32⟩
  | 107 => ⟨S1x4x1x32x128x64, .f32⟩
  | 108 => ⟨S1x4x1x32x128x64, .f32⟩
  | 109 => ⟨S1x4x1x32x128x64, .f32⟩
  | 110 => ⟨S1x4x1x32x128x1, .f32⟩
  | 111 => ⟨S_, .f32⟩
  | 112 => ⟨S1x4x1x32x128x1, .f32⟩
  | 113 => ⟨S1x4x1x32x128x1, .f32⟩
  | 114 => ⟨S1x4x1x32x128x1, .f32⟩
  | 115 => ⟨S1x4x1x32x128x1, .f32⟩
  | 116 => ⟨S1x4x1x32x128, .f32⟩
  | 117 => ⟨S1x4x1x4096x64, .f32⟩
  | 118 => ⟨S1x4096x1x4x64, .f32⟩
  | 119 => ⟨S1x4096x4x64, .f32⟩
  | 120 => ⟨S1x4x1x4096, .f32⟩
  | 121 => ⟨S1x4096x1x4, .f32⟩
  | 122 => ⟨S1x4096x4, .f32⟩
  | 123 => ⟨S4096x256, .f32⟩
  | 124 => ⟨S4096x4, .f32⟩
  | 125 => ⟨S4096x4x64, .f32⟩
  | 126 => ⟨S4096x256, .f32⟩
  | 127 => ⟨S4096x4x64, .f32⟩
  | _ => ⟨S4096x768, .f32⟩

abbrev hbmTy0_1 (i : Nat) : BufTy := match i % 128 with
  | 0 => ⟨S_, .f32⟩
  | 1 => ⟨S4096x4, .f32⟩
  | 2 => ⟨S1x4096x4, .f32⟩
  | 3 => ⟨S1x4096x4x64, .f32⟩
  | 4 => ⟨S1x4096x1x4, .f32⟩
  | 5 => ⟨S1x4x1x4096, .f32⟩
  | 6 => ⟨S1x4x1x32x128, .f32⟩
  | 7 => ⟨S1x4096x1x4x64, .f32⟩
  | 8 => ⟨S1x4x1x4096x64, .f32⟩
  | 9 => ⟨S1x4x1x32x128x64, .f32⟩
  | 10 => ⟨S1x4x1x32x128x1, .f32⟩
  | 11 => ⟨S1x4x1x32x128x1, .f32⟩
  | 12 => ⟨S1x4x1x32x128x64, .f32⟩
  | 13 => ⟨S1x4x1x32x128x64, .f32⟩
  | 14 => ⟨S1x4x1x32x128x64, .f32⟩
  | 15 => ⟨S_, .f32⟩
  | 16 => ⟨S1x4x1x32x128, .f32⟩
  | 17 => ⟨S1x4x1x32x128x1, .f32⟩
  | 18 => ⟨S1x4x1x32x128x1, .f32⟩
  | 19 => ⟨S1x4x1x32x128x1, .f32⟩
  | 20 => ⟨S1x4x1x32x128x64, .f32⟩
  | 21 => ⟨S1x4x1x32x128x64, .f32⟩
  | 22 => ⟨S1x4x1x32x64x256, .f32⟩
  | 23 => ⟨S1x4x1x32x256x64, .f32⟩
  | 24 => ⟨S1x4x1x32x128x256, .f32⟩
  | 25 => ⟨S_, .f32⟩
  | 26 => ⟨S4x32x128, .f32⟩
  | 27 => ⟨S1x4x1x32x128, .f32⟩
  | 28 => ⟨S1x4x1x32x128x256, .f32⟩
  | 29 => ⟨S1x4x1x32x128x256, .f32⟩
  | 30 => ⟨S1x4x1x32x128x256, .f32⟩
  | 31 => ⟨S1x4x1x32x128x256, .f32⟩
  | 32 => ⟨S_, .f32⟩
  | 33 => ⟨S1x4x1x32x128, .f32⟩
  | 34 => ⟨S1x4x1x32x128x1, .f32⟩
  | 35 => ⟨S1x4x1x32x128x1, .f32⟩
  | 36 => ⟨S_, .f32⟩
  | 37 => ⟨S4x32x128, .f32⟩
  | 38 => ⟨S1x4x1x32x128, .f32⟩
  | 39 => ⟨S1x4x1x32x128, .f32⟩
  | 40 => ⟨S1x4x1x32x128x256, .f32⟩
  | 41 => ⟨S1x4x1x32x128x256, .f32⟩
  | 42 => ⟨S1x4x1x32x128x256, .f32⟩
  | 43 => ⟨S_, .f32⟩
  | 44 => ⟨S1x4x1x32x128x256, .f32⟩
  | 45 => ⟨S1x4x1x32x128x256, .f32⟩
  | 46 => ⟨S_, .f32⟩
  | 47 => ⟨S1x4x1x32x128x256, .f32⟩
  | 48 => ⟨S1x4x1x32x128x256, .f32⟩
  | 49 => ⟨S1x4x1x32x256x64, .f32⟩
  | 50 => ⟨S1x4x1x32x128x64, .f32⟩
  | 51 => ⟨S1x4x1x32x128x64, .f32⟩
  | 52 => ⟨S1x4x1x32x128x64, .f32⟩
  | 53 => ⟨S1x4x1x1x128x64, .f32⟩
  | 54 => ⟨S1x4x1x31x128x64, .f32⟩
  | 55 => ⟨S_, .f32⟩
  | 56 => ⟨S1x4x1x32x128x64, .f32⟩
  | 57 => ⟨S1x4x1x32x128x64, .f32⟩
  | 58 => ⟨S1x4x1x4096x64, .f32⟩
  | 59 => ⟨S1x4096x1x4x64, .f32⟩
  | 60 => ⟨S1x4096x4x64, .f32⟩
  | 61 => ⟨S_, .f32⟩
  | 62 => ⟨S1x4096x4x64, .f32⟩
  | 63 => ⟨S1x4096x4x64, .f32⟩
  | 64 => ⟨S1x4x1x32x128x64, .f32⟩
  | 65 => ⟨S1x4x1x32x128x64, .f32⟩
  | 66 => ⟨S1x4x1x1x128x64, .f32⟩
  | 67 => ⟨S1x4x1x31x128x64, .f32⟩
  | 68 => ⟨S_, .f32⟩
  | 69 => ⟨S1x4x1x32x128x64, .f32⟩
  | 70 => ⟨S1x4x1x32x128x64, .f32⟩
  | 71 => ⟨S1x4x1x4096x64, .f32⟩
  | 72 => ⟨S1x4096x1x4x64, .f32⟩
  | 73 => ⟨S1x4096x4x64, .f32⟩
  | 74 => ⟨S_, .f32⟩
  | 75 => ⟨S1x4096x4x64, .f32⟩
  | 76 => ⟨S1x4096x4x64, .f32⟩
  | 77 => ⟨S1x4x1x4096x64, .f32⟩
  | 78 => ⟨S1x4096x1x4x64, .f32⟩
  | 79 => ⟨S1x4096x4x64, .f32⟩
  | 80 => ⟨S_, .f32⟩
  | 81 => ⟨S1x4096x4x64, .f32⟩
  | 82 => ⟨S1x4096x4x64, .f32⟩
  | 83 => ⟨S4096x256, .f32⟩
  | 84 => ⟨S4096x256, .f32⟩
  | 85 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call2_v0 : Ref sig .tc := ⟨.hbm, 34, rfl⟩
abbrev main_v20_0 : Ref sig .tc := ⟨.hbm, 35, rfl⟩
abbrev main_v20_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_call3_v0 : Ref sig .tc := ⟨.hbm, 86, rfl⟩
abbrev main_v61_1 : Ref sig .tc := ⟨.hbm, 87, rfl⟩
abbrev main_call3_v2 : Ref sig .tc := ⟨.hbm, 88, rfl⟩
abbrev main_v61_0 : Ref sig .tc := ⟨.hbm, 89, rfl⟩
abbrev main_call3_cst : Ref sig .tc := ⟨.hbm, 90, rfl⟩
abbrev main_v61_2 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_17 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_18 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_19 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_20 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_call4_cst : Ref sig .tc := ⟨.hbm, 171, rfl⟩
abbrev main_call4_v0 : Ref sig .tc := ⟨.hbm, 172, rfl⟩
abbrev main_v132 : Ref sig .tc := ⟨.hbm, 173, rfl⟩
abbrev main_cst_21 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_22 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_call5_cst : Ref sig .tc := ⟨.hbm, 189, rfl⟩
abbrev main_call5_v0 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_23 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_call6_cst : Ref sig .tc := ⟨.hbm, 202, rfl⟩
abbrev main_call6_v0 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_call7_cst : Ref sig .tc := ⟨.hbm, 208, rfl⟩
abbrev main_call7_v0 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDx.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x1024, .f32⟩
  | .local _ .vmem, ⟨0, _⟩ => ⟨S2048x1408, .bf16⟩
  | .local _ .vmem, ⟨1, _⟩ => ⟨S2048x1408, .bf16⟩
  | .local _ .vmem, ⟨2, _⟩ => ⟨S1408x512, .bf16⟩
  | .local _ .vmem, ⟨3, _⟩ => ⟨S1408x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x5632, .f32⟩
  | .hbm, ⟨6, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S2816x1024, .bf16⟩
  | .hbm, ⟨4, _⟩ => ⟨S4096x1024, .f32⟩
  | .local _ .vmem, ⟨0, _⟩ => ⟨S2048x1408, .bf16⟩
  | .local _ .vmem, ⟨1, _⟩ => ⟨S2048x1408, .bf16⟩
  | .local _ .vmem, ⟨2, _⟩ => ⟨S1408x512, .bf16⟩
  | .local _ .vmem, ⟨3, _⟩ => ⟨S1408x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2816x1024, .bf16⟩
  | .hbm, ⟨3, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S2816x1024, .f32⟩
  | .hbm, ⟨3, _⟩ => ⟨S2816x1024, .bf16⟩
  | .hbm, ⟨4, _⟩ => ⟨S4096x1024, .f32⟩
  | .local _ .vmem, ⟨0, _⟩ => ⟨S2048x1408, .bf16⟩
  | .local _ .vmem, ⟨1, _⟩ => ⟨S2048x1408, .bf16⟩
  | .local _ .vmem, ⟨2, _⟩ => ⟨S1408x512, .bf16⟩
  | .local _ .vmem, ⟨3, _⟩ => ⟨S1408x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S_, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== StepOut.lean ====
abbrev S8x1x128x1024 : Shape := ⟨4, ![8, 1, 128, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x1x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepOutIdeal.lean ====
abbrev S8x1x128x1024 : Shape := ⟨4, ![8, 1, 128, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x1x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepOutRefIdeal.lean ====
abbrev S8x1x128x1024 : Shape := ⟨4, ![8, 1, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x1x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x1x128x1024, .f32⟩
  | .hbm, ⟨5, _⟩ => ⟨S_, .f32⟩
  | .hbm, ⟨6, _⟩ => ⟨S1x128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | _, _ => ⟨S8x1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== StepMem.lean ====
abbrev S8x2x128x512 : Shape := ⟨4, ![8, 2, 128, 512]⟩
abbrev S2x128x512 : Shape := ⟨3, ![2, 128, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2x128x512, .bf16⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S8x256x512, .bf16⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepMemIdeal.lean ====
abbrev S8x2x128x512 : Shape := ⟨4, ![8, 2, 128, 512]⟩
abbrev S2x128x512 : Shape := ⟨3, ![2, 128, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x2x128x512, .bf16⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S8x256x512, .bf16⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepMemRefIdeal.lean ====
abbrev S8x2x128x512 : Shape := ⟨4, ![8, 2, 128, 512]⟩
abbrev S2x128x512 : Shape := ⟨3, ![2, 128, 512]⟩
abbrev S_ : Shape := ⟨0, ![]⟩
abbrev S256x512 : Shape := ⟨2, ![256, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x2x128x512, .bf16⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S8x2x128x512, .f32⟩
  | .hbm, ⟨5, _⟩ => ⟨S_, .f32⟩
  | .hbm, ⟨6, _⟩ => ⟨S2x128x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | .hbm, ⟨40, _⟩ => ⟨S256x512, .f32⟩
  | .hbm, ⟨41, _⟩ => ⟨S_, .f32⟩
  | .hbm, ⟨42, _⟩ => ⟨S256x512, .f32⟩
  | .hbm, ⟨43, _⟩ => ⟨S256x512, .f32⟩
  | _, _ => ⟨S8x2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== StepDown.lean ====
abbrev S8x2x352x1024 : Shape := ⟨4, ![8, 2, 352, 1024]⟩
abbrev S2x352x1024 : Shape := ⟨3, ![2, 352, 1024]⟩
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x2x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S8x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownIdeal.lean ====
abbrev S8x2x352x1024 : Shape := ⟨4, ![8, 2, 352, 1024]⟩
abbrev S2x352x1024 : Shape := ⟨3, ![2, 352, 1024]⟩
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x2x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S8x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownRefIdeal.lean ====
abbrev S8x2x352x1024 : Shape := ⟨4, ![8, 2, 352, 1024]⟩
abbrev S2x352x1024 : Shape := ⟨3, ![2, 352, 1024]⟩
abbrev S_ : Shape := ⟨0, ![]⟩
abbrev S704x1024 : Shape := ⟨2, ![704, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S8x2x352x1024, .f32⟩
  | .hbm, ⟨5, _⟩ => ⟨S_, .f32⟩
  | .hbm, ⟨6, _⟩ => ⟨S2x352x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | _, _ => ⟨S8x2x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== SumIn.lean ====
abbrev S8x1x352x1024 : Shape := ⟨4, ![8, 1, 352, 1024]⟩
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x1x352x1024, .bf16⟩
  | .hbm, ⟨1, _⟩ => ⟨S8x352x1024, .bf16⟩
  | .hbm, ⟨2, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | _, _ => ⟨S8x1x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S8x1x352x1024 : Shape := ⟨4, ![8, 1, 352, 1024]⟩
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x1x352x1024, .bf16⟩
  | .hbm, ⟨1, _⟩ => ⟨S8x352x1024, .bf16⟩
  | .hbm, ⟨2, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | _, _ => ⟨S8x1x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x1x352x1024 : Shape := ⟨4, ![8, 1, 352, 1024]⟩
abbrev S_ : Shape := ⟨0, ![]⟩
abbrev S1x352x1024 : Shape := ⟨3, ![1, 352, 1024]⟩
abbrev S352x1024 : Shape := ⟨2, ![352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x1x352x1024, .bf16⟩
  | .hbm, ⟨1, _⟩ => ⟨S8x1x352x1024, .f32⟩
  | .hbm, ⟨2, _⟩ => ⟨S_, .f32⟩
  | .hbm, ⟨3, _⟩ => ⟨S1x352x1024, .f32⟩
  | .hbm, ⟨4, _⟩ => ⟨S352x1024, .f32⟩
  | _, _ => ⟨S8x1x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumKv.lean ====
abbrev S8x1x192x1024 : Shape := ⟨4, ![8, 1, 192, 1024]⟩
abbrev S8x192x1024 : Shape := ⟨3, ![8, 192, 1024]⟩
abbrev S192x1024 : Shape := ⟨2, ![192, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x1x192x1024, .bf16⟩
  | .hbm, ⟨1, _⟩ => ⟨S8x192x1024, .bf16⟩
  | .hbm, ⟨2, _⟩ => ⟨S192x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x1x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumKvIdeal.lean ====
abbrev S8x1x192x1024 : Shape := ⟨4, ![8, 1, 192, 1024]⟩
abbrev S8x192x1024 : Shape := ⟨3, ![8, 192, 1024]⟩
abbrev S192x1024 : Shape := ⟨2, ![192, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x1x192x1024, .bf16⟩
  | .hbm, ⟨1, _⟩ => ⟨S8x192x1024, .bf16⟩
  | .hbm, ⟨2, _⟩ => ⟨S192x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x1x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumKvRefIdeal.lean ====
abbrev S8x1x192x1024 : Shape := ⟨4, ![8, 1, 192, 1024]⟩
abbrev S_ : Shape := ⟨0, ![]⟩
abbrev S1x192x1024 : Shape := ⟨3, ![1, 192, 1024]⟩
abbrev S192x1024 : Shape := ⟨2, ![192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x1x192x1024, .bf16⟩
  | .hbm, ⟨1, _⟩ => ⟨S8x1x192x1024, .f32⟩
  | .hbm, ⟨2, _⟩ => ⟨S_, .f32⟩
  | .hbm, ⟨3, _⟩ => ⟨S1x192x1024, .f32⟩
  | .hbm, ⟨4, _⟩ => ⟨S192x1024, .f32⟩
  | _, _ => ⟨S8x1x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumMix.lean ====
abbrev S8x1x128x512 : Shape := ⟨4, ![8, 1, 128, 512]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 3
  | .vmem => 2
  | .smem => 0
  | _ => 0

abbrev bufTy : (tb : Table) → Fin (tcTables nBuf tb) → BufTy
  | .hbm, ⟨0, _⟩ => ⟨S8x1x128x512, .bf16⟩
  | .hbm, ⟨1, _⟩ => ⟨S8x128x512, .bf16⟩
  | .hbm, ⟨2, _⟩ => ⟨S128x512, .f32⟩
  | .local _ .vmem, ⟨0, _⟩ => ⟨S8x128x512, .bf16⟩
  | .local _ .vmem, ⟨1, _⟩ => ⟨S128x512, .f32⟩
  | _, _ => ⟨S8x1x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMixIdeal.lean ====
abbrev S8x1x128x512 : Shape := ⟨4, ![8, 1, 128, 512]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 3
  | .vmem => 2
  | .smem => 0
  | _ => 0

abbrev bufTy : (tb : Table) → Fin (tcTables nBuf tb) → BufTy
  | .hbm, ⟨0, _⟩ => ⟨S8x1x128x512, .bf16⟩
  | .hbm, ⟨1, _⟩ => ⟨S8x128x512, .bf16⟩
  | .hbm, ⟨2, _⟩ => ⟨S128x512, .f32⟩
  | .local _ .vmem, ⟨0, _⟩ => ⟨S8x128x512, .bf16⟩
  | .local _ .vmem, ⟨1, _⟩ => ⟨S128x512, .f32⟩
  | _, _ => ⟨S8x1x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMixRefIdeal.lean ====
abbrev S8x1x128x512 : Shape := ⟨4, ![8, 1, 128, 512]⟩
abbrev S_ : Shape := ⟨0, ![]⟩
abbrev S1x128x512 : Shape := ⟨3, ![1, 128, 512]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S8x1x128x512, .bf16⟩
  | .hbm, ⟨1, _⟩ => ⟨S8x1x128x512, .f32⟩
  | .hbm, ⟨2, _⟩ => ⟨S_, .f32⟩
  | .hbm, ⟨3, _⟩ => ⟨S1x128x512, .f32⟩
  | .hbm, ⟨4, _⟩ => ⟨S128x512, .f32⟩
  | _, _ => ⟨S8x1x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumUp.lean ====
abbrev S8x2x704x1024 : Shape := ⟨4, ![8, 2, 704, 1024]⟩
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x2x704x1024, .bf16⟩
  | .hbm, ⟨1, _⟩ => ⟨S8x1408x1024, .bf16⟩
  | .hbm, ⟨2, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x2x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S8x2x704x1024 : Shape := ⟨4, ![8, 2, 704, 1024]⟩
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x2x704x1024, .bf16⟩
  | .hbm, ⟨1, _⟩ => ⟨S8x1408x1024, .bf16⟩
  | .hbm, ⟨2, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | _, _ => ⟨S8x2x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x2x704x1024 : Shape := ⟨4, ![8, 2, 704, 1024]⟩
abbrev S_ : Shape := ⟨0, ![]⟩
abbrev S2x704x1024 : Shape := ⟨3, ![2, 704, 1024]⟩
abbrev S1408x1024 : Shape := ⟨2, ![1408, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x2x704x1024, .bf16⟩
  | .hbm, ⟨1, _⟩ => ⟨S8x2x704x1024, .f32⟩
  | .hbm, ⟨2, _⟩ => ⟨S_, .f32⟩
  | .hbm, ⟨3, _⟩ => ⟨S2x704x1024, .f32⟩
  | .hbm, ⟨4, _⟩ => ⟨S1408x1024, .f32⟩
  | _, _ => ⟨S8x2x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StepIn.lean ====
abbrev S1x352x1024 : Shape := ⟨3, ![1, 352, 1024]⟩
abbrev S1x1024x352 : Shape := ⟨3, ![1, 1024, 352]⟩
abbrev S1024x352 : Shape := ⟨2, ![1024, 352]⟩
abbrev S1x512x352 : Shape := ⟨3, ![1, 512, 352]⟩
abbrev S512x352 : Shape := ⟨2, ![512, 352]⟩

abbrev nBuf : Space → Nat
  | .hbm => 13
  | .vmem => 16
  | .smem => 0
  | _ => 0

abbrev bufTy : (tb : Table) → Fin (tcTables nBuf tb) → BufTy
  | .hbm, ⟨0, _⟩ => ⟨S1x352x1024, .f32⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S1024x352, .f32⟩
  | .hbm, ⟨12, _⟩ => ⟨S1024x352, .f32⟩
  | .local _ .vmem, ⟨0, _⟩ => ⟨S1x512x352, .f32⟩
  | .local _ .vmem, ⟨1, _⟩ => ⟨S1x512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S1x352x1024 : Shape := ⟨3, ![1, 352, 1024]⟩
abbrev S1x1024x352 : Shape := ⟨3, ![1, 1024, 352]⟩
abbrev S1024x352 : Shape := ⟨2, ![1024, 352]⟩
abbrev S1x512x352 : Shape := ⟨3, ![1, 512, 352]⟩
abbrev S512x352 : Shape := ⟨2, ![512, 352]⟩

abbrev nBuf : Space → Nat
  | .hbm => 13
  | .vmem => 16
  | .smem => 0
  | _ => 0

abbrev bufTy : (tb : Table) → Fin (tcTables nBuf tb) → BufTy
  | .hbm, ⟨0, _⟩ => ⟨S1x352x1024, .f32⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S1024x352, .f32⟩
  | .hbm, ⟨12, _⟩ => ⟨S1024x352, .f32⟩
  | .local _ .vmem, ⟨0, _⟩ => ⟨S1x512x352, .f32⟩
  | .local _ .vmem, ⟨1, _⟩ => ⟨S1x512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInRefIdeal.lean ====
abbrev S1x352x1024 : Shape := ⟨3, ![1, 352, 1024]⟩
abbrev S1x1024x352 : Shape := ⟨3, ![1, 1024, 352]⟩
abbrev S1024x352 : Shape := ⟨2, ![1024, 352]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S1024x352, .f32⟩
  | .hbm, ⟨9, _⟩ => ⟨S_, .f32⟩
  | .hbm, ⟨10, _⟩ => ⟨S1024x352, .f32⟩
  | .hbm, ⟨11, _⟩ => ⟨S1024x352, .f32⟩
  | .hbm, ⟨12, _⟩ => ⟨S_, .f32⟩
  | .hbm, ⟨13, _⟩ => ⟨S1024x352, .f32⟩
  | .hbm, ⟨14, _⟩ => ⟨S1024x352, .f32⟩
  | .hbm, ⟨15, _⟩ => ⟨S1024x352, .f32⟩
  | .hbm, ⟨16, _⟩ => ⟨S_, .f32⟩
  | .hbm, ⟨17, _⟩ => ⟨S1024x352, .f32⟩
  | .hbm, ⟨18, _⟩ => ⟨S1024x352, .f32⟩
  | .hbm, ⟨19, _⟩ => ⟨S1024x352, .f32⟩
  | .hbm, ⟨20, _⟩ => ⟨S_, .f32⟩
  | .hbm, ⟨21, _⟩ => ⟨S1024x352, .f32⟩
  | .hbm, ⟨22, _⟩ => ⟨S1024x352, .f32⟩
  | .hbm, ⟨23, _⟩ => ⟨S1024x352, .f32⟩
  | .hbm, ⟨24, _⟩ => ⟨S_, .f32⟩
  | .hbm, ⟨25, _⟩ => ⟨S1024x352, .f32⟩
  | .hbm, ⟨26, _⟩ => ⟨S1024x352, .f32⟩
  | .hbm, ⟨27, _⟩ => ⟨S_, .f32⟩
  | .hbm, ⟨28, _⟩ => ⟨S1024x352, .f32⟩
  | .hbm, ⟨29, _⟩ => ⟨S1024x352, .f32⟩
  | .hbm, ⟨30, _⟩ => ⟨S1024x352, .f32⟩
  | .hbm, ⟨31, _⟩ => ⟨S_, .f32⟩
  | .hbm, ⟨32, _⟩ => ⟨S1024x352, .f32⟩
  | .hbm, ⟨33, _⟩ => ⟨S1024x352, .f32⟩
  | .hbm, ⟨34, _⟩ => ⟨S1024x352, .f32⟩
  | .hbm, ⟨35, _⟩ => ⟨S_, .f32⟩
  | .hbm, ⟨36, _⟩ => ⟨S1024x352, .f32⟩
  | .hbm, ⟨37, _⟩ => ⟨S1024x352, .f32⟩
  | .hbm, ⟨38, _⟩ => ⟨S1024x352, .f32⟩
  | .hbm, ⟨39, _⟩ => ⟨S_, .f32⟩
  | .hbm, ⟨40, _⟩ => ⟨S1024x352, .f32⟩
  | .hbm, ⟨41, _⟩ => ⟨S1024x352, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== StepKv.lean ====
abbrev S1x192x1024 : Shape := ⟨3, ![1, 192, 1024]⟩
abbrev S1024x192 : Shape := ⟨2, ![1024, 192]⟩
abbrev S1x1024x192 : Shape := ⟨3, ![1, 1024, 192]⟩
abbrev S1x512x192 : Shape := ⟨3, ![1, 512, 192]⟩
abbrev S512x192 : Shape := ⟨2, ![512, 192]⟩

abbrev nBuf : Space → Nat
  | .hbm => 9
  | .vmem => 16
  | .smem => 0
  | _ => 0

abbrev bufTy : (tb : Table) → Fin (tcTables nBuf tb) → BufTy
  | .hbm, ⟨0, _⟩ => ⟨S1x192x1024, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1x1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .local _ .vmem, ⟨0, _⟩ => ⟨S1x512x192, .f32⟩
  | .local _ .vmem, ⟨1, _⟩ => ⟨S1x512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | .local _ .vmem, ⟨14, _⟩ => ⟨S512x192, .f32⟩
  | .local _ .vmem, ⟨15, _⟩ => ⟨S512x192, .f32⟩
  | _, _ => ⟨S1x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepKvIdeal.lean ====
abbrev S1x192x1024 : Shape := ⟨3, ![1, 192, 1024]⟩
abbrev S1024x192 : Shape := ⟨2, ![1024, 192]⟩
abbrev S1x1024x192 : Shape := ⟨3, ![1, 1024, 192]⟩
abbrev S1x512x192 : Shape := ⟨3, ![1, 512, 192]⟩
abbrev S512x192 : Shape := ⟨2, ![512, 192]⟩

abbrev nBuf : Space → Nat
  | .hbm => 9
  | .vmem => 16
  | .smem => 0
  | _ => 0

abbrev bufTy : (tb : Table) → Fin (tcTables nBuf tb) → BufTy
  | .hbm, ⟨0, _⟩ => ⟨S1x192x1024, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1x1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .local _ .vmem, ⟨0, _⟩ => ⟨S1x512x192, .f32⟩
  | .local _ .vmem, ⟨1, _⟩ => ⟨S1x512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | .local _ .vmem, ⟨14, _⟩ => ⟨S512x192, .f32⟩
  | .local _ .vmem, ⟨15, _⟩ => ⟨S512x192, .f32⟩
  | _, _ => ⟨S1x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepKvRefIdeal.lean ====
abbrev S1x192x1024 : Shape := ⟨3, ![1, 192, 1024]⟩
abbrev S1024x192 : Shape := ⟨2, ![1024, 192]⟩
abbrev S1x1024x192 : Shape := ⟨3, ![1, 1024, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x192x1024, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1x1024x192, .f32⟩
  | .hbm, ⟨5, _⟩ => ⟨S1024x192, .f32⟩
  | .hbm, ⟨6, _⟩ => ⟨S_, .f32⟩
  | .hbm, ⟨7, _⟩ => ⟨S1024x192, .f32⟩
  | .hbm, ⟨8, _⟩ => ⟨S1024x192, .f32⟩
  | .hbm, ⟨9, _⟩ => ⟨S_, .f32⟩
  | .hbm, ⟨10, _⟩ => ⟨S1024x192, .f32⟩
  | .hbm, ⟨11, _⟩ => ⟨S1024x192, .f32⟩
  | .hbm, ⟨12, _⟩ => ⟨S1024x192, .f32⟩
  | .hbm, ⟨13, _⟩ => ⟨S_, .f32⟩
  | .hbm, ⟨14, _⟩ => ⟨S1024x192, .f32⟩
  | .hbm, ⟨15, _⟩ => ⟨S1024x192, .f32⟩
  | .hbm, ⟨16, _⟩ => ⟨S1024x192, .f32⟩
  | .hbm, ⟨17, _⟩ => ⟨S_, .f32⟩
  | .hbm, ⟨18, _⟩ => ⟨S1024x192, .f32⟩
  | .hbm, ⟨19, _⟩ => ⟨S1024x192, .f32⟩
  | .hbm, ⟨20, _⟩ => ⟨S1024x192, .f32⟩
  | .hbm, ⟨21, _⟩ => ⟨S_, .f32⟩
  | .hbm, ⟨22, _⟩ => ⟨S1024x192, .f32⟩
  | .hbm, ⟨23, _⟩ => ⟨S1024x192, .f32⟩
  | .hbm, ⟨24, _⟩ => ⟨S_, .f32⟩
  | .hbm, ⟨25, _⟩ => ⟨S1024x192, .f32⟩
  | .hbm, ⟨26, _⟩ => ⟨S1024x192, .f32⟩
  | .hbm, ⟨27, _⟩ => ⟨S1024x192, .f32⟩
  | .hbm, ⟨28, _⟩ => ⟨S_, .f32⟩
  | .hbm, ⟨29, _⟩ => ⟨S1024x192, .f32⟩
  | .hbm, ⟨30, _⟩ => ⟨S1024x192, .f32⟩
  | .hbm, ⟨31, _⟩ => ⟨S1024x192, .f32⟩
  | .hbm, ⟨32, _⟩ => ⟨S_, .f32⟩
  | .hbm, ⟨33, _⟩ => ⟨S1024x192, .f32⟩
  | .hbm, ⟨34, _⟩ => ⟨S1024x192, .f32⟩
  | .hbm, ⟨35, _⟩ => ⟨S1024x192, .f32⟩
  | .hbm, ⟨36, _⟩ => ⟨S_, .f32⟩
  | .hbm, ⟨37, _⟩ => ⟨S1024x192, .f32⟩
  | .hbm, ⟨38, _⟩ => ⟨S1024x192, .f32⟩
  | _, _ => ⟨S1x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== StepMix.lean ====
abbrev S1x128x512 : Shape := ⟨3, ![1, 128, 512]⟩
abbrev S1x512x128 : Shape := ⟨3, ![1, 512, 128]⟩
abbrev S512x128 : Shape := ⟨2, ![512, 128]⟩

abbrev nBuf : Space → Nat
  | .hbm => 13
  | .vmem => 8
  | .smem => 0
  | _ => 0

abbrev bufTy : (tb : Table) → Fin (tcTables nBuf tb) → BufTy
  | .hbm, ⟨0, _⟩ => ⟨S1x128x512, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x128, .f32⟩
  | .local _ .vmem, ⟨0, _⟩ => ⟨S1x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepMixIdeal.lean ====
abbrev S1x128x512 : Shape := ⟨3, ![1, 128, 512]⟩
abbrev S1x512x128 : Shape := ⟨3, ![1, 512, 128]⟩
abbrev S512x128 : Shape := ⟨2, ![512, 128]⟩

abbrev nBuf : Space → Nat
  | .hbm => 13
  | .vmem => 8
  | .smem => 0
  | _ => 0

abbrev bufTy : (tb : Table) → Fin (tcTables nBuf tb) → BufTy
  | .hbm, ⟨0, _⟩ => ⟨S1x128x512, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x128, .f32⟩
  | .local _ .vmem, ⟨0, _⟩ => ⟨S1x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepMixRefIdeal.lean ====
abbrev S1x128x512 : Shape := ⟨3, ![1, 128, 512]⟩
abbrev S1x512x128 : Shape := ⟨3, ![1, 512, 128]⟩
abbrev S512x128 : Shape := ⟨2, ![512, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== StepUp.lean ====
abbrev S2x704x1024 : Shape := ⟨3, ![2, 704, 1024]⟩
abbrev S2x1024x704 : Shape := ⟨3, ![2, 1024, 704]⟩
abbrev S2048x704 : Shape := ⟨2, ![2048, 704]⟩
abbrev S1x2048x704 : Shape := ⟨3, ![1, 2048, 704]⟩
abbrev S1x512x704 : Shape := ⟨3, ![1, 512, 704]⟩
abbrev S512x704 : Shape := ⟨2, ![512, 704]⟩

abbrev nBuf : Space → Nat
  | .hbm => 14
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2048x704, .f32⟩
  | .hbm, ⟨6, _⟩ => ⟨S1x2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2048x704, .f32⟩
  | .hbm, ⟨12, _⟩ => ⟨S2048x704, .f32⟩
  | .hbm, ⟨13, _⟩ => ⟨S2048x704, .f32⟩
  | .local _ .vmem, ⟨0, _⟩ => ⟨S1x512x704, .f32⟩
  | .local _ .vmem, ⟨1, _⟩ => ⟨S1x512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpIdeal.lean ====
abbrev S2x704x1024 : Shape := ⟨3, ![2, 704, 1024]⟩
abbrev S2x1024x704 : Shape := ⟨3, ![2, 1024, 704]⟩
abbrev S2048x704 : Shape := ⟨2, ![2048, 704]⟩
abbrev S1x2048x704 : Shape := ⟨3, ![1, 2048, 704]⟩
abbrev S1x512x704 : Shape := ⟨3, ![1, 512, 704]⟩
abbrev S512x704 : Shape := ⟨2, ![512, 704]⟩

abbrev nBuf : Space → Nat
  | .hbm => 14
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2048x704, .f32⟩
  | .hbm, ⟨6, _⟩ => ⟨S1x2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2048x704, .f32⟩
  | .hbm, ⟨12, _⟩ => ⟨S2048x704, .f32⟩
  | .hbm, ⟨13, _⟩ => ⟨S2048x704, .f32⟩
  | .local _ .vmem, ⟨0, _⟩ => ⟨S1x512x704, .f32⟩
  | .local _ .vmem, ⟨1, _⟩ => ⟨S1x512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpRefIdeal.lean ====
abbrev S2x704x1024 : Shape := ⟨3, ![2, 704, 1024]⟩
abbrev S2x1024x704 : Shape := ⟨3, ![2, 1024, 704]⟩
abbrev S2048x704 : Shape := ⟨2, ![2048, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== SumSmall.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .local _ .vmem, ⟨0, _⟩ => ⟨S8x256x128, .f32⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .local _ .vmem, ⟨0, _⟩ => ⟨S8x256x128, .f32⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x256x128 : Shape := ⟨3, ![8, 256, 128]⟩
abbrev S_ : Shape := ⟨0, ![]⟩
abbrev S256x128 : Shape := ⟨2, ![256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S_, .f32⟩
  | .hbm, ⟨2, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== StepSmall.lean ====
abbrev S512x128 : Shape := ⟨2, ![512, 128]⟩
abbrev S1x512x128 : Shape := ⟨3, ![1, 512, 128]⟩

abbrev nBuf : Space → Nat
  | .hbm => 9
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S1x512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S1x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== StepSmallRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormDx.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormDxRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNorm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormTwo.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormTwoRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Dil.Row.lean ====
/-
  One row of the dilated attention's gradient over the extended reals, as both programs compute it: the weights of the
  current block's keys and of the previous block's, their sum, the gradient of the scores with the share that the row
  maximum hands on. The share is the sum of all gradients that reach the maximum, and that sum is nought wherever it is
  finite (`dsum_cases`): so the two ways of dividing it among equal scores agree (`tie_side`, `tie_all`).
-/
module

public import Idealize.ShloMosaic.Lib.Pointwise

@[expose] public section

noncomputable section

namespace DilBwd

open Idealize.ShloMosaic

/-- The largest of a block's scores. -/
def top (s : Fin 128 → EReal) : EReal := Finset.univ.fold max ⊥ s

section Row

variable (sC sP : Fin 128 → EReal) (vC vP : Fin 128 → Fin 64 → EReal) (o u : Fin 64 → EReal)

/-- The row maximum, over both blocks. -/
def mx : EReal := max (top sC) (top sP)

/-- A key's weight before normalisation. -/
def wt (s : Fin 128 → EReal) (j : Fin 128) : EReal := Ideal.exp (s j - mx sC sP)

def den : EReal := (∑ j, wt sC sP sC j) + ∑ j, wt sC sP sP j

def num (l : Fin 64) : EReal := (∑ j, wt sC sP sC j * vC j l) + ∑ j, wt sC sP sP j * vP j l

def tot : EReal := ∑ l, u l

/-- The gradient of the sum of the weights. -/
def dden : EReal :=
  Ideal.div (tot u) (den sC sP) + -(∑ l, o l * Ideal.div 1 (den sC sP * den sC sP) * num sC sP vC vP l)

def grd (l : Fin 64) : EReal := Ideal.div (o l) (den sC sP)

/-- The gradient of a score through its weight. -/
def xx (v : Fin 128 → Fin 64 → EReal) (s : Fin 128 → EReal) (j : Fin 128) : EReal :=
  ((∑ l, grd sC sP o l * v j l) + dden sC sP vC vP o u) * wt sC sP s j

/-- The gradient of the row maximum. -/
def dsum : EReal :=
  tot u + (∑ j, -(xx sC sP vC vP o u vP sP j)) + ∑ j, -(xx sC sP vC vP o u vC sC j)

/-- The share of a score in the gradient of the row maximum. -/
def tie (s : Fin 128 → EReal) (j : Fin 128) : EReal := if s j = mx sC sP then dsum sC sP vC vP o u else 0

end Row

/-! ## Sums over the extended reals -/

theorem sum_eq_coe_or {ι : Type} [DecidableEq ι] (S : Finset ι) (f : ι → EReal) :
    (∑ j ∈ S, f j = ⊤ ∨ ∑ j ∈ S, f j = ⊥) ∨ ∀ j ∈ S, ∃ r : ℝ, f j = r := by
  induction S using Finset.induction_on with
  | empty => right; simp
  | insert a S ha ih =>
    rw [Finset.sum_insert ha]
    by_cases hb : ∃ r : ℝ, f a = r
    · obtain ⟨r, hr⟩ := hb
      rcases ih with (h | h) | h
      · left; left; rw [h, hr]; exact EReal.coe_add_top r
      · left; right; rw [h, hr]; exact EReal.add_bot _
      · right
        intro j hj
        rcases Finset.mem_insert.1 hj with rfl | hj
        · exact ⟨r, hr⟩
        · exact h j hj
    · left
      have hab : f a = ⊤ ∨ f a = ⊥ := by
        induction h : f a using EReal.rec with
        | bot => right; rfl
        | top => left; rfl
        | coe r => exact absurd ⟨r, h⟩ hb
      rcases hab with h | h
      · rw [h]
        by_cases hs : ∑ j ∈ S, f j = ⊥
        · right; rw [hs]; exact EReal.add_bot _
        · left; exact EReal.top_add_of_ne_bot hs
      · right; rw [h]; exact EReal.bot_add _

theorem all_real_of_sum_real {ι : Type} [Fintype ι] [DecidableEq ι] (f : ι → EReal) {r : ℝ} (h : ∑ j, f j = r) :
    ∃ g : ι → ℝ, ∀ j, f j = g j := by
  rcases sum_eq_coe_or Finset.univ f with (h' | h') | h'
  · rw [h] at h'; exact absurd h' (EReal.coe_ne_top r)
  · rw [h] at h'; exact absurd h' (EReal.coe_ne_bot r)
  · choose g hg using fun j => h' j (Finset.mem_univ j)
    exact ⟨g, hg⟩

theorem coe_sum {ι : Type} (S : Finset ι) (f : ι → ℝ) : ((∑ j ∈ S, f j : ℝ) : EReal) = ∑ j ∈ S, (f j : EReal) :=
  map_sum (⟨⟨Real.toEReal, rfl⟩, EReal.coe_add⟩ : ℝ →+ EReal) f S

theorem real_or (x : EReal) : (∃ r : ℝ, x = r) ∨ x = ⊤ ∨ x = ⊥ := by
  induction x using EReal.rec with
  | bot => right; right; rfl
  | top => right; left; rfl
  | coe r => left; exact ⟨r, rfl⟩

theorem real_of_add {x y : EReal} {r : ℝ} (h : x + y = r) : (∃ a : ℝ, x = a) ∧ ∃ b : ℝ, y = b := by
  rcases real_or x with ⟨a, rfl⟩ | rfl | rfl <;> rcases real_or y with ⟨b, rfl⟩ | rfl | rfl
  · exact ⟨⟨a, rfl⟩, ⟨b, rfl⟩⟩
  all_goals
    first
      | (rw [EReal.coe_add_top] at h; exact absurd h.symm (EReal.coe_ne_top r))
      | (rw [EReal.add_bot] at h; exact absurd h.symm (EReal.coe_ne_bot r))
      | (rw [EReal.bot_add] at h; exact absurd h.symm (EReal.coe_ne_bot r))
      | (rw [EReal.top_add_coe] at h; exact absurd h.symm (EReal.coe_ne_top r))
      | (rw [EReal.top_add_top] at h; exact absurd h.symm (EReal.coe_ne_top r))

theorem real_of_mul_pos {x : EReal} {p r : ℝ} (hp : 0 < p) (h : x * (p : EReal) = r) : ∃ a : ℝ, x = a := by
  rcases real_or x with ⟨a, rfl⟩ | rfl | rfl
  · exact ⟨a, rfl⟩
  · rw [EReal.top_mul_coe_of_pos hp] at h; exact absurd h.symm (EReal.coe_ne_top r)
  · rw [EReal.bot_mul_coe_of_pos hp] at h; exact absurd h.symm (EReal.coe_ne_bot r)

theorem real_of_neg {x : EReal} {r : ℝ} (h : -x = r) : ∃ a : ℝ, x = a :=
  ⟨-r, by rw [EReal.coe_neg, ← h, neg_neg]⟩

/-- An infinite factor leaves a finite product only at nought. -/
theorem zero_of_inf_mul {a x : EReal} (ha : a = ⊤ ∨ a = ⊥) {r : ℝ} (h : a * x = r) : x = 0 := by
  rcases lt_trichotomy x 0 with hx | hx | hx
  · rcases ha with rfl | rfl
    · rw [EReal.top_mul_of_neg hx] at h; exact absurd h.symm (EReal.coe_ne_bot r)
    · rw [EReal.bot_mul_of_neg hx] at h; exact absurd h.symm (EReal.coe_ne_top r)
  · exact hx
  · rcases ha with rfl | rfl
    · rw [EReal.top_mul_of_pos hx] at h; exact absurd h.symm (EReal.coe_ne_top r)
    · rw [EReal.bot_mul_of_pos hx] at h; exact absurd h.symm (EReal.coe_ne_bot r)

/-! ## The gradient of the row maximum -/

section Cases

variable {ι : Type} [Fintype ι] [DecidableEq ι] {n : ℕ}

/-- One lane: the weighted sum of the values times the gradient is the weighted sum of the products, when each product
    with a positive weight is finite. -/
theorem lane (p : ι → ℝ) (hp : ∀ j, 0 ≤ p j) {d : ℝ} (hd : 0 < d) (o : EReal) (v : ι → EReal) (r : ι → ℝ)
    (hr : ∀ j, 0 < p j → Ideal.div o d * v j = r j) (hr0 : ∀ j, p j = 0 → r j = 0) :
    o * Ideal.div 1 ((d : EReal) * d) * (∑ j, (p j : EReal) * v j) = ((1 / d * ∑ j, p j * r j : ℝ) : EReal) := by
  have hdne : d ≠ 0 := hd.ne'
  have hinv : Ideal.div 1 ((d : EReal) * d) = ((1 / (d * d) : ℝ) : EReal) := by
    rw [← EReal.coe_mul, Ideal.div_coe (by positivity), one_mul]
  rw [hinv]
  have hpos : (0 : ℝ) < 1 / (d * d) := by positivity
  have hpj : ∀ j, p j = 0 ∨ 0 < p j := fun j => by rcases (hp j).eq_or_lt with h | h <;> [left; right] <;> linarith
  have hdiv : ∀ x : EReal, Ideal.div x d = x * ((1 / d : ℝ) : EReal) := fun x => Ideal.div_coe hdne x
  rcases real_or o with ⟨a, rfl⟩ | ho
  · by_cases ha : a = 0
    · subst ha
      have : ∀ j, p j * r j = 0 := fun j => by
        rcases hpj j with h | h
        · rw [h, zero_mul]
        · have := hr j h
          rw [hdiv, EReal.coe_zero, zero_mul, zero_mul, ← EReal.coe_zero] at this
          rw [← EReal.coe_injective this, mul_zero]
      simp only [EReal.coe_zero, zero_mul, this, Finset.sum_const_zero, mul_zero]
    · -- each value under a positive weight is finite
      have hv : ∀ j, ∃ w : ℝ, (p j : EReal) * v j = ((p j * w : ℝ) : EReal) ∧ p j * r j = p j * (a * (1 / d) * w) := fun j => by
        rcases hpj j with h | h
        · exact ⟨0, by simp [h], by simp [h]⟩
        · have hj := hr j h
          rw [hdiv, ← EReal.coe_mul] at hj
          have hne : a * (1 / d) ≠ 0 := mul_ne_zero ha (by positivity)
          rcases real_or (v j) with ⟨w, hw⟩ | hw
          · refine ⟨w, by rw [hw, EReal.coe_mul], ?_⟩
            rw [hw, ← EReal.coe_mul] at hj
            rw [← EReal.coe_injective hj]
          · rw [mul_comm] at hj
            have := zero_of_inf_mul hw hj
            rw [← EReal.coe_zero] at this
            exact absurd (EReal.coe_injective this) hne
      choose w hw hw' using hv
      simp only [hw, hw']
      rw [← coe_sum, ← EReal.coe_mul, ← EReal.coe_mul]
      congr 1
      rw [Finset.mul_sum, Finset.mul_sum]
      refine Finset.sum_congr rfl fun j _ => ?_
      field_simp
  · have hg : Ideal.div o d = ⊤ ∨ Ideal.div o d = ⊥ := by
      rw [hdiv]
      rcases ho with rfl | rfl
      · left; exact EReal.top_mul_coe_of_pos (by positivity)
      · right; exact EReal.bot_mul_coe_of_pos (by positivity)
    have hv : ∀ j, (p j : EReal) * v j = 0 ∧ p j * r j = 0 := fun j => by
      rcases hpj j with h | h
      · simp [h]
      · have hj := hr j h
        have h0 := zero_of_inf_mul hg hj
        rw [h0, mul_zero, ← EReal.coe_zero] at hj
        rw [h0, ← EReal.coe_injective hj]
        simp
    simp only [hv, Finset.sum_const_zero, mul_zero, EReal.coe_zero]

theorem dsum_aux (p : ι → ℝ) (hp : ∀ j, 0 ≤ p j) {d : ℝ} (hd : d = ∑ j, p j) (hd0 : 0 < d) (o : Fin n → EReal)
    (T : EReal) (v : ι → Fin n → EReal) {x : ℝ}
    (h : T + ∑ j, -(((∑ l, Ideal.div (o l) d * v j l)
        + (Ideal.div T d + -(∑ l, o l * Ideal.div 1 ((d : EReal) * d) * ∑ j, (p j : EReal) * v j l))) * (p j : EReal)) = x) :
    x = 0 := by
  have hdne : d ≠ 0 := hd0.ne'
  obtain ⟨⟨t, rfl⟩, b, hb⟩ := real_of_add h
  obtain ⟨g, hg⟩ := all_real_of_sum_real _ hb
  set q : Fin n → EReal := fun l => o l * Ideal.div 1 ((d : EReal) * d) * ∑ j, (p j : EReal) * v j l with hq
  -- some weight is positive, so the gradient of the sum is finite
  have hex : ∃ j, 0 < p j := by
    by_contra hcon
    push Not at hcon
    have : d ≤ 0 := by rw [hd]; exact Finset.sum_nonpos fun j _ => hcon j
    linarith
  have hpos : ∀ j, 0 < p j → (∃ a : ℝ, ∑ l, Ideal.div (o l) d * v j l = a) ∧
      ∃ a : ℝ, Ideal.div (t : EReal) d + -(∑ l, q l) = a := fun j hj => by
    obtain ⟨a, ha⟩ := real_of_neg (hg j)
    obtain ⟨a', ha'⟩ := real_of_mul_pos hj ha
    exact real_of_add ha'
  obtain ⟨j₀, hj₀⟩ := hex
  obtain ⟨_, e, he⟩ := hpos j₀ hj₀
  have hlane : ∀ j, ∃ r : Fin n → ℝ, (0 < p j → ∀ l, Ideal.div (o l) d * v j l = r l) ∧ (p j = 0 → ∀ l, r l = 0) := fun j => by
    by_cases hj : 0 < p j
    · obtain ⟨⟨a, ha⟩, _⟩ := hpos j hj
      obtain ⟨r, hr⟩ := all_real_of_sum_real _ ha
      exact ⟨r, fun _ => hr, fun h0 => absurd h0 hj.ne'⟩
    · exact ⟨fun _ => 0, fun h => absurd h hj, fun _ _ => rfl⟩
  choose r hr hr0 using hlane
  have hql : ∀ l, q l = ((1 / d * ∑ j, p j * r j l : ℝ) : EReal) := fun l =>
    lane p hp hd0 (o l) (fun j => v j l) (fun j => r j l) (fun j hj => hr j hj l) (fun j hj => hr0 j hj l)
  have hE : Ideal.div (t : EReal) d + -(∑ l, q l) = ((t / d - ∑ l, 1 / d * ∑ j, p j * r j l : ℝ) : EReal) := by
    simp only [hql]
    rw [← coe_sum, Ideal.div_coe hdne, ← EReal.coe_mul, ← EReal.coe_neg, ← EReal.coe_add]
    congr 1
    ring
  have hterm : ∀ j, ((∑ l, Ideal.div (o l) d * v j l) + (Ideal.div (t : EReal) d + -(∑ l, q l))) * (p j : EReal)
      = ((((∑ l, r j l) + (t / d - ∑ l, 1 / d * ∑ j, p j * r j l)) * p j : ℝ) : EReal) := fun j => by
    rcases (hp j).eq_or_lt with h0 | h0
    · rw [← h0]; simp
    · rw [hE]
      simp only [hr j h0]
      rw [← coe_sum, ← EReal.coe_add, ← EReal.coe_mul]
  simp only [hterm] at h
  simp only [← EReal.coe_neg] at h
  rw [← coe_sum, ← EReal.coe_add] at h
  have h' := EReal.coe_injective h
  rw [← h']
  have e1 : ∑ j, -(((∑ l, r j l) + (t / d - ∑ l, 1 / d * ∑ j, p j * r j l)) * p j)
      = -(∑ j, p j * ∑ l, r j l) - (t / d - ∑ l, 1 / d * ∑ j, p j * r j l) * d := by
    conv_rhs => rw [hd, Finset.mul_sum]
    rw [← Finset.sum_neg_distrib, ← Finset.sum_sub_distrib]
    refine Finset.sum_congr rfl fun j _ => ?_
    rw [hd]; ring
  have e2 : ∑ j, p j * ∑ l, r j l = ∑ l, ∑ j, p j * r j l := by
    rw [Finset.sum_comm]
    exact Finset.sum_congr rfl fun j _ => Finset.mul_sum _ _ _
  have e3 : (∑ l, 1 / d * ∑ j, p j * r j l) * d = ∑ l, ∑ j, p j * r j l := by
    rw [← Finset.mul_sum]; field_simp
  rw [e1, e2, sub_mul, e3]
  field_simp
  ring

end Cases

/-! ## The row's weights are real -/

theorem le_top (s : Fin 128 → EReal) (j : Fin 128) : s j ≤ top s :=
  (Finset.le_fold_max (s j)).2 (Or.inr ⟨j, Finset.mem_univ j, le_rfl⟩)

theorem top_mem (s : Fin 128 → EReal) : ∃ j, s j = top s := by
  have h := Finset.exists_mem_eq_sup' (s := Finset.univ) ⟨(0 : Fin 128), Finset.mem_univ _⟩ s
  obtain ⟨j, -, hj⟩ := h
  refine ⟨j, le_antisymm (le_top s j) ?_⟩
  rw [← hj]
  refine (Finset.fold_max_le _).2 ⟨bot_le, fun k hk => Finset.le_sup' s hk⟩

section Real

variable {sC sP : Fin 128 → EReal} {m : ℝ} (hm : mx sC sP = m)

include hm

theorem wt_real {s : Fin 128 → EReal} (hs : ∀ j, s j ≤ mx sC sP) (j : Fin 128) : ∃ p : ℝ, 0 ≤ p ∧ wt sC sP s j = p := by
  unfold wt
  rw [hm]
  have hle := hs j
  rw [hm] at hle
  rcases real_or (s j) with ⟨a, ha⟩ | ha | ha
  · rw [ha, ← EReal.coe_sub, Ideal.exp_coe]
    exact ⟨_, (Real.exp_pos _).le, rfl⟩
  · rw [ha] at hle
    exact absurd (top_le_iff.1 hle) (EReal.coe_ne_top m)
  · rw [ha, EReal.bot_sub, Ideal.exp_bot]
    exact ⟨0, le_rfl, EReal.coe_zero.symm⟩

theorem wt_one {s : Fin 128 → EReal} {j : Fin 128} (hs : s j = mx sC sP) : wt sC sP s j = ((1 : ℝ) : EReal) := by
  unfold wt
  rw [hs, hm, ← EReal.coe_sub, sub_self, Ideal.exp_coe, Real.exp_zero]

theorem weights : ∃ p : Fin 128 ⊕ Fin 128 → ℝ, (∀ j, 0 ≤ p j) ∧ (∀ j, wt sC sP sC j = p (.inl j)) ∧
    (∀ j, wt sC sP sP j = p (.inr j)) ∧ 0 < ∑ j, p j := by
  have hC : ∀ j, sC j ≤ mx sC sP := fun j => (le_top sC j).trans (le_max_left _ _)
  have hP : ∀ j, sP j ≤ mx sC sP := fun j => (le_top sP j).trans (le_max_right _ _)
  choose pC hpC hC' using wt_real hm hC
  choose pP hpP hP' using wt_real hm hP
  have hnn : ∀ j, 0 ≤ Sum.elim pC pP j := fun j => by cases j <;> simp [hpC, hpP]
  refine ⟨Sum.elim pC pP, hnn, hC', hP', ?_⟩
  have hex : ∃ j, Sum.elim pC pP j = 1 := by
    rcases max_choice (top sC) (top sP) with h | h
    · obtain ⟨j, hj⟩ := top_mem sC
      refine ⟨.inl j, EReal.coe_injective ((hC' j).symm.trans (wt_one hm ?_))⟩
      rw [hj]; exact h.symm
    · obtain ⟨j, hj⟩ := top_mem sP
      refine ⟨.inr j, EReal.coe_injective ((hP' j).symm.trans (wt_one hm ?_))⟩
      rw [hj]; exact h.symm
  obtain ⟨j, hj⟩ := hex
  calc (0 : ℝ) < 1 := one_pos
    _ = Sum.elim pC pP j := hj.symm
    _ ≤ _ := Finset.single_le_sum (fun k _ => hnn k) (Finset.mem_univ j)

theorem den_real : ∃ d : ℝ, 0 < d ∧ den sC sP = d := by
  obtain ⟨p, -, hC, hP, hd⟩ := weights hm
  refine ⟨_, hd, ?_⟩
  unfold den
  simp only [hC, hP]
  rw [Fintype.sum_sum_type, EReal.coe_add, coe_sum, coe_sum]

/-- The gradient of the row maximum is nought wherever it is finite. -/
theorem dsum_cases (vC vP : Fin 128 → Fin 64 → EReal) (o u : Fin 64 → EReal) :
    dsum sC sP vC vP o u = 0 ∨ dsum sC sP vC vP o u = ⊤ ∨ dsum sC sP vC vP o u = ⊥ := by
  rcases real_or (dsum sC sP vC vP o u) with ⟨x, hx⟩ | h
  swap
  · exact Or.inr h
  left
  obtain ⟨p, hp, hC, hP, hd⟩ := weights hm
  have hden : den sC sP = ((∑ j, p j : ℝ) : EReal) := by
    unfold den
    simp only [hC, hP]
    rw [Fintype.sum_sum_type, EReal.coe_add, coe_sum, coe_sum]
  have := dsum_aux p hp rfl hd o (tot u) (Sum.elim vC vP) (x := x) (by
    rw [← hx]
    unfold dsum xx dden grd num
    rw [hden]
    simp only [hC, hP, Fintype.sum_sum_type, Sum.elim_inl, Sum.elim_inr]
    rw [add_assoc, add_comm (∑ j, -_) (∑ j, -_)])
  rw [hx, this, EReal.coe_zero]

end Real

/-! ## Sharing the gradient of the maximum among equal scores -/

theorem count_real {ι : Type} [Fintype ι] [DecidableEq ι] (P : ι → Prop) [DecidablePred P] {j : ι} (hj : P j) :
    ∃ c : ℝ, 0 < c ∧ (∑ k, if P k then (1 : EReal) else 0) = c := by
  refine ⟨∑ k, if P k then (1 : ℝ) else 0, ?_, ?_⟩
  · calc (0 : ℝ) < 1 := one_pos
      _ = if P j then 1 else 0 := by rw [if_pos hj]
      _ ≤ _ := Finset.single_le_sum (f := fun k => if P k then (1 : ℝ) else 0)
        (fun k _ => by split <;> norm_num) (Finset.mem_univ j)
  · rw [coe_sum]
    refine Finset.sum_congr rfl fun k _ => ?_
    split <;> simp

theorem mul_cases {D : EReal} (hD : D = 0 ∨ D = ⊤ ∨ D = ⊥) {w : ℝ} (hw : 0 < w) : D * (w : EReal) = D := by
  rcases hD with rfl | rfl | rfl
  · exact zero_mul _
  · exact EReal.top_mul_coe_of_pos hw
  · exact EReal.bot_mul_coe_of_pos hw

theorem div_cases {D : EReal} (hD : D = 0 ∨ D = ⊤ ∨ D = ⊥) {c : ℝ} (hc : 0 < c) : Ideal.div D c = D := by
  rw [Ideal.div_coe hc.ne', mul_cases hD (by positivity)]

/-- One of the two blocks: its part of the gradient, over the number of its scores that attain its maximum. -/
theorem tie_side {D : EReal} (hD : D = 0 ∨ D = ⊤ ∨ D = ⊥) (s : Fin 128 → EReal) (B : EReal) (j : Fin 128) :
    Ideal.div (D * (if B < top s then 1 else if top s = B then ((1 / 2 : ℝ) : EReal) else 0))
        (∑ k, if s k = top s then (1 : EReal) else 0) * (if s j = top s then 1 else 0)
      = if s j = max (top s) B then D else 0 := by
  by_cases hj : s j = top s
  · obtain ⟨c, hc, hc'⟩ := count_real (fun k => s k = top s) hj
    rw [hc', if_pos hj, mul_one]
    rcases lt_trichotomy B (top s) with h | h | h
    · rw [if_pos h, max_eq_left h.le, if_pos hj, mul_one, div_cases hD hc]
    · rw [if_neg h.not_lt, if_pos h.symm, max_eq_left h.le, if_pos hj, mul_cases hD (by norm_num), div_cases hD hc]
    · rw [if_neg h.not_gt, if_neg h.ne, max_eq_right h.le, if_neg (by rw [hj]; exact h.ne), mul_zero, div_cases (Or.inl rfl) hc]
  · rw [if_neg hj, mul_zero, if_neg]
    intro h
    exact hj (le_antisymm (le_top s j) (h ▸ le_max_left _ _))

/-- Both blocks together. -/
theorem tie_all {D : EReal} (hD : D = 0 ∨ D = ⊤ ∨ D = ⊥) {ι : Type} [Fintype ι] [DecidableEq ι] (s : ι → EReal) (M : EReal) (j : ι) :
    Ideal.div D (∑ k, if s k = M then (1 : EReal) else 0) * (if s j = M then 1 else 0) = if s j = M then D else 0 := by
  by_cases hj : s j = M
  · obtain ⟨c, hc, hc'⟩ := count_real (fun k => s k = M) hj
    rw [hc', if_pos hj, mul_one, div_cases hD hc, if_pos hj]
  · rw [if_neg hj, mul_zero, if_neg hj]

end DilBwd

end
-- ==== Proof.Dil.Lanes.lean ====
/-
  Lanes of one head: a sum over a block's lanes whose terms are nought off the head's sixty-four is the sum over those.
  And the literals of the programs as real numbers.
-/
module

public import Idealize.ShloMosaic.Lib.Pointwise

@[expose] public section

noncomputable section

namespace DilBwd

open Idealize.ShloMosaic

/-- Lane `l` of head `n` in a block of `W` lanes. -/
def ln {W : ℕ} (n : ℕ) (h : 64 * n + 64 ≤ W) (l : Fin 64) : Fin W := ⟨64 * n + l.val, by omega⟩

theorem lane_sum {W : ℕ} (n : ℕ) (h : 64 * n + 64 ≤ W) (f : Fin W → EReal) (hf : ∀ c : Fin W, c.val / 64 ≠ n → f c = 0) :
    ∑ c, f c = ∑ l, f (ln n h l) := by
  symm
  refine Finset.sum_of_injOn (ln n h) ?_ ?_ ?_ ?_
  · intro a _ b _ hab
    have := congrArg Fin.val hab
    simp only [ln] at this
    exact Fin.ext (by omega)
  · intro a _; exact Finset.mem_coe.2 (Finset.mem_univ _)
  · intro c _ hc
    refine hf c fun hcn => hc ⟨⟨c.val - 64 * n, by omega⟩, Finset.mem_coe.2 (Finset.mem_univ _), ?_⟩
    exact Fin.ext (by simp only [ln]; omega)
  · intro _ _; rfl

/-- The weight of a lane for head `n`: one on its lanes, nought on the others. -/
def on {W : ℕ} (n : ℕ) (c : Fin W) : EReal := if c.val / 64 = n then 1 else 0

theorem on_ln {W : ℕ} (n : ℕ) (h : 64 * n + 64 ≤ W) (l : Fin 64) : on n (ln n h l) = 1 := by
  unfold on ln
  rw [if_pos (by dsimp only; omega)]

theorem on_off {W : ℕ} {n : ℕ} {c : Fin W} (h : c.val / 64 ≠ n) : on n c = 0 := by
  unfold on
  rw [if_neg h]

theorem ofBits_eighth : Ideal.ofBits .f32 0x3E000000#32 = ((1 / 8 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

theorem ofBits_bot : Ideal.ofBits .f32 0xFF800000#32 = ⊥ := by
  simp [Ideal.ofBits, Ideal.ieee]

end DilBwd

end
-- ==== Proof.Dil.Head.lean ====
module

public import proofs.«01_k».proof.Proof.Gen.KernelIdeal.Frame
public import proofs.«01_k».proof.Proof.Dil.Row
public import proofs.«01_k».proof.Proof.Dil.Lanes

@[expose] public section

set_option maxRecDepth 16384

noncomputable section

namespace DilBwd.K

open Idealize.ShloMosaic Cert.KernelIdeal Cert.KernelIdeal.Facts₀

/-- The block's data for one part: queries, current keys, previous keys, current values, previous values, the gradient
    of the output and of the normaliser, and whether there is a previous block. -/
abbrev Blk := FVec Ideal S128x256 .f32

def mk (hw : BitVec 32) : FVec Ideal S1x256 .f32 :=
  select (cmpi .eq (shrsi (iota .tc S1x256 32 [1] iota_S1x256_d1_w32) (broadcast S1x256 6#32)) (broadcast S1x256 hw))
    (broadcast S1x256 (Scalar.ofBits .f32 0x3F800000#32)) (broadcast S1x256 (Scalar.ofBits .f32 0x00000000#32))

def lanes (hw : BitVec 32) : Blk := broadcastTo S128x256 (mk hw) broadcasts_S1x256_S128x256

def qm (hw : BitVec 32) (q : Blk) : Blk := mulf q (lanes hw)

def row : IVec S128x128 32 := iota .tc S128x128 32 [0] iota_S128x128_d0_w32
def col : IVec S128x128 32 := iota .tc S128x128 32 [1] iota_S128x128_d1_w32

def okC : IVec S128x128 1 := cmpi .sle col row
def okP (hp : BitVec 1) : IVec S128x128 1 := andi (cmpi .sle row col) (broadcast S128x128 hp)

abbrev Sq := FVec Ideal S128x128 .f32
abbrev C1 := FVec Ideal S128x1 .f32

def nt (a b : Blk) : Sq :=
  matmul dot_S128x256_S128x256_S128x128_1_1_0_0_n_n none (truncf .bf16 a bitsLt_bf16_f32) (truncf .bf16 b bitsLt_bf16_f32)
    (constant S128x128 .f32 0x00000000#32)

def nn (a : Sq) (b : Blk) : Blk :=
  matmul dot_S128x128_S128x256_S128x256_1_0_0_1_n_n none (truncf .bf16 a bitsLt_bf16_f32) (truncf .bf16 b bitsLt_bf16_f32)
    (constant S128x256 .f32 0x00000000#32)

def tn (a : Sq) (b : Blk) : Blk :=
  matmul dot_S128x128_S128x256_S128x256_0_0_1_1_n_n none (truncf .bf16 a bitsLt_bf16_f32) (truncf .bf16 b bitsLt_bf16_f32)
    (constant S128x256 .f32 0x00000000#32)

def scr (ok : IVec S128x128 1) (a k : Blk) : Sq :=
  select ok (mulf (nt a k) (broadcast S128x128 (Scalar.ofBits .f32 0x3E000000#32)))
    (broadcast S128x128 (Named.named κ "mask" 0xF149F2CA#32))

def rmax (s : Sq) : C1 :=
  shapeCast S128x1 (multiReduction .maximumf [1] S128 s 0xFF800000#32 reduces_S128x128_S128 (.inl rfl) rfl)
    shapeCasts_S128_S128x1

def eqs (s : Sq) : Sq :=
  sitofp .f32 (extui 32 (cmpf .oeq s (broadcastTo S128x128 (rmax s) broadcasts_S128x1_S128x128)) natLt_1_32)

def rsum (x : Sq) : FVec Ideal S128 .f32 :=
  multiReduction .add [1] S128 x 0x00000000#32 reduces_S128x128_S128 (.inl rfl) rfl

def csum (x : Sq) : C1 := shapeCast S128x1 (rsum x) shapeCasts_S128_S128x1

def wsum (x : Blk) : C1 :=
  shapeCast S128x1 (multiReduction .add [1] S128 x 0x00000000#32 reduces_S128x256_S128 (.inl rfl) rfl)
    shapeCasts_S128_S128x1

def osum (x : C1) : FVec Ideal S128 .f32 :=
  multiReduction .add [1] S128 x 0x00000000#32 reduces_S128x1_S128 (.inl rfl) rfl

def share (A B : C1) : C1 :=
  select (cmpf .ogt A B) (broadcast S128x1 (Scalar.ofBits .f32 0x3F800000#32))
    (select (cmpf .oeq A B) (broadcast S128x1 (Scalar.ofBits .f32 0x3F000000#32))
      (broadcast S128x1 (Scalar.ofBits .f32 0x00000000#32)))

def wgt (M : C1) (s : Sq) : Sq := exp (subf s (broadcastTo S128x128 M broadcasts_S128x1_S128x128))

def inv (d : C1) : C1 := divf (broadcast S128x1 (Scalar.ofBits .f32 0x3F800000#32)) (mulf d d)

def same (x : Blk) : Blk := shapeCast S128x256 x shapeCasts_S128x256_S128x256

def negf (x : C1) : C1 := subf (broadcast S128x1 (Scalar.ofBits .f32 0x00000000#32)) x

def negs (x : Sq) : Sq := subf (broadcast S128x128 (Scalar.ofBits .f32 0x00000000#32)) x

def wide (x : C1) : Blk := broadcastTo S128x256 x broadcasts_S128x1_S128x256

def ddn (t d : C1) (om n : Blk) : C1 := addf (divf t d) (negf (wsum (mulf (mulf om (wide (inv d))) n)))

def gdp (g v : Blk) (dd : C1) : Sq :=
  addf (nt g v) (broadcastTo S128x128 (shapeCast S128x1 (osum dd) shapeCasts_S128_S128x1) broadcasts_S128x1_S128x128)

def dmx (t : C1) (xP xC : Sq) : C1 := addf (addf t (csum (negs xP))) (csum (negs xC))

def tied (D w : C1) (e : Sq) : Sq :=
  mulf (broadcastTo S128x128 (shapeCast S128x1 (divf (osum (mulf D w)) (rsum e)) shapeCasts_S128_S128x1)
    broadcasts_S128x1_S128x128) e

def gsc (ok : IVec S128x128 1) (e : Sq) : Sq :=
  mulf (select ok e (broadcast S128x128 (Scalar.ofBits .f32 0x00000000#32)))
    (broadcast S128x128 (Scalar.ofBits .f32 0x3E000000#32))

section Stages

variable (hp : BitVec 1) (hw : BitVec 32) (q kc kp vc vp o u : Blk)

def sC : Sq := scr okC (qm hw q) kc
def sP : Sq := scr (okP hp) (qm hw q) kp
def m : C1 := maximumf (rmax (sC hw q kc)) (rmax (sP hp hw q kp))
def pC : Sq := wgt (m hp hw q kc kp) (sC hw q kc)
def pP : Sq := wgt (m hp hw q kc kp) (sP hp hw q kp)
def d : C1 := addf (csum (pC hp hw q kc kp)) (csum (pP hp hw q kc kp))
def n : Blk := addf (nn (pC hp hw q kc kp) vc) (nn (pP hp hw q kc kp) vp)
def t : C1 := wsum (mulf (same u) (lanes hw))
def om : Blk := mulf (same o) (lanes hw)
def dd : C1 := ddn (t hw u) (d hp hw q kc kp) (om hw o) (n hp hw q kc kp vc vp)
def g : Blk := divf (om hw o) (wide (d hp hw q kc kp))
def xC : Sq := mulf (gdp (g hp hw q kc kp o) vc (dd hp hw q kc kp vc vp o u)) (pC hp hw q kc kp)
def xP : Sq := mulf (gdp (g hp hw q kc kp o) vp (dd hp hw q kc kp vc vp o u)) (pP hp hw q kc kp)
def D : C1 := dmx (t hw u) (xP hp hw q kc kp vc vp o u) (xC hp hw q kc kp vc vp o u)
def eC : Sq := addf (xC hp hw q kc kp vc vp o u)
  (tied (D hp hw q kc kp vc vp o u) (share (rmax (sC hw q kc)) (rmax (sP hp hw q kp))) (eqs (sC hw q kc)))
def eP : Sq := addf (xP hp hw q kc kp vc vp o u)
  (tied (D hp hw q kc kp vc vp o u) (share (rmax (sP hp hw q kp)) (rmax (sC hw q kc))) (eqs (sP hp hw q kp)))
def dsC : Sq := gsc okC (eC hp hw q kc kp vc vp o u)
def dsP : Sq := gsc (okP hp) (eP hp hw q kc kp vc vp o u)
def dqP : Blk := mulf (nn (dsP hp hw q kc kp vc vp o u) kp) (lanes hw)
def dqC : Blk := mulf (nn (dsC hp hw q kc kp vc vp o u) kc) (lanes hw)
def dkP : Blk := tn (dsP hp hw q kc kp vc vp o u) (qm hw q)
def dkC : Blk := tn (dsC hp hw q kc kp vc vp o u) (qm hw q)
def dvP : Blk := tn (pP hp hw q kc kp) (g hp hw q kc kp o)
def dvC : Blk := tn (pC hp hw q kc kp) (g hp hw q kc kp o)

end Stages

end DilBwd.K

end
-- ==== Proof.Dil.Block.lean ====
/-
  A block of one head: the scores of its queries against the current keys and against the previous block's keys under
  the band mask, and the gradients of queries, keys and values, row by row (Row.lean).
-/
module

public import proofs.«01_k».proof.Proof.Dil.Row

@[expose] public section

noncomputable section

namespace DilBwd

open Idealize.ShloMosaic

abbrev Mat := Fin 128 → Fin 64 → EReal

/-- Scores against the block's own keys: those not later than the query. -/
def scC (Q K : Mat) (i j : Fin 128) : EReal := if j ≤ i then (∑ l, Q i l * K j l) * ((1 / 8 : ℝ) : EReal) else ⊥

/-- Scores against the previous block's keys, where there is one: those within the window. -/
def scP (b : Bool) (Q K : Mat) (i j : Fin 128) : EReal :=
  if i ≤ j ∧ b = true then (∑ l, Q i l * K j l) * ((1 / 8 : ℝ) : EReal) else ⊥

section Block

variable (b : Bool) (Q Kc Kp Vc Vp O U : Mat)

def gsC (i j : Fin 128) : EReal :=
  (if j ≤ i then xx (scC Q Kc i) (scP b Q Kp i) Vc Vp (O i) (U i) Vc (scC Q Kc i) j
    + tie (scC Q Kc i) (scP b Q Kp i) Vc Vp (O i) (U i) (scC Q Kc i) j else 0) * ((1 / 8 : ℝ) : EReal)

def gsP (i j : Fin 128) : EReal :=
  (if i ≤ j ∧ b = true then xx (scC Q Kc i) (scP b Q Kp i) Vc Vp (O i) (U i) Vp (scP b Q Kp i) j
    + tie (scC Q Kc i) (scP b Q Kp i) Vc Vp (O i) (U i) (scP b Q Kp i) j else 0) * ((1 / 8 : ℝ) : EReal)

def gq (i : Fin 128) (l : Fin 64) : EReal :=
  (∑ j, gsP b Q Kc Kp Vc Vp O U i j * Kp j l) + ∑ j, gsC b Q Kc Kp Vc Vp O U i j * Kc j l

def gkC (j : Fin 128) (l : Fin 64) : EReal := ∑ i, gsC b Q Kc Kp Vc Vp O U i j * Q i l

def gkP (j : Fin 128) (l : Fin 64) : EReal := ∑ i, gsP b Q Kc Kp Vc Vp O U i j * Q i l

def gvC (j : Fin 128) (l : Fin 64) : EReal :=
  ∑ i, wt (scC Q Kc i) (scP b Q Kp i) (scC Q Kc i) j * grd (scC Q Kc i) (scP b Q Kp i) (O i) l

def gvP (j : Fin 128) (l : Fin 64) : EReal :=
  ∑ i, wt (scC Q Kc i) (scP b Q Kp i) (scP b Q Kp i) j * grd (scC Q Kc i) (scP b Q Kp i) (O i) l

/-- Every row's maximum is a real number. -/
def Fine : Prop := ∀ i, ∃ r : ℝ, mx (scC Q Kc i) (scP b Q Kp i) = r

end Block

/-! ## The first block: what stands for its previous keys and values does not matter -/

section First

variable (Q Kc Kp Kp' Vc Vp Vp' O U : Mat)

theorem scP_first (i : Fin 128) : scP false Q Kp i = fun _ => ⊥ := by
  funext j; unfold scP; simp

theorem wt_first (sC : Fin 128 → EReal) (j : Fin 128) : wt sC (fun _ => ⊥) (fun _ => ⊥) j = 0 := by
  unfold wt
  rw [EReal.bot_sub, Ideal.exp_bot]

theorem gsP_first (i j : Fin 128) : gsP false Q Kc Kp Vc Vp O U i j = 0 := by
  unfold gsP; simp

theorem num_first (sC : Fin 128 → EReal) (l : Fin 64) :
    num sC (fun _ => ⊥) Vc Vp l = num sC (fun _ => ⊥) Vc Vp' l := by
  unfold num
  simp only [wt_first, zero_mul]

theorem dden_first (sC : Fin 128 → EReal) (o u : Fin 64 → EReal) :
    dden sC (fun _ => ⊥) Vc Vp o u = dden sC (fun _ => ⊥) Vc Vp' o u := by
  unfold dden
  simp only [num_first Vc Vp Vp']

theorem dsum_first (sC : Fin 128 → EReal) (o u : Fin 64 → EReal) :
    dsum sC (fun _ => ⊥) Vc Vp o u = dsum sC (fun _ => ⊥) Vc Vp' o u := by
  unfold dsum xx
  simp only [wt_first, mul_zero, dden_first Vc Vp Vp']

theorem gsC_first (i j : Fin 128) : gsC false Q Kc Kp Vc Vp O U i j = gsC false Q Kc Kp' Vc Vp' O U i j := by
  unfold gsC xx tie
  simp only [scP_first, dden_first Vc Vp Vp', dsum_first Vc Vp Vp']

theorem gq_first : gq false Q Kc Kp Vc Vp O U = gq false Q Kc Kp' Vc Vp' O U := by
  funext i l
  unfold gq
  simp only [gsP_first, zero_mul, gsC_first Q Kc Kp Kp' Vc Vp Vp']

theorem gkC_first : gkC false Q Kc Kp Vc Vp O U = gkC false Q Kc Kp' Vc Vp' O U := by
  funext i l
  unfold gkC
  simp only [gsC_first Q Kc Kp Kp' Vc Vp Vp']

theorem gvC_first : gvC false Q Kc Kp O = gvC false Q Kc Kp' O := by
  funext i l
  unfold gvC
  simp only [scP_first]

end First

/-! ## Finite queries and keys make every row's maximum real -/

theorem real_sum {f g : Fin 64 → EReal} (hf : ∀ l, ∃ r : ℝ, f l = r) (hg : ∀ l, ∃ r : ℝ, g l = r) :
    ∃ r : ℝ, (∑ l, f l * g l) * ((1 / 8 : ℝ) : EReal) = r := by
  choose a ha using hf
  choose c hc using hg
  refine ⟨(∑ l, a l * c l) * (1 / 8), ?_⟩
  rw [EReal.coe_mul, coe_sum]
  simp only [ha, hc, EReal.coe_mul]

theorem fine {b : Bool} {Q Kc Kp : Mat} (hQ : ∀ i l, ∃ r : ℝ, Q i l = r) (hC : ∀ i l, ∃ r : ℝ, Kc i l = r)
    (hP : b = true → ∀ i l, ∃ r : ℝ, Kp i l = r) : Fine b Q Kc Kp := by
  intro i
  have h1 : ∀ j, scC Q Kc i j ≠ ⊤ := fun j => by
    unfold scC
    split
    · obtain ⟨r, hr⟩ := real_sum (hQ i) (hC j)
      rw [hr]; exact EReal.coe_ne_top r
    · exact bot_ne_top
  have h2 : ∀ j, scP b Q Kp i j ≠ ⊤ := fun j => by
    unfold scP
    split
    · next h =>
      obtain ⟨r, hr⟩ := real_sum (hQ i) (hP h.2 j)
      rw [hr]; exact EReal.coe_ne_top r
    · exact bot_ne_top
  have h3 : mx (scC Q Kc i) (scP b Q Kp i) ≠ ⊤ := by
    unfold mx
    rcases max_choice (top (scC Q Kc i)) (top (scP b Q Kp i)) with h | h <;> rw [h]
    · obtain ⟨j, hj⟩ := top_mem (scC Q Kc i)
      rw [← hj]; exact h1 j
    · obtain ⟨j, hj⟩ := top_mem (scP b Q Kp i)
      rw [← hj]; exact h2 j
  have h4 : mx (scC Q Kc i) (scP b Q Kp i) ≠ ⊥ := by
    obtain ⟨r, hr⟩ := real_sum (hQ i) (hC i)
    have hii : scC Q Kc i i = r := by unfold scC; rw [if_pos le_rfl, hr]
    intro h
    have := (le_top (scC Q Kc i) i).trans (le_max_left _ (top (scP b Q Kp i)))
    rw [hii] at this
    unfold mx at h
    rw [h] at this
    exact EReal.coe_ne_bot r (le_bot_iff.1 this)
  rcases real_or (mx (scC Q Kc i) (scP b Q Kp i)) with h | h | h
  · exact h
  · exact absurd h h3
  · exact absurd h h4

end DilBwd

end
-- ==== Proof.Dil.Eval.lean ====
/-
  What the kernel's stages (Head.lean) hold at an index, for one head: the block's gradients of Block.lean on the head's
  lanes, and nought on the others.
-/
module

public import proofs.«01_k».proof.Proof.Dil.Head
public import proofs.«01_k».proof.Proof.Dil.Block

@[expose] public section

set_option maxRecDepth 16384

noncomputable section

namespace DilBwd.K

open Idealize.ShloMosaic Cert.KernelIdeal Cert.KernelIdeal.Facts₀

theorem mask_bot : (Named.named κ "mask" 0xF149F2CA#32 : Ideal .f32) = (⊥ : EReal) :=
  IdealRules.named_const.ideal_named_scalar _ _ _ _ rfl

theorem select_ofBool {α : Type} (p : Bool) (x y : α) : Scalar.select (BitVec.ofBool p) x y = if p = true then x else y := by
  cases p <;> rfl

theorem mask_bits : ∀ n : Fin 4, ∀ c : Fin 256,
    IntOp.cmpi .eq (IntOp.shrsi .vector (BitVec.ofNat 32 c.val) 6#32) (BitVec.ofNat 32 n.val)
      = BitVec.ofBool (decide (c.val / 64 = n.val)) := by decide +kernel

theorem le_bits : ∀ i j : Fin 128, IntOp.cmpi .sle (BitVec.ofNat 32 i.val) (BitVec.ofNat 32 j.val)
    = BitVec.ofBool (decide (i ≤ j)) := by decide +kernel

theorem and_bits (p b : Bool) : IntOp.andi (BitVec.ofBool p) (BitVec.ofBool b) = BitVec.ofBool (p && b) := by
  cases p <;> cases b <;> rfl

/-- A head's number, as the program writes it. -/
abbrev hb (n : Fin 4) : BitVec 32 := BitVec.ofNat 32 n.val

theorem hn (n : Fin 4) : 64 * n.val + 64 ≤ 256 := by omega

/-- The rows of a block on one head's lanes. -/
def hd (n : Fin 4) (x : Blk) : Mat := fun i l => x (ix2 i (ln n.val (hn n) l))

theorem lanes_apply (n : Fin 4) (i : Fin 128) (c : Fin 256) : lanes (hb n) (ix2 i c) = on n.val c := by
  pointwise [lanes, mk]
  rw [mask_bits, select_ofBool]
  simp only [decide_eq_true_eq]
  rfl

theorem okC_apply (i j : Fin 128) : okC (ix2 i j) = BitVec.ofBool (decide (j ≤ i)) := by
  pointwise [okC, row, col]
  rw [le_bits]

theorem okP_apply (b : Bool) (i j : Fin 128) : okP (BitVec.ofBool b) (ix2 i j) = BitVec.ofBool (decide (i ≤ j) && b) := by
  pointwise [okP, row, col]
  rw [le_bits, and_bits]

theorem scr_apply (ok : IVec S128x128 1) (a k : Blk) (i j : Fin 128) :
    scr ok a k (ix2 i j) = Scalar.select (ok (ix2 i j)) ((∑ c, a (ix2 i c) * k (ix2 j c)) * ((1 / 8 : ℝ) : EReal)) ⊥ := by
  pointwise [scr, nt]
  rw [mask_bot, ofBits_eighth]

theorem qm_apply (n : Fin 4) (q : Blk) (i : Fin 128) (c : Fin 256) : qm (hb n) q (ix2 i c) = q (ix2 i c) * on n.val c := by
  pointwise [qm]
  rw [lanes_apply]

theorem qk (n : Fin 4) (q k : Blk) (i j : Fin 128) :
    (∑ c, qm (hb n) q (ix2 i c) * k (ix2 j c)) = ∑ l, hd n q i l * hd n k j l := by
  rw [lane_sum n.val (hn n)]
  · simp only [qm_apply, on_ln, mul_one]
    rfl
  · intro c hc
    rw [qm_apply, on_off hc, mul_zero, zero_mul]

theorem rmax_apply (s : Sq) (i : Fin 128) : rmax s (ix2 i 0) = top fun j => s (ix2 i j) := by
  pointwise [rmax]
  rw [ofBits_bot]
  rfl

theorem eqs_apply (s : Sq) (i j : Fin 128) :
    eqs s (ix2 i j) = if s (ix2 i j) = top (fun j => s (ix2 i j)) then 1 else 0 := by
  pointwise [eqs]
  rw [rmax_apply]
  by_cases h : s (ix2 i j) = top fun j => s (ix2 i j)
  · rw [if_pos h, decide_eq_true h]
    show (((1 : ℤ) : ℝ) : EReal) = 1
    norm_num
  · rw [if_neg h, decide_eq_false h]
    show (((0 : ℤ) : ℝ) : EReal) = 0
    norm_num

theorem csum_apply (x : Sq) (i : Fin 128) : csum x (ix2 i 0) = ∑ j, x (ix2 i j) := by
  pointwise [csum, rsum]

theorem wsum_apply (x : Blk) (i : Fin 128) : wsum x (ix2 i 0) = ∑ c, x (ix2 i c) := by
  pointwise [wsum]

theorem share_apply (A B : C1) (i : Fin 128) :
    share A B (ix2 i 0) = if B (ix2 i 0) < A (ix2 i 0) then 1 else if A (ix2 i 0) = B (ix2 i 0) then ((1 / 2 : ℝ) : EReal) else 0 := by
  pointwise [share]
  rw [ofBits_half]

theorem tied_apply (D w : C1) (e : Sq) (i j : Fin 128) :
    tied D w e (ix2 i j) = Ideal.div (D (ix2 i 0) * w (ix2 i 0)) (∑ k, e (ix2 i k)) * e (ix2 i j) := by
  pointwise [tied, osum, rsum]
  simp only [Fin.sum_univ_one]

theorem gsc_apply (ok : IVec S128x128 1) (e : Sq) (i j : Fin 128) :
    gsc ok e (ix2 i j) = Scalar.select (ok (ix2 i j)) (e (ix2 i j)) 0 * ((1 / 8 : ℝ) : EReal) := by
  pointwise [gsc]
  rw [ofBits_eighth]

theorem gdp_apply (g v : Blk) (dd : C1) (i j : Fin 128) :
    gdp g v dd (ix2 i j) = (∑ c, g (ix2 i c) * v (ix2 j c)) + dd (ix2 i 0) := by
  pointwise [gdp, nt, osum]
  simp only [Fin.sum_univ_one]

theorem dmx_apply (t : C1) (xP xC : Sq) (i : Fin 128) :
    dmx t xP xC (ix2 i 0) = t (ix2 i 0) + (∑ j, -(xP (ix2 i j))) + ∑ j, -(xC (ix2 i j)) := by
  pointwise [dmx, csum, rsum, negs]
  simp only [zero_sub]

theorem ddn_apply (t d : C1) (om n : Blk) (i : Fin 128) :
    ddn t d om n (ix2 i 0) = Ideal.div (t (ix2 i 0)) (d (ix2 i 0))
      + -(∑ c, om (ix2 i c) * Ideal.div 1 (d (ix2 i 0) * d (ix2 i 0)) * n (ix2 i c)) := by
  pointwise [ddn, negf, wsum, wide, inv]
  simp only [zero_sub]

theorem nn_apply (a : Sq) (x : Blk) (i : Fin 128) (c : Fin 256) : nn a x (ix2 i c) = ∑ j, a (ix2 i j) * x (ix2 j c) := by
  pointwise [nn]

theorem tn_apply (a : Sq) (x : Blk) (j : Fin 128) (c : Fin 256) : tn a x (ix2 j c) = ∑ i, a (ix2 i j) * x (ix2 i c) := by
  pointwise [tn]

theorem wgt_apply (M : C1) (s : Sq) (i j : Fin 128) : wgt M s (ix2 i j) = Ideal.exp (s (ix2 i j) - M (ix2 i 0)) := by
  pointwise [wgt]

section Stages

variable (b : Bool) (n : Fin 4) (q kc kp vc vp o u : Blk) (i j : Fin 128) (c : Fin 256) (l : Fin 64)

theorem sC_apply : sC (hb n) q kc (ix2 i j) = scC (hd n q) (hd n kc) i j := by
  unfold sC scC
  rw [scr_apply, okC_apply, select_ofBool, qk]
  simp only [decide_eq_true_eq]

theorem sP_apply : sP (BitVec.ofBool b) (hb n) q kp (ix2 i j) = scP b (hd n q) (hd n kp) i j := by
  unfold sP scP
  rw [scr_apply, okP_apply, select_ofBool, qk]
  simp only [Bool.and_eq_true, decide_eq_true_eq]

theorem m_apply : m (BitVec.ofBool b) (hb n) q kc kp (ix2 i 0)
    = mx (scC (hd n q) (hd n kc) i) (scP b (hd n q) (hd n kp) i) := by
  pointwise [m]
  simp only [rmax_apply, sC_apply, sP_apply]
  rfl

theorem pC_apply : pC (BitVec.ofBool b) (hb n) q kc kp (ix2 i j)
    = wt (scC (hd n q) (hd n kc) i) (scP b (hd n q) (hd n kp) i) (scC (hd n q) (hd n kc) i) j := by
  unfold pC
  rw [wgt_apply, sC_apply, m_apply]
  rfl

theorem pP_apply : pP (BitVec.ofBool b) (hb n) q kc kp (ix2 i j)
    = wt (scC (hd n q) (hd n kc) i) (scP b (hd n q) (hd n kp) i) (scP b (hd n q) (hd n kp) i) j := by
  unfold pP
  rw [wgt_apply, sP_apply, m_apply]
  rfl

theorem d_apply : d (BitVec.ofBool b) (hb n) q kc kp (ix2 i 0)
    = den (scC (hd n q) (hd n kc) i) (scP b (hd n q) (hd n kp) i) := by
  pointwise [d]
  simp only [csum_apply, pC_apply, pP_apply]
  rfl

theorem n_apply : DilBwd.K.n (BitVec.ofBool b) (hb n) q kc kp vc vp (ix2 i (ln n.val (hn n) l))
    = num (scC (hd n q) (hd n kc) i) (scP b (hd n q) (hd n kp) i) (hd n vc) (hd n vp) l := by
  pointwise [DilBwd.K.n]
  simp only [nn_apply, pC_apply, pP_apply]
  rfl

theorem om_apply : om (hb n) o (ix2 i c) = o (ix2 i c) * on n.val c := by
  pointwise [om, same]
  rw [lanes_apply]

theorem t_apply : t (hb n) u (ix2 i 0) = tot (hd n u i) := by
  unfold t
  rw [wsum_apply, lane_sum n.val (hn n)]
  · pointwise [same]
    simp only [lanes_apply, on_ln, mul_one]
    rfl
  · intro c hc
    pointwise [same]
    rw [lanes_apply, on_off hc, mul_zero]

theorem dd_apply : dd (BitVec.ofBool b) (hb n) q kc kp vc vp o u (ix2 i 0)
    = dden (scC (hd n q) (hd n kc) i) (scP b (hd n q) (hd n kp) i) (hd n vc) (hd n vp) (hd n o i) (hd n u i) := by
  unfold dd
  rw [ddn_apply, lane_sum n.val (hn n)]
  · simp only [t_apply, d_apply, om_apply, on_ln, mul_one, n_apply]
    rfl
  · intro c hc
    rw [om_apply, on_off hc, mul_zero, zero_mul, zero_mul]

theorem g_ln : g (BitVec.ofBool b) (hb n) q kc kp o (ix2 i (ln n.val (hn n) l))
    = grd (scC (hd n q) (hd n kc) i) (scP b (hd n q) (hd n kp) i) (hd n o i) l := by
  pointwise [g, wide]
  rw [om_apply, on_ln, mul_one, d_apply]
  rfl

variable (H : Fine b (hd n q) (hd n kc) (hd n kp))

include H

theorem g_off (hc : c.val / 64 ≠ n.val) : g (BitVec.ofBool b) (hb n) q kc kp o (ix2 i c) = 0 := by
  pointwise [g, wide]
  obtain ⟨r, hr⟩ := H i
  obtain ⟨r, hr, hd⟩ := den_real hr
  rw [om_apply, on_off hc, mul_zero, d_apply, hd, Ideal.div_coe hr.ne', zero_mul]

theorem gv (v : Blk) : (∑ c, g (BitVec.ofBool b) (hb n) q kc kp o (ix2 i c) * v (ix2 j c))
    = ∑ l, grd (scC (hd n q) (hd n kc) i) (scP b (hd n q) (hd n kp) i) (hd n o i) l * hd n v j l := by
  rw [lane_sum n.val (hn n)]
  · simp only [g_ln]
    rfl
  · intro c hc
    rw [g_off b n q kc kp o i c H hc, zero_mul]

theorem xC_apply : xC (BitVec.ofBool b) (hb n) q kc kp vc vp o u (ix2 i j)
    = xx (scC (hd n q) (hd n kc) i) (scP b (hd n q) (hd n kp) i) (hd n vc) (hd n vp) (hd n o i) (hd n u i) (hd n vc)
        (scC (hd n q) (hd n kc) i) j := by
  pointwise [xC]
  rw [gdp_apply, gv b n q kc kp o i j H, dd_apply, pC_apply]
  rfl

theorem xP_apply : xP (BitVec.ofBool b) (hb n) q kc kp vc vp o u (ix2 i j)
    = xx (scC (hd n q) (hd n kc) i) (scP b (hd n q) (hd n kp) i) (hd n vc) (hd n vp) (hd n o i) (hd n u i) (hd n vp)
        (scP b (hd n q) (hd n kp) i) j := by
  pointwise [xP]
  rw [gdp_apply, gv b n q kc kp o i j H, dd_apply, pP_apply]
  rfl

theorem D_apply : D (BitVec.ofBool b) (hb n) q kc kp vc vp o u (ix2 i 0)
    = dsum (scC (hd n q) (hd n kc) i) (scP b (hd n q) (hd n kp) i) (hd n vc) (hd n vp) (hd n o i) (hd n u i) := by
  unfold D
  rw [dmx_apply, t_apply]
  simp only [xC_apply b n q kc kp vc vp o u _ _ H, xP_apply b n q kc kp vc vp o u _ _ H]
  rfl

theorem eC_apply : eC (BitVec.ofBool b) (hb n) q kc kp vc vp o u (ix2 i j)
    = xx (scC (hd n q) (hd n kc) i) (scP b (hd n q) (hd n kp) i) (hd n vc) (hd n vp) (hd n o i) (hd n u i) (hd n vc)
        (scC (hd n q) (hd n kc) i) j
      + tie (scC (hd n q) (hd n kc) i) (scP b (hd n q) (hd n kp) i) (hd n vc) (hd n vp) (hd n o i) (hd n u i)
        (scC (hd n q) (hd n kc) i) j := by
  obtain ⟨r, hr⟩ := H i
  have hD := dsum_cases hr (hd n vc) (hd n vp) (hd n o i) (hd n u i)
  pointwise [eC]
  rw [xC_apply b n q kc kp vc vp o u i j H, tied_apply, D_apply b n q kc kp vc vp o u i H, share_apply]
  simp only [eqs_apply, rmax_apply, sC_apply, sP_apply]
  congr 1
  exact tie_side hD _ _ _

theorem eP_apply : eP (BitVec.ofBool b) (hb n) q kc kp vc vp o u (ix2 i j)
    = xx (scC (hd n q) (hd n kc) i) (scP b (hd n q) (hd n kp) i) (hd n vc) (hd n vp) (hd n o i) (hd n u i) (hd n vp)
        (scP b (hd n q) (hd n kp) i) j
      + tie (scC (hd n q) (hd n kc) i) (scP b (hd n q) (hd n kp) i) (hd n vc) (hd n vp) (hd n o i) (hd n u i)
        (scP b (hd n q) (hd n kp) i) j := by
  obtain ⟨r, hr⟩ := H i
  have hD := dsum_cases hr (hd n vc) (hd n vp) (hd n o i) (hd n u i)
  pointwise [eP]
  rw [xP_apply b n q kc kp vc vp o u i j H, tied_apply, D_apply b n q kc kp vc vp o u i H, share_apply]
  simp only [eqs_apply, rmax_apply, sC_apply, sP_apply]
  congr 1
  rw [tie, mx, max_comm]
  exact tie_side hD _ _ _

theorem dsC_apply : dsC (BitVec.ofBool b) (hb n) q kc kp vc vp o u (ix2 i j)
    = gsC b (hd n q) (hd n kc) (hd n kp) (hd n vc) (hd n vp) (hd n o) (hd n u) i j := by
  unfold dsC
  rw [gsc_apply, okC_apply, select_ofBool, eC_apply b n q kc kp vc vp o u i j H]
  simp only [decide_eq_true_eq]
  rfl

theorem dsP_apply : dsP (BitVec.ofBool b) (hb n) q kc kp vc vp o u (ix2 i j)
    = gsP b (hd n q) (hd n kc) (hd n kp) (hd n vc) (hd n vp) (hd n o) (hd n u) i j := by
  unfold dsP
  rw [gsc_apply, okP_apply, select_ofBool, eP_apply b n q kc kp vc vp o u i j H]
  simp only [Bool.and_eq_true, decide_eq_true_eq]
  rfl

/-! ### The head's part of each result -/

theorem dkC_ln : dkC (BitVec.ofBool b) (hb n) q kc kp vc vp o u (ix2 j (ln n.val (hn n) l))
    = gkC b (hd n q) (hd n kc) (hd n kp) (hd n vc) (hd n vp) (hd n o) (hd n u) j l := by
  unfold dkC
  rw [tn_apply]
  simp only [dsC_apply b n q kc kp vc vp o u _ _ H, qm_apply, on_ln, mul_one]
  rfl

theorem dkP_ln : dkP (BitVec.ofBool b) (hb n) q kc kp vc vp o u (ix2 j (ln n.val (hn n) l))
    = gkP b (hd n q) (hd n kc) (hd n kp) (hd n vc) (hd n vp) (hd n o) (hd n u) j l := by
  unfold dkP
  rw [tn_apply]
  simp only [dsP_apply b n q kc kp vc vp o u _ _ H, qm_apply, on_ln, mul_one]
  rfl

theorem dvC_off (hc : c.val / 64 ≠ n.val) : dvC (BitVec.ofBool b) (hb n) q kc kp o (ix2 j c) = 0 := by
  unfold dvC
  rw [tn_apply]
  simp only [g_off b n q kc kp o _ c H hc, mul_zero, Finset.sum_const_zero]

theorem dvP_off (hc : c.val / 64 ≠ n.val) : dvP (BitVec.ofBool b) (hb n) q kc kp o (ix2 j c) = 0 := by
  unfold dvP
  rw [tn_apply]
  simp only [g_off b n q kc kp o _ c H hc, mul_zero, Finset.sum_const_zero]

theorem dq_ln : dqP (BitVec.ofBool b) (hb n) q kc kp vc vp o u (ix2 i (ln n.val (hn n) l))
      + dqC (BitVec.ofBool b) (hb n) q kc kp vc vp o u (ix2 i (ln n.val (hn n) l))
    = gq b (hd n q) (hd n kc) (hd n kp) (hd n vc) (hd n vp) (hd n o) (hd n u) i l := by
  pointwise [dqP, dqC]
  simp only [lanes_apply, on_ln, mul_one, nn_apply, dsP_apply b n q kc kp vc vp o u _ _ H,
    dsC_apply b n q kc kp vc vp o u _ _ H]
  rfl

omit H

theorem dvC_ln : dvC (BitVec.ofBool b) (hb n) q kc kp o (ix2 j (ln n.val (hn n) l))
    = gvC b (hd n q) (hd n kc) (hd n kp) (hd n o) j l := by
  unfold dvC
  rw [tn_apply]
  simp only [pC_apply, g_ln]
  rfl

theorem dvP_ln : dvP (BitVec.ofBool b) (hb n) q kc kp o (ix2 j (ln n.val (hn n) l))
    = gvP b (hd n q) (hd n kc) (hd n kp) (hd n o) j l := by
  unfold dvP
  rw [tn_apply]
  simp only [pP_apply, g_ln]
  rfl

variable (hp : BitVec 1) (hc : c.val / 64 ≠ n.val)

include hc

theorem dkC_off : dkC hp (hb n) q kc kp vc vp o u (ix2 j c) = 0 := by
  unfold dkC
  rw [tn_apply]
  simp only [qm_apply, on_off hc, mul_zero, Finset.sum_const_zero]

theorem dkP_off : dkP hp (hb n) q kc kp vc vp o u (ix2 j c) = 0 := by
  unfold dkP
  rw [tn_apply]
  simp only [qm_apply, on_off hc, mul_zero, Finset.sum_const_zero]

theorem dqC_off : dqC hp (hb n) q kc kp vc vp o u (ix2 i c) = 0 := by
  pointwise [dqC]
  rw [lanes_apply, on_off hc, mul_zero]

theorem dqP_off : dqP hp (hb n) q kc kp vc vp o u (ix2 i c) = 0 := by
  pointwise [dqP]
  rw [lanes_apply, on_off hc, mul_zero]

end Stages

end DilBwd.K

end
-- ==== Proof.Dil.Arr.lean ====
/-
  The arrays of the dilated attention cut into heads, residues and blocks, and the three gradients of one group of heads
  as functions of the arrays: `d` is the dilation and `g` the group.
-/
module

public import proofs.«01_k».proof.Proof.Dil.Block
public import proofs.«01_k».proof.Proof.Dil.Lanes

@[expose] public section

noncomputable section

namespace DilBwd

open Idealize.ShloMosaic

/-- A matrix at every pair of numbers, zero past its sizes. -/
def ext {R W : ℕ} (X : (⟨2, ![R, W]⟩ : Shape).Idx → EReal) (r c : ℕ) : EReal :=
  if h : r < R ∧ c < W then X (ix2 ⟨r, h.1⟩ ⟨c, h.2⟩) else 0

theorem ext_ix2 {R W : ℕ} (X : (⟨2, ![R, W]⟩ : Shape).Idx → EReal) (r : Fin R) (c : Fin W) : ext X r.val c.val = X (ix2 r c) :=
  dif_pos ⟨r.isLt, c.isLt⟩

theorem ext_of {R W : ℕ} (X : (⟨2, ![R, W]⟩ : Shape).Idx → EReal) {r c : ℕ} (h : r < R) (h' : c < W) :
    ext X r c = X (ix2 ⟨r, h⟩ ⟨c, h'⟩) := dif_pos ⟨h, h'⟩

theorem ext_real {R W : ℕ} (X : (⟨2, ![R, W]⟩ : Shape).Idx → EReal) (h : ∀ i, ∃ x : ℝ, X i = x) (r c : ℕ) :
    ∃ x : ℝ, ext X r c = x := by
  unfold ext
  split
  · exact h _
  · exact ⟨0, rfl⟩

/-- A hundred and twenty-eight rows, every `s`-th from `r` on, and sixty-four lanes from `c` on. -/
def mat (X : ℕ → ℕ → EReal) (r s c : ℕ) : Mat := fun i l => X (r + s * i.val) (c + l.val)

section

variable (d g : ℕ) (q k : (⟨2, ![4096, 768]⟩ : Shape).Idx → EReal) (kv : (⟨2, ![4096, 1536]⟩ : Shape).Idx → EReal)
  (o u : (⟨2, ![4096, 256]⟩ : Shape).Idx → EReal)

/-- The first row of block `n` of residue `r`. -/
def row0 (n r : ℕ) : ℕ := 128 * d * n + r

/-- Head `h`'s rows of block `n` of residue `r`: the queries and the keys, -/
def ofQ (X : (⟨2, ![4096, 768]⟩ : Shape).Idx → EReal) (n r h : ℕ) : Mat := mat (ext X) (row0 d n r) d (256 * g + 64 * h)

/-- the values, -/
def ofV (n r h : ℕ) : Mat := mat (ext kv) (row0 d n r) d (768 + 256 * g + 64 * h)

/-- and the cotangents. -/
def ofO (X : (⟨2, ![4096, 256]⟩ : Shape).Idx → EReal) (n r h : ℕ) : Mat := mat (ext X) (row0 d n r) d (64 * h)

/-- The gradients of block `n` of residue `r` at head `h`. -/
def blkQ (n r h : ℕ) : Mat := gq (decide (0 < n)) (ofQ d g q n r h) (ofQ d g k n r h) (ofQ d g k (n - 1) r h)
  (ofV d g kv n r h) (ofV d g kv (n - 1) r h) (ofO d o n r h) (ofO d u n r h)
def blkKC (n r h : ℕ) : Mat := gkC (decide (0 < n)) (ofQ d g q n r h) (ofQ d g k n r h) (ofQ d g k (n - 1) r h)
  (ofV d g kv n r h) (ofV d g kv (n - 1) r h) (ofO d o n r h) (ofO d u n r h)
def blkKP (n r h : ℕ) : Mat := gkP (decide (0 < n)) (ofQ d g q n r h) (ofQ d g k n r h) (ofQ d g k (n - 1) r h)
  (ofV d g kv n r h) (ofV d g kv (n - 1) r h) (ofO d o n r h) (ofO d u n r h)
def blkVC (n r h : ℕ) : Mat := gvC (decide (0 < n)) (ofQ d g q n r h) (ofQ d g k n r h) (ofQ d g k (n - 1) r h) (ofO d o n r h)
def blkVP (n r h : ℕ) : Mat := gvP (decide (0 < n)) (ofQ d g q n r h) (ofQ d g k n r h) (ofQ d g k (n - 1) r h) (ofO d o n r h)

/-- The array whose row `128 d n + d i + r` and lane `64 h + l` is `B n r h i l`. -/
def arr (hd : 0 < d) (B : ℕ → ℕ → ℕ → Mat) : (⟨2, ![4096, 256]⟩ : Shape).Idx → EReal := fun x =>
  B ((x 0).val / (128 * d)) ((x 0).val % d) ((x 1).val / 64)
    ⟨(x 0).val % (128 * d) / d, Nat.div_lt_of_lt_mul (by rw [Nat.mul_comm]; exact Nat.mod_lt _ (by omega))⟩
    ⟨(x 1).val % 64, Nat.mod_lt _ (by omega)⟩

/-- A block's own share and the next block's. -/
def both (C P : ℕ → ℕ → ℕ → Mat) : ℕ → ℕ → ℕ → Mat := fun n r h i l =>
  C n r h i l + if (n + 1) * (128 * d) < 4096 then P (n + 1) r h i l else 0

/-- THE GRADIENTS of the queries, the keys and the values. -/
def gradQ (hd : 0 < d) : (⟨2, ![4096, 256]⟩ : Shape).Idx → EReal := arr d hd (blkQ d g q k kv o u)
def gradK (hd : 0 < d) : (⟨2, ![4096, 256]⟩ : Shape).Idx → EReal :=
  arr d hd (both d (blkKC d g q k kv o u) (blkKP d g q k kv o u))
def gradV (hd : 0 < d) : (⟨2, ![4096, 256]⟩ : Shape).Idx → EReal := arr d hd (both d (blkVC d g q k o) (blkVP d g q k o))

theorem fine_blk (hq : ∀ i, ∃ x : ℝ, q i = x) (hk : ∀ i, ∃ x : ℝ, k i = x) (b : Bool) (n p r h : ℕ) :
    Fine b (ofQ d g q n r h) (ofQ d g k n r h) (ofQ d g k p r h) :=
  fine (fun _ _ => ext_real q hq _ _) (fun _ _ => ext_real k hk _ _) (fun _ _ _ => ext_real k hk _ _)

/-- Where a row lies. -/
theorem arr_at (hd : 0 < d) (B : ℕ → ℕ → ℕ → Mat) (R : Fin 4096) (C : Fin 256) {n r h : ℕ} (i : Fin 128) (l : Fin 64)
    (hr : r < d) (hR : R.val = 128 * d * n + d * i.val + r) (hC : C.val = 64 * h + l.val) :
    arr d hd B (ix2 R C) = B n r h i l := by
  have e1 : R.val / (128 * d) = n := by
    rw [hR]
    have : d * i.val + r < 128 * d := by
      have := Nat.mul_le_mul_left d (Nat.le_of_lt_succ i.isLt)
      omega
    rw [show 128 * d * n + d * i.val + r = (d * i.val + r) + 128 * d * n by ring, Nat.add_mul_div_left _ _ (by omega),
      Nat.div_eq_of_lt this, Nat.zero_add]
  have e2 : R.val % (128 * d) = d * i.val + r := by
    have : d * i.val + r < 128 * d := by
      have := Nat.mul_le_mul_left d (Nat.le_of_lt_succ i.isLt)
      omega
    rw [hR, show 128 * d * n + d * i.val + r = (d * i.val + r) + 128 * d * n by ring, Nat.add_mul_mod_self_left,
      Nat.mod_eq_of_lt this]
  have e3 : R.val % d = r := by
    rw [hR, show 128 * d * n + d * i.val + r = r + d * (128 * n + i.val) by ring, Nat.add_mul_mod_self_left,
      Nat.mod_eq_of_lt hr]
  have e4 : (d * i.val + r) / d = i.val := by
    rw [Nat.mul_add_div hd, Nat.div_eq_of_lt hr, Nat.add_zero]
  show B (R.val / (128 * d)) (R.val % d) (C.val / 64) ⟨R.val % (128 * d) / d, _⟩ ⟨C.val % 64, _⟩ = _
  have e5 : C.val / 64 = h := by omega
  have e6 : C.val % 64 = l.val := by omega
  rw [e1, e3, e5]
  exact congrArg₂ (B n r h) (Fin.ext (by show R.val % (128 * d) / d = i.val; rw [e2, e4])) (Fin.ext e6)

/-- A block's own share and the next one's, as arrays: the second moved up by a block. -/
theorem both_at (hd : 0 < d) (hv : 128 * d ∣ 4096) (C P : ℕ → ℕ → ℕ → Mat) (R : Fin 4096) (c : Fin 256) :
    arr d hd (both d C P) (ix2 R c) = arr d hd C (ix2 R c)
      + if h : R.val + 128 * d < 4096 then arr d hd P (ix2 ⟨128 * d + R.val, by omega⟩ c) else 0 := by
  have e1 : (128 * d + R.val) / (128 * d) = R.val / (128 * d) + 1 := by
    rw [Nat.add_div_left _ (by omega : 0 < 128 * d)]
  have e2 : (128 * d + R.val) % (128 * d) = R.val % (128 * d) := Nat.add_mod_left _ _
  have e3 : (128 * d + R.val) % d = R.val % d := by
    rw [Nat.mul_comm 128 d, Nat.mul_add_mod]
  show arr d hd C (ix2 R c) + (if (R.val / (128 * d) + 1) * (128 * d) < 4096 then
      P (R.val / (128 * d) + 1) (R.val % d) (c.val / 64) ⟨R.val % (128 * d) / d, _⟩ ⟨c.val % 64, _⟩ else 0) = _
  congr 1
  have e4 : (R.val / (128 * d) + 1) * (128 * d) < 4096 ↔ R.val + 128 * d < 4096 := by
    obtain ⟨w, hw⟩ := hv
    generalize R.val = x
    rw [hw]
    have e : ∀ a, x + 128 * d < 128 * d * a ↔ x / (128 * d) + 1 < a := fun a => by
      rw [← Nat.add_div_right _ (by omega : 0 < 128 * d), Nat.div_lt_iff_lt_mul (by omega : 0 < 128 * d), Nat.mul_comm a]
    rw [e, Nat.mul_comm (x / (128 * d) + 1)]
    exact Nat.mul_lt_mul_left (by omega : 0 < 128 * d)
  by_cases h : R.val + 128 * d < 4096
  · rw [if_pos (e4.2 h), dif_pos h]
    show _ = P ((128 * d + R.val) / (128 * d)) ((128 * d + R.val) % d) (c.val / 64) ⟨(128 * d + R.val) % (128 * d) / d, _⟩
      ⟨c.val % 64, _⟩
    rw [e1, e3]
    exact congrArg₂ _ (Fin.ext (by show R.val % (128 * d) / d = (128 * d + R.val) % (128 * d) / d; rw [e2])) rfl
  · rw [if_neg (fun hh => h (e4.1 hh)), dif_neg h]

end

end DilBwd

end
-- ==== Proof.Dil.Outs.lean ====
/-
  What the body leaves in its five output buffers, read at a lane of a head: the block's gradients of that head
  (Eval.lean).
-/
module

public import proofs.«01_k».proof.Proof.Dil.Eval
public import proofs.«01_k».proof.Proof.Dil.Arr
public import Idealize.ShloMosaic.Lib.Pipeline.Value
public import Idealize.ShloMosaic.Lib.Pipeline.FrameTail

@[expose] public section

set_option maxRecDepth 16384

noncomputable section

namespace DilBwd.K

open Idealize.ShloMosaic Idealize.ShloMosaic.TcCoe Idealize.SL.Sem
open Cert.KernelIdeal Cert.KernelIdeal.Facts₀ Cert.KernelIdeal.Gen
open Idealize.ShloMosaic.Pipeline (Dat)

/-! ## The five stores -/

section Outs

variable (i : grid0.Coords) (x0 x1 x2 x3 x4 x5 x6 : Vec Ideal S128x256 .f32)

/-- Whether there is a previous block, as the program asks it. -/
def hpv : BitVec 1 := Scalar.cmpi .sgt (BitVec.ofNat 32 (i 1).val) 0#32

/-- The four heads' parts, added as the kernel adds them. -/
def four (f : Fin 4 → Blk) : Blk := addf (addf (addf (f 3) (f 2)) (f 1)) (f 0)

def eight (f g : Fin 4 → Blk) : Blk :=
  addf (addf (addf (addf (addf (addf (addf (f 3) (g 3)) (f 2)) (g 2)) (f 1)) (g 1)) (f 0)) (g 0)

theorem hz : (![0, 0] : Fin 2 → Nat) = fun _ => 0 := funext fun a => by fin_cases a <;> rfl

theorem ld0 (x : Vec Ideal S128x256 .f32) : View.ld x r0_0 = x := View.ld_unit_zero (S := S128x256) (off := ![0, 0]) hz Gen.inb_S128x256_S128x256_0_0 x

theorem out7 : out0_7 i x0 x1 x2 x3 x4 x5 x6
    = eight (fun n => dqP (hpv i) (hb n) x0 x1 x2 x3 x4 x5 x6) (fun n => dqC (hpv i) (hb n) x0 x1 x2 x3 x4 x5 x6) := by
  have h : out0_7 i x0 x1 x2 x3 x4 x5 x6 = View.canon [⟨r0_0,
    eight (fun n => dqP (hpv i) (hb n) (View.ld x0 r0_0) (View.ld x1 r0_0) (View.ld x2 r0_0) (View.ld x3 r0_0) (View.ld x4 r0_0) (View.ld x5 r0_0) (View.ld x6 r0_0))
      (fun n => dqC (hpv i) (hb n) (View.ld x0 r0_0) (View.ld x1 r0_0) (View.ld x2 r0_0) (View.ld x3 r0_0) (View.ld x4 r0_0) (View.ld x5 r0_0) (View.ld x6 r0_0))⟩] := rfl
  rw [h, View.canon_unit_zero hz]
  simp only [ld0]

theorem out8 : out0_8 i x0 x1 x2 x3 x4 x5 x6 = four fun n => dkC (hpv i) (hb n) x0 x1 x2 x3 x4 x5 x6 := by
  have h : out0_8 i x0 x1 x2 x3 x4 x5 x6 = View.canon [⟨r0_0,
    four fun n => dkC (hpv i) (hb n) (View.ld x0 r0_0) (View.ld x1 r0_0) (View.ld x2 r0_0) (View.ld x3 r0_0) (View.ld x4 r0_0) (View.ld x5 r0_0) (View.ld x6 r0_0)⟩] := rfl
  rw [h, View.canon_unit_zero hz]
  simp only [ld0]

theorem out9 : out0_9 i x0 x1 x2 x3 x4 x5 x6 = four fun n => dkP (hpv i) (hb n) x0 x1 x2 x3 x4 x5 x6 := by
  have h : out0_9 i x0 x1 x2 x3 x4 x5 x6 = View.canon [⟨r0_0,
    four fun n => dkP (hpv i) (hb n) (View.ld x0 r0_0) (View.ld x1 r0_0) (View.ld x2 r0_0) (View.ld x3 r0_0) (View.ld x4 r0_0) (View.ld x5 r0_0) (View.ld x6 r0_0)⟩] := rfl
  rw [h, View.canon_unit_zero hz]
  simp only [ld0]

theorem out10 : out0_10 i x0 x1 x2 x3 x4 x5 x6 = four fun n => dvC (hpv i) (hb n) x0 x1 x2 x5 := by
  have h : out0_10 i x0 x1 x2 x3 x4 x5 x6 = View.canon [⟨r0_0,
    four fun n => dvC (hpv i) (hb n) (View.ld x0 r0_0) (View.ld x1 r0_0) (View.ld x2 r0_0) (View.ld x5 r0_0)⟩] := rfl
  rw [h, View.canon_unit_zero hz]
  simp only [ld0]

theorem out11 : out0_11 i x0 x1 x2 x3 x4 x5 x6 = four fun n => dvP (hpv i) (hb n) x0 x1 x2 x5 := by
  have h : out0_11 i x0 x1 x2 x3 x4 x5 x6 = View.canon [⟨r0_0,
    four fun n => dvP (hpv i) (hb n) (View.ld x0 r0_0) (View.ld x1 r0_0) (View.ld x2 r0_0) (View.ld x5 r0_0)⟩] := rfl
  rw [h, View.canon_unit_zero hz]
  simp only [ld0]

/-- On a lane of head `n` only that head's part counts. -/
theorem four_apply (f : Fin 4 → Blk) (j : Fin 128) (n : Fin 4) (c : Fin 256) (h : ∀ k : Fin 4, k ≠ n → f k (ix2 j c) = 0) :
    four f (ix2 j c) = f n (ix2 j c) := by
  pointwise [four]
  fin_cases n
  · rw [h 1 (by decide), h 2 (by decide), h 3 (by decide)]; simp
  · rw [h 0 (by decide), h 2 (by decide), h 3 (by decide)]; simp
  · rw [h 1 (by decide), h 0 (by decide), h 3 (by decide)]; simp
  · rw [h 1 (by decide), h 2 (by decide), h 0 (by decide)]; simp

theorem eight_apply (f g : Fin 4 → Blk) (j : Fin 128) (n : Fin 4) (c : Fin 256)
    (h : ∀ k : Fin 4, k ≠ n → f k (ix2 j c) = 0) (h' : ∀ k : Fin 4, k ≠ n → g k (ix2 j c) = 0) :
    eight f g (ix2 j c) = f n (ix2 j c) + g n (ix2 j c) := by
  pointwise [eight]
  fin_cases n
  · rw [h 1 (by decide), h 2 (by decide), h 3 (by decide), h' 1 (by decide), h' 2 (by decide), h' 3 (by decide)]; simp
  · rw [h 0 (by decide), h 2 (by decide), h 3 (by decide), h' 0 (by decide), h' 2 (by decide), h' 3 (by decide)]; simp
  · rw [h 1 (by decide), h 0 (by decide), h 3 (by decide), h' 1 (by decide), h' 0 (by decide), h' 3 (by decide)]; simp
  · rw [h 1 (by decide), h 2 (by decide), h 0 (by decide), h' 1 (by decide), h' 2 (by decide), h' 0 (by decide)]; simp

theorem off_head {n k : Fin 4} (l : Fin 64) (h : k ≠ n) : ((ln n.val (hn n) l : Fin 256)).val / 64 ≠ k.val := by
  intro h'
  apply h
  simp only [ln] at h'
  exact Fin.ext (by omega)

variable (b : Bool) (hbi : hpv i = BitVec.ofBool b) (n : Fin 4) (j : Fin 128) (l : Fin 64)
variable (H : ∀ n, Fine b (hd n x0) (hd n x1) (hd n x2))

include hbi H

theorem out7_apply : out0_7 i x0 x1 x2 x3 x4 x5 x6 (ix2 j (ln n.val (hn n) l))
    = gq b (hd n x0) (hd n x1) (hd n x2) (hd n x3) (hd n x4) (hd n x5) (hd n x6) j l := by
  rw [out7, hbi, eight_apply _ _ j n, dq_ln b n x0 x1 x2 x3 x4 x5 x6 j l (H n)]
  · exact fun k hk => dqP_off k x0 x1 x2 x3 x4 x5 x6 j _ _ (off_head l hk)
  · exact fun k hk => dqC_off k x0 x1 x2 x3 x4 x5 x6 j _ _ (off_head l hk)

theorem out8_apply : out0_8 i x0 x1 x2 x3 x4 x5 x6 (ix2 j (ln n.val (hn n) l))
    = gkC b (hd n x0) (hd n x1) (hd n x2) (hd n x3) (hd n x4) (hd n x5) (hd n x6) j l := by
  rw [out8, hbi, four_apply _ j n, dkC_ln b n x0 x1 x2 x3 x4 x5 x6 j l (H n)]
  exact fun k hk => dkC_off k x0 x1 x2 x3 x4 x5 x6 j _ _ (off_head l hk)

theorem out9_apply : out0_9 i x0 x1 x2 x3 x4 x5 x6 (ix2 j (ln n.val (hn n) l))
    = gkP b (hd n x0) (hd n x1) (hd n x2) (hd n x3) (hd n x4) (hd n x5) (hd n x6) j l := by
  rw [out9, hbi, four_apply _ j n, dkP_ln b n x0 x1 x2 x3 x4 x5 x6 j l (H n)]
  exact fun k hk => dkP_off k x0 x1 x2 x3 x4 x5 x6 j _ _ (off_head l hk)

theorem out10_apply : out0_10 i x0 x1 x2 x3 x4 x5 x6 (ix2 j (ln n.val (hn n) l))
    = gvC b (hd n x0) (hd n x1) (hd n x2) (hd n x5) j l := by
  rw [out10, hbi, four_apply _ j n, dvC_ln b n x0 x1 x2 x5 j l]
  exact fun k hk => dvC_off b k x0 x1 x2 x5 j _ (H k) (off_head l hk)

theorem out11_apply : out0_11 i x0 x1 x2 x3 x4 x5 x6 (ix2 j (ln n.val (hn n) l))
    = gvP b (hd n x0) (hd n x1) (hd n x2) (hd n x5) j l := by
  rw [out11, hbi, four_apply _ j n, dvP_ln b n x0 x1 x2 x5 j l]
  exact fun k hk => dvP_off b k x0 x1 x2 x5 j _ (H k) (off_head l hk)

end Outs

end DilBwd.K

end
-- ==== Proof.Dil.KRun.lean ====
/-
  The kernel's results as functions of its arguments: what each grid point writes back is its block of the arrays of the
  blocks' gradients (Outs.lean), and after the region the next block's shares are added in.
-/
module

public import proofs.«01_k».proof.Proof.Dil.Outs
public import Idealize.ShloMosaic.Lib.StableHlo.Run

@[expose] public section

set_option maxRecDepth 16384

noncomputable section

namespace DilBwd.K

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## Where a point's blocks lie -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val - 1 ∧ win0_2.index t (1 : Fin 2) = 0 :=
  (by decide +kernel : ∀ t : Fin grid0.N, _)
theorem at3 : ∀ t : Fin cfg0.N, win0_3.index t (0 : Fin 2) = t.val ∧ win0_3.index t (1 : Fin 2) = 3 :=
  (by decide +kernel : ∀ t : Fin grid0.N, _)
theorem at4 : ∀ t : Fin cfg0.N, win0_4.index t (0 : Fin 2) = t.val - 1 ∧ win0_4.index t (1 : Fin 2) = 3 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)
theorem at8 : ∀ t : Fin cfg0.N, win0_8.index t (0 : Fin 2) = t.val ∧ win0_8.index t (1 : Fin 2) = 0 :=
  (by decide +kernel : ∀ t : Fin grid0.N, _)
theorem at9 : ∀ t : Fin cfg0.N, win0_9.index t (0 : Fin 2) = t.val ∧ win0_9.index t (1 : Fin 2) = 0 :=
  (by decide +kernel : ∀ t : Fin grid0.N, _)
theorem at10 : ∀ t : Fin cfg0.N, win0_10.index t (0 : Fin 2) = t.val ∧ win0_10.index t (1 : Fin 2) = 0 :=
  (by decide +kernel : ∀ t : Fin grid0.N, _)
theorem at11 : ∀ t : Fin cfg0.N, win0_11.index t (0 : Fin 2) = t.val ∧ win0_11.index t (1 : Fin 2) = 0 :=
  (by decide +kernel : ∀ t : Fin grid0.N, _)

theorem hpv_at : ∀ t : Fin cfg0.N, hpv (grid0.coords t) = BitVec.ofBool (decide (0 < t.val)) :=
  (by decide +kernel : ∀ t : Fin grid0.N, _)

/-! ## The blocks the points read -/

theorem hd_emb {R W : ℕ} (X : (⟨2, ![R, W]⟩ : Shape).Idx → EReal) (e : S128x256.Idx → (⟨2, ![R, W]⟩ : Shape).Idx) {a b : ℕ}
    (h0 : ∀ j, (e j 0).val = a * 128 + 1 * (j 0).val) (h1 : ∀ j, (e j 1).val = b * 256 + 1 * (j 1).val) (n : Fin 4) :
    hd n (fun j => X (e j)) = mat (ext X) (row0 1 a 0) 1 (256 * b + 64 * n.val) := by
  funext i l
  have e0 := h0 (ix2 i (ln n.val (hn n) l))
  have e1 := h1 (ix2 i (ln n.val (hn n) l))
  have hr : row0 1 a 0 + 1 * i.val < R := by
    have := (e (ix2 i (ln n.val (hn n) l)) 0).isLt
    have h : (e (ix2 i (ln n.val (hn n) l)) 0).val = row0 1 a 0 + 1 * i.val := by
      rw [e0]; simp only [row0, ix2]; show a * 128 + 1 * i.val = _; omega
    rw [h] at this; exact this
  have hc : 256 * b + 64 * n.val + l.val < W := by
    have := (e (ix2 i (ln n.val (hn n) l)) 1).isLt
    have h : (e (ix2 i (ln n.val (hn n) l)) 1).val = 256 * b + 64 * n.val + l.val := by
      rw [e1]; show b * 256 + 1 * (64 * n.val + l.val) = _; omega
    rw [h] at this; exact this
  show X (e (ix2 i (ln n.val (hn n) l))) = ext X (row0 1 a 0 + 1 * i.val) (256 * b + 64 * n.val + l.val)
  rw [ext_of X hr hc]
  congr 1
  funext ax
  match ax with
  | ⟨0, _⟩ => exact Fin.ext (e0.trans (by show a * 128 + 1 * i.val = row0 1 a 0 + 1 * i.val; simp only [row0]; omega))
  | ⟨1, _⟩ => exact Fin.ext (e1.trans (by show b * 256 + 1 * (64 * n.val + l.val) = 256 * b + 64 * n.val + l.val; omega))

section

variable (c : Dev nD) (t : Fin cfg0.N) (n : Fin 4)

/-- The arguments as the region finds them. -/
abbrev aq : Vec Ideal S4096x768 .f32 := m ((c : Thread nD τ).loc main_arg0)
abbrev ak : Vec Ideal S4096x768 .f32 := m ((c : Thread nD τ).loc main_arg1)
abbrev av : Vec Ideal S4096x1536 .f32 := m ((c : Thread nD τ).loc main_arg2)
abbrev ao : Vec Ideal S4096x256 .f32 := m ((c : Thread nD τ).loc main_arg3)
abbrev au : Vec Ideal S4096x256 .f32 := m ((c : Thread nD τ).loc main_arg4)

theorem in0 : hd n (iblk m c 0 t) = ofQ 1 0 (aq m c) t.val 0 n.val :=
  (hd_emb (a := t.val) (b := 0) (aq m c) (fun j => ((cfg0.win 0).blk t).view.emb j)
    (fun j => by show win0_0.index t (0 : Fin 2) * 128 + 1 * (j 0).val = _; rw [(at0 t).1])
    (fun j => by show win0_0.index t (1 : Fin 2) * 256 + 1 * (j 1).val = _; rw [(at0 t).2]) n)

theorem in1 : hd n (iblk m c 1 t) = ofQ 1 0 (ak m c) t.val 0 n.val :=
  (hd_emb (a := t.val) (b := 0) (ak m c) (fun j => ((cfg0.win 1).blk t).view.emb j)
    (fun j => by show win0_1.index t (0 : Fin 2) * 128 + 1 * (j 0).val = _; rw [(at1 t).1])
    (fun j => by show win0_1.index t (1 : Fin 2) * 256 + 1 * (j 1).val = _; rw [(at1 t).2]) n)

theorem in2 : hd n (iblk m c 2 t) = ofQ 1 0 (ak m c) (t.val - 1) 0 n.val :=
  (hd_emb (a := t.val - 1) (b := 0) (ak m c) (fun j => ((cfg0.win 2).blk t).view.emb j)
    (fun j => by show win0_2.index t (0 : Fin 2) * 128 + 1 * (j 0).val = _; rw [(at2 t).1])
    (fun j => by show win0_2.index t (1 : Fin 2) * 256 + 1 * (j 1).val = _; rw [(at2 t).2]) n)

theorem in3 : hd n (iblk m c 3 t) = ofV 1 0 (av m c) t.val 0 n.val :=
  (hd_emb (a := t.val) (b := 3) (av m c) (fun j => ((cfg0.win 3).blk t).view.emb j)
    (fun j => by show win0_3.index t (0 : Fin 2) * 128 + 1 * (j 0).val = _; rw [(at3 t).1])
    (fun j => by show win0_3.index t (1 : Fin 2) * 256 + 1 * (j 1).val = _; rw [(at3 t).2]) n)

theorem in4 : hd n (iblk m c 4 t) = ofV 1 0 (av m c) (t.val - 1) 0 n.val :=
  (hd_emb (a := t.val - 1) (b := 3) (av m c) (fun j => ((cfg0.win 4).blk t).view.emb j)
    (fun j => by show win0_4.index t (0 : Fin 2) * 128 + 1 * (j 0).val = _; rw [(at4 t).1])
    (fun j => by show win0_4.index t (1 : Fin 2) * 256 + 1 * (j 1).val = _; rw [(at4 t).2]) n)

theorem ofO_eq (X : (⟨2, ![4096, 256]⟩ : Shape).Idx → EReal) (a h : ℕ) :
    mat (ext X) (row0 1 a 0) 1 (256 * 0 + 64 * h) = ofO 1 X a 0 h := by
  unfold ofO; rw [Nat.mul_zero, Nat.zero_add]

theorem in5 : hd n (iblk m c 5 t) = ofO 1 (ao m c) t.val 0 n.val :=
  (hd_emb (a := t.val) (b := 0) (ao m c) (fun j => ((cfg0.win 5).blk t).view.emb j)
    (fun j => by show win0_5.index t (0 : Fin 2) * 128 + 1 * (j 0).val = _; rw [(at5 t).1])
    (fun j => by show win0_5.index t (1 : Fin 2) * 256 + 1 * (j 1).val = _; rw [(at5 t).2]) n).trans (ofO_eq _ _ _)

theorem in6 : hd n (iblk m c 6 t) = ofO 1 (au m c) t.val 0 n.val :=
  (hd_emb (a := t.val) (b := 0) (au m c) (fun j => ((cfg0.win 6).blk t).view.emb j)
    (fun j => by show win0_6.index t (0 : Fin 2) * 128 + 1 * (j 0).val = _; rw [(at6 t).1])
    (fun j => by show win0_6.index t (1 : Fin 2) * 256 + 1 * (j 1).val = _; rw [(at6 t).2]) n).trans (ofO_eq _ _ _)

/-! ## What the points write back -/

variable (hq : ∀ c i, ∃ x : ℝ, aq m c i = x) (hk : ∀ c i, ∃ x : ℝ, ak m c i = x)

/-- A block read off an array of blocks. -/
theorem block_of (B : ℕ → ℕ → ℕ → Mat) (X : Vec Ideal S128x256 .f32) (e : S128x256.Idx → S4096x256.Idx)
    (h0 : ∀ j, (e j 0).val = t.val * 128 + 1 * (j 0).val) (h1 : ∀ j, (e j 1).val = 0 * 256 + 1 * (j 1).val)
    (hX : ∀ (n : Fin 4) (j : Fin 128) (l : Fin 64), X (ix2 j (ln n.val (hn n) l)) = B t.val 0 n.val j l) :
    X = fun j => arr 1 Nat.one_pos B (e j) := by
  funext x
  rw [eq_ix2 x]
  generalize x 0 = j
  generalize x 1 = cc
  revert j cc
  intro (j : Fin 128) (cc : Fin 256)
  obtain ⟨n, l, rfl⟩ : ∃ (n : Fin 4) (l : Fin 64), cc = ln n.val (hn n) l :=
    ⟨⟨cc.val / 64, by omega⟩, ⟨cc.val % 64, by omega⟩, Fin.ext (by simp only [ln]; omega)⟩
  have e0 := h0 (ix2 j (ln n.val (hn n) l))
  have e1 := h1 (ix2 j (ln n.val (hn n) l))
  rw [hX]
  symm
  refine (congrArg (arr 1 Nat.one_pos B) (eq_ix2 _)).trans (arr_at 1 Nat.one_pos B _ _ j l Nat.one_pos ?_ ?_)
  · refine e0.trans ?_; show t.val * 128 + 1 * j.val = _; omega
  · refine e1.trans ?_; show 0 * 256 + 1 * (64 * n.val + l.val) = _; omega

include hq hk in
theorem fine_at (n : Fin 4) : Fine (decide (0 < t.val)) (hd n (iblk m c 0 t)) (hd n (iblk m c 1 t)) (hd n (iblk m c 2 t)) := by
  rw [in0, in1, in2]
  exact fine_blk 1 0 (aq m c) (ak m c) (hq c) (hk c) _ _ _ _ _

/-- The arrays of the blocks' shares. -/
def A7 : Vec Ideal S4096x256 .f32 := arr 1 Nat.one_pos (blkQ 1 0 (aq m c) (ak m c) (av m c) (ao m c) (au m c))
def A8 : Vec Ideal S4096x256 .f32 := arr 1 Nat.one_pos (blkKC 1 0 (aq m c) (ak m c) (av m c) (ao m c) (au m c))
def A9 : Vec Ideal S4096x256 .f32 := arr 1 Nat.one_pos (blkKP 1 0 (aq m c) (ak m c) (av m c) (ao m c) (au m c))
def A10 : Vec Ideal S4096x256 .f32 := arr 1 Nat.one_pos (blkVC 1 0 (aq m c) (ak m c) (ao m c))
def A11 : Vec Ideal S4096x256 .f32 := arr 1 Nat.one_pos (blkVP 1 0 (aq m c) (ak m c) (ao m c))

include hq hk

theorem flushed7 : (dats m 0 c).flushed 7 t = ((cfg0.win 7).blk t).view.read (Elt Ideal) (A7 m c) := by
  show (cfg0.win 7).cut (grid0.coords t) ((dats m 0 c).after 7 t) = _
  rw [Gen.after0_7]
  refine block_of t (blkQ 1 0 (aq m c) (ak m c) (av m c) (ao m c) (au m c)) _ (fun j => ((cfg0.win 7).blk t).view.emb j)
    (fun j => by show win0_7.index t (0 : Fin 2) * 128 + 1 * (j 0).val = _; rw [(at7 t).1])
    (fun j => by show win0_7.index t (1 : Fin 2) * 256 + 1 * (j 1).val = _; rw [(at7 t).2]) (fun n j l => ?_)
  refine (out7_apply (grid0.coords t) _ _ _ _ _ _ _ _ (hpv_at t) n j l (fine_at m c t hq hk)).trans ?_
  rw [in0, in1, in2, in3, in4, in5, in6]; rfl

theorem flushed8 : (dats m 0 c).flushed 8 t = ((cfg0.win 8).blk t).view.read (Elt Ideal) (A8 m c) := by
  show (cfg0.win 8).cut (grid0.coords t) ((dats m 0 c).after 8 t) = _
  rw [Gen.after0_8]
  refine block_of t (blkKC 1 0 (aq m c) (ak m c) (av m c) (ao m c) (au m c)) _ (fun j => ((cfg0.win 8).blk t).view.emb j)
    (fun j => by show win0_8.index t (0 : Fin 2) * 128 + 1 * (j 0).val = _; rw [(at8 t).1])
    (fun j => by show win0_8.index t (1 : Fin 2) * 256 + 1 * (j 1).val = _; rw [(at8 t).2]) (fun n j l => ?_)
  refine (out8_apply (grid0.coords t) _ _ _ _ _ _ _ _ (hpv_at t) n j l (fine_at m c t hq hk)).trans ?_
  rw [in0, in1, in2, in3, in4, in5, in6]; rfl

theorem flushed9 : (dats m 0 c).flushed 9 t = ((cfg0.win 9).blk t).view.read (Elt Ideal) (A9 m c) := by
  show (cfg0.win 9).cut (grid0.coords t) ((dats m 0 c).after 9 t) = _
  rw [Gen.after0_9]
  refine block_of t (blkKP 1 0 (aq m c) (ak m c) (av m c) (ao m c) (au m c)) _ (fun j => ((cfg0.win 9).blk t).view.emb j)
    (fun j => by show win0_9.index t (0 : Fin 2) * 128 + 1 * (j 0).val = _; rw [(at9 t).1])
    (fun j => by show win0_9.index t (1 : Fin 2) * 256 + 1 * (j 1).val = _; rw [(at9 t).2]) (fun n j l => ?_)
  refine (out9_apply (grid0.coords t) _ _ _ _ _ _ _ _ (hpv_at t) n j l (fine_at m c t hq hk)).trans ?_
  rw [in0, in1, in2, in3, in4, in5, in6]; rfl

theorem flushed10 : (dats m 0 c).flushed 10 t = ((cfg0.win 10).blk t).view.read (Elt Ideal) (A10 m c) := by
  show (cfg0.win 10).cut (grid0.coords t) ((dats m 0 c).after 10 t) = _
  rw [Gen.after0_10]
  refine block_of t (blkVC 1 0 (aq m c) (ak m c) (ao m c)) _ (fun j => ((cfg0.win 10).blk t).view.emb j)
    (fun j => by show win0_10.index t (0 : Fin 2) * 128 + 1 * (j 0).val = _; rw [(at10 t).1])
    (fun j => by show win0_10.index t (1 : Fin 2) * 256 + 1 * (j 1).val = _; rw [(at10 t).2]) (fun n j l => ?_)
  refine (out10_apply (grid0.coords t) _ _ _ _ _ _ _ _ (hpv_at t) n j l (fine_at m c t hq hk)).trans ?_
  rw [in0, in1, in2, in5]; rfl

theorem flushed11 : (dats m 0 c).flushed 11 t = ((cfg0.win 11).blk t).view.read (Elt Ideal) (A11 m c) := by
  show (cfg0.win 11).cut (grid0.coords t) ((dats m 0 c).after 11 t) = _
  rw [Gen.after0_11]
  refine block_of t (blkVP 1 0 (aq m c) (ak m c) (ao m c)) _ (fun j => ((cfg0.win 11).blk t).view.emb j)
    (fun j => by show win0_11.index t (0 : Fin 2) * 128 + 1 * (j 0).val = _; rw [(at11 t).1])
    (fun j => by show win0_11.index t (1 : Fin 2) * 256 + 1 * (j 1).val = _; rw [(at11 t).2]) (fun n j l => ?_)
  refine (out11_apply (grid0.coords t) _ _ _ _ _ _ _ _ (hpv_at t) n j l (fine_at m c t hq hk)).trans ?_
  rw [in0, in1, in2, in5]; rfl

end

/-! ## The blocks cover the arrays -/

theorem mem_of {S : Finset S4096x256.Idx} {i : S4096x256.Idx} (e : S128x256.Idx → S4096x256.Idx) (t : Fin cfg0.N)
    (ht : t.val = (i 0).val / 128) (hm : ∀ j, e j ∈ S)
    (h0 : ∀ j, (e j 0).val = t.val * 128 + 1 * (j 0).val) (h1 : ∀ j, (e j 1).val = 0 * 256 + 1 * (j 1).val) : i ∈ S := by
  have hi1 : (i 1).val < 256 := (i 1).isLt
  have h := hm (ix2 ⟨(i 0).val % 128, Nat.mod_lt _ (by omega)⟩ ⟨(i 1).val, hi1⟩)
  have he : e (ix2 ⟨(i 0).val % 128, Nat.mod_lt _ (by omega)⟩ ⟨(i 1).val, hi1⟩) = i := by
    funext ax
    match ax with
    | ⟨0, _⟩ => exact Fin.ext ((h0 _).trans (by show t.val * 128 + 1 * ((i 0).val % 128) = (i 0).val; omega))
    | ⟨1, _⟩ => exact Fin.ext ((h1 _).trans (by show 0 * 256 + 1 * (i 1).val = (i 1).val; omega))
  rwa [he] at h

def tOf (i : S4096x256.Idx) : Fin cfg0.N := (⟨(i 0).val / 128, by have : (i 0).val < 4096 := (i 0).isLt; omega⟩ : Fin 32)

theorem cover7 (i : S4096x256.Idx) : ∃ t : Fin cfg0.N, (cfg0.win 7).flush t = true ∧ i ∈ ((cfg0.win 7).blk t).view.set :=
  ⟨tOf i, flush0_7 _, mem_of (fun j => ((cfg0.win 7).blk (tOf i)).view.emb j) (tOf i) rfl
    (fun j => ((cfg0.win 7).blk (tOf i)).view.emb_mem_set j)
    (fun j => by show win0_7.index (tOf i) (0 : Fin 2) * 128 + 1 * (j 0).val = _; rw [(at7 (tOf i)).1])
    (fun j => by show win0_7.index (tOf i) (1 : Fin 2) * 256 + 1 * (j 1).val = _; rw [(at7 (tOf i)).2])⟩

theorem cover8 (i : S4096x256.Idx) : ∃ t : Fin cfg0.N, (cfg0.win 8).flush t = true ∧ i ∈ ((cfg0.win 8).blk t).view.set :=
  ⟨tOf i, flush0_8 _, mem_of (fun j => ((cfg0.win 8).blk (tOf i)).view.emb j) (tOf i) rfl
    (fun j => ((cfg0.win 8).blk (tOf i)).view.emb_mem_set j)
    (fun j => by show win0_8.index (tOf i) (0 : Fin 2) * 128 + 1 * (j 0).val = _; rw [(at8 (tOf i)).1])
    (fun j => by show win0_8.index (tOf i) (1 : Fin 2) * 256 + 1 * (j 1).val = _; rw [(at8 (tOf i)).2])⟩

theorem cover9 (i : S4096x256.Idx) : ∃ t : Fin cfg0.N, (cfg0.win 9).flush t = true ∧ i ∈ ((cfg0.win 9).blk t).view.set :=
  ⟨tOf i, flush0_9 _, mem_of (fun j => ((cfg0.win 9).blk (tOf i)).view.emb j) (tOf i) rfl
    (fun j => ((cfg0.win 9).blk (tOf i)).view.emb_mem_set j)
    (fun j => by show win0_9.index (tOf i) (0 : Fin 2) * 128 + 1 * (j 0).val = _; rw [(at9 (tOf i)).1])
    (fun j => by show win0_9.index (tOf i) (1 : Fin 2) * 256 + 1 * (j 1).val = _; rw [(at9 (tOf i)).2])⟩

theorem cover10 (i : S4096x256.Idx) : ∃ t : Fin cfg0.N, (cfg0.win 10).flush t = true ∧ i ∈ ((cfg0.win 10).blk t).view.set :=
  ⟨tOf i, flush0_10 _, mem_of (fun j => ((cfg0.win 10).blk (tOf i)).view.emb j) (tOf i) rfl
    (fun j => ((cfg0.win 10).blk (tOf i)).view.emb_mem_set j)
    (fun j => by show win0_10.index (tOf i) (0 : Fin 2) * 128 + 1 * (j 0).val = _; rw [(at10 (tOf i)).1])
    (fun j => by show win0_10.index (tOf i) (1 : Fin 2) * 256 + 1 * (j 1).val = _; rw [(at10 (tOf i)).2])⟩

theorem cover11 (i : S4096x256.Idx) : ∃ t : Fin cfg0.N, (cfg0.win 11).flush t = true ∧ i ∈ ((cfg0.win 11).blk t).view.set :=
  ⟨tOf i, flush0_11 _, mem_of (fun j => ((cfg0.win 11).blk (tOf i)).view.emb j) (tOf i) rfl
    (fun j => ((cfg0.win 11).blk (tOf i)).view.emb_mem_set j)
    (fun j => by show win0_11.index (tOf i) (0 : Fin 2) * 128 + 1 * (j 0).val = _; rw [(at11 (tOf i)).1])
    (fun j => by show win0_11.index (tOf i) (1 : Fin 2) * 256 + 1 * (j 1).val = _; rw [(at11 (tOf i)).2])⟩

section

variable (c : Dev nD) (hq : ∀ c i, ∃ x : ℝ, aq m c i = x) (hk : ∀ c i, ∃ x : ℝ, ak m c i = x)

include hq hk

theorem final7 : (dats m 0 c).arrAt 7 cfg0.N = A7 m c :=
  (dats m 0 c).arrAt_eq_of_cover 7 (A7 m c) (fun t _ => flushed7 m c t hq hk) cover7
theorem final8 : (dats m 0 c).arrAt 8 cfg0.N = A8 m c :=
  (dats m 0 c).arrAt_eq_of_cover 8 (A8 m c) (fun t _ => flushed8 m c t hq hk) cover8
theorem final9 : (dats m 0 c).arrAt 9 cfg0.N = A9 m c :=
  (dats m 0 c).arrAt_eq_of_cover 9 (A9 m c) (fun t _ => flushed9 m c t hq hk) cover9
theorem final10 : (dats m 0 c).arrAt 10 cfg0.N = A10 m c :=
  (dats m 0 c).arrAt_eq_of_cover 10 (A10 m c) (fun t _ => flushed10 m c t hq hk) cover10
theorem final11 : (dats m 0 c).arrAt 11 cfg0.N = A11 m c :=
  (dats m 0 c).arrAt_eq_of_cover 11 (A11 m c) (fun t _ => flushed11 m c t hq hk) cover11

end

/-! ## After the region -/

/-- The host's sum: an array and another one moved up by a block. -/
def upSum (A B : FVec Ideal S4096x256 .f32) : FVec Ideal S4096x256 .f32 :=
  addf A (concatenate S4096x256 0 [⟨S3968x256, extractStridedSlice S3968x256 ![128, 0] B slices_S4096x256_S3968x256_128_0⟩,
    ⟨S128x256, broadcastInDim S128x256 ![] bcast_S_S128x256 (constant S_ .f32 0x00000000#32)⟩] concatenates_S3968x256_S128x256_S4096x256_d0)

theorem tail5 (c : Dev nD) : Pipeline.afterTail₀ cfgs (dats m) 0 (V0 m) [hostOps1] c main_v5
    = upSum ((dats m 0 c).arrAt 8 cfg0.N) ((dats m 0 c).arrAt 9 cfg0.N) := by
  have e8 := (dats m 0 c).withArrays_arrAt sharedIn0 (V0 m c) (A_eq m c) 8
  have e9 := (dats m 0 c).withArrays_arrAt sharedIn0 (V0 m c) (A_eq m c) 9
  unfold Pipeline.afterTail₀
  after_results
  unfold upSum
  exact congrArg₂ (fun A B => upSum A B) e8 e9

theorem tail10 (c : Dev nD) : Pipeline.afterTail₀ cfgs (dats m) 0 (V0 m) [hostOps1] c main_v10
    = upSum ((dats m 0 c).arrAt 10 cfg0.N) ((dats m 0 c).arrAt 11 cfg0.N) := by
  have e8 := (dats m 0 c).withArrays_arrAt sharedIn0 (V0 m c) (A_eq m c) 10
  have e9 := (dats m 0 c).withArrays_arrAt sharedIn0 (V0 m c) (A_eq m c) 11
  unfold Pipeline.afterTail₀
  after_results
  unfold upSum
  exact congrArg₂ (fun A B => upSum A B) e8 e9

theorem upSum_eq (C P : ℕ → ℕ → ℕ → Mat) :
    upSum (arr 1 Nat.one_pos C) (arr 1 Nat.one_pos P) = arr 1 Nat.one_pos (both 1 C P) := by
  funext x
  rw [eq_ix2 x]
  generalize x 0 = R
  generalize x 1 = cc
  revert R cc
  intro (R : Fin 4096) (cc : Fin 256)
  pointwise [upSum]
  rw [both_at 1 Nat.one_pos ⟨32, rfl⟩]
  congr 1
  by_cases h : R.val < 3968
  · rw [dif_pos h, dif_pos (by omega)]
  · rw [dif_neg h, dif_neg (by omega)]

/-! ## The run -/

theorem rest5 : (main_v5 : Ref sig .tc) ∈ Pipeline.restRefs sig spec0 :=
  Pipeline.mem_restRefs_of _ rfl (by decide)
theorem rest10 : (main_v10 : Ref sig .tc) ∈ Pipeline.restRefs sig spec0 :=
  Pipeline.mem_restRefs_of _ rfl (by decide)

/-- THE RUN: from finite queries and keys the three results are the group's gradients, and the arguments stay. -/
theorem run (hq : ∀ c i, ∃ x : ℝ, aq m c i = x) (hk : ∀ c i, ∃ x : ℝ, ak m c i = x) :
    θ_run defs (onTc (τ := τ) (main (F := Ideal))) ⟨m, fun _ => 0, ρ⟩ fun r => ∀ c : Dev nD,
      r.2.mem ((c : Thread nD τ).loc main_v0_0) = gradQ 1 0 (aq m c) (ak m c) (av m c) (ao m c) (au m c) Nat.one_pos
      ∧ r.2.mem ((c : Thread nD τ).loc main_v5) = gradK 1 0 (aq m c) (ak m c) (av m c) (ao m c) (au m c) Nat.one_pos
      ∧ r.2.mem ((c : Thread nD τ).loc main_v10) = gradV 1 0 (aq m c) (ak m c) (ao m c) Nat.one_pos
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨?_, ?_, ?_, ?_⟩) (Gen.run_main m ρ)
  · exact ((h c).1 7).trans (final7 m c hq hk)
  · refine ((h c).2 main_v5 rest5).trans ((tail5 m c).trans ?_)
    rw [final8 m c hq hk, final9 m c hq hk]
    exact upSum_eq _ _
  · refine ((h c).2 main_v10 rest10).trans ((tail10 m c).trans ?_)
    rw [final10 m c hq hk, final11 m c hq hk]
    exact upSum_eq _ _
  · exact ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c)))⟩

end DilBwd.K

end
-- ==== Proof.Dil.Red.lean ====
/-
  The host's reductions of arrays of six axes at an index: over the last axis, and over axes of size one.
-/
module

public import Idealize.ShloMosaic.Lib.Pointwise

@[expose] public section

noncomputable section

namespace DilBwd

open Idealize.ShloMosaic

section

variable {a b c d e f : ℕ}

/-- The elements of the last axis under an index of the other five. -/
theorem last_iff (h : (⟨6, ![a, b, c, d, e, f]⟩ : Shape).ReducesTo [5] ⟨5, ![a, b, c, d, e]⟩)
    (x0 : Fin a) (x1 : Fin b) (x2 : Fin c) (x3 : Fin d) (x4 : Fin e) (i : (⟨6, ![a, b, c, d, e, f]⟩ : Shape).Idx) :
    h.drop i = ix5 x0 x1 x2 x3 x4 ↔ ∃ k : Fin f, ix6 x0 x1 x2 x3 x4 k = i := by
  constructor
  · intro hi
    refine ⟨i 5, funext fun ax => ?_⟩
    match ax with
    | ⟨0, _⟩ => exact Fin.ext (congrArg Fin.val (congrFun hi (0 : Fin 5))).symm
    | ⟨1, _⟩ => exact Fin.ext (congrArg Fin.val (congrFun hi (1 : Fin 5))).symm
    | ⟨2, _⟩ => exact Fin.ext (congrArg Fin.val (congrFun hi (2 : Fin 5))).symm
    | ⟨3, _⟩ => exact Fin.ext (congrArg Fin.val (congrFun hi (3 : Fin 5))).symm
    | ⟨4, _⟩ => exact Fin.ext (congrArg Fin.val (congrFun hi (4 : Fin 5))).symm
    | ⟨5, _⟩ => rfl
  · rintro ⟨k, rfl⟩
    funext ax
    match ax with
    | ⟨0, _⟩ => rfl
    | ⟨1, _⟩ => rfl
    | ⟨2, _⟩ => rfl
    | ⟨3, _⟩ => rfl
    | ⟨4, _⟩ => rfl

theorem ix6_inj (x0 : Fin a) (x1 : Fin b) (x2 : Fin c) (x3 : Fin d) (x4 : Fin e) :
    Function.Injective fun k : Fin f => (ix6 x0 x1 x2 x3 x4 k : (⟨6, ![a, b, c, d, e, f]⟩ : Shape).Idx) :=
  fun _ _ h => congrFun h 5

/-- A sum over the last axis. -/
theorem sum_last (h : (⟨6, ![a, b, c, d, e, f]⟩ : Shape).ReducesTo [5] ⟨5, ![a, b, c, d, e]⟩)
    (X : (⟨6, ![a, b, c, d, e, f]⟩ : Shape).Idx → EReal) (z : EReal)
    (x0 : Fin a) (x1 : Fin b) (x2 : Fin c) (x3 : Fin d) (x4 : Fin e) :
    Ideal.hostReduceAdd h X z (ix5 x0 x1 x2 x3 x4) = z + ∑ k, X (ix6 x0 x1 x2 x3 x4 k) := by
  unfold Ideal.hostReduceAdd
  rw [Finset.sum_filter_eq_sum_of_fiber _ _ (ix6_inj x0 x1 x2 x3 x4) (last_iff h x0 x1 x2 x3 x4)]

/-- The largest along the last axis. -/
theorem max_last (h : (⟨6, ![a, b, c, d, e, f]⟩ : Shape).ReducesTo [5] ⟨5, ![a, b, c, d, e]⟩)
    (X : (⟨6, ![a, b, c, d, e, f]⟩ : Shape).Idx → EReal) (z : EReal)
    (x0 : Fin a) (x1 : Fin b) (x2 : Fin c) (x3 : Fin d) (x4 : Fin e) :
    (Finset.univ.filter fun i => h.drop i = ix5 x0 x1 x2 x3 x4).fold max z X
      = Finset.univ.fold max z fun k => X (ix6 x0 x1 x2 x3 x4 k) :=
  Finset.fold_filter_eq_fold_of_fiber max _ _ (ix6_inj x0 x1 x2 x3 x4) (last_iff h x0 x1 x2 x3 x4) z X

end

/-- A sum over three axes of size one. -/
theorem sum_ones {b d e : ℕ} (h : (⟨6, ![1, b, 1, d, e, 1]⟩ : Shape).ReducesTo [0, 2, 5] ⟨3, ![b, d, e]⟩)
    (X : (⟨6, ![1, b, 1, d, e, 1]⟩ : Shape).Idx → EReal) (z : EReal) (x1 : Fin b) (x3 : Fin d) (x4 : Fin e) :
    Ideal.hostReduceAdd h X z (ix3 x1 x3 x4) = z + X (ix6 0 x1 0 x3 x4 0) := by
  unfold Ideal.hostReduceAdd
  rw [Finset.sum_filter_eq_sum_of_fiber (κ := Fin 1) _ (fun _ => ix6 0 x1 0 x3 x4 0) (fun _ _ _ => Subsingleton.elim _ _)]
  · rw [Fin.sum_univ_one]
  · intro i
    constructor
    · intro hi
      refine ⟨0, funext fun ax => ?_⟩
      match ax with
      | ⟨0, _⟩ => exact (Subsingleton.elim (α := Fin 1) _ _)
      | ⟨1, _⟩ => exact Fin.ext (congrArg Fin.val (congrFun hi (0 : Fin 3))).symm
      | ⟨2, _⟩ => exact (Subsingleton.elim (α := Fin 1) _ _)
      | ⟨3, _⟩ => exact Fin.ext (congrArg Fin.val (congrFun hi (1 : Fin 3))).symm
      | ⟨4, _⟩ => exact Fin.ext (congrArg Fin.val (congrFun hi (2 : Fin 3))).symm
      | ⟨5, _⟩ => exact (Subsingleton.elim (α := Fin 1) _ _)
    · rintro ⟨_, rfl⟩
      funext ax
      match ax with
      | ⟨0, _⟩ => rfl
      | ⟨1, _⟩ => rfl
      | ⟨2, _⟩ => rfl

/-- The same over two, where the residues are several. -/
theorem sum_two {b c d e : ℕ} (h : (⟨6, ![1, b, c, d, e, 1]⟩ : Shape).ReducesTo [0, 5] ⟨4, ![b, c, d, e]⟩)
    (X : (⟨6, ![1, b, c, d, e, 1]⟩ : Shape).Idx → EReal) (z : EReal) (x1 : Fin b) (x2 : Fin c) (x3 : Fin d) (x4 : Fin e) :
    Ideal.hostReduceAdd h X z (ix4 x1 x2 x3 x4) = z + X (ix6 0 x1 x2 x3 x4 0) := by
  unfold Ideal.hostReduceAdd
  rw [Finset.sum_filter_eq_sum_of_fiber (κ := Fin 1) _ (fun _ => ix6 0 x1 x2 x3 x4 0) (fun _ _ _ => Subsingleton.elim _ _)]
  · rw [Fin.sum_univ_one]
  · intro i
    constructor
    · intro hi
      refine ⟨0, funext fun ax => ?_⟩
      match ax with
      | ⟨0, _⟩ => exact (Subsingleton.elim (α := Fin 1) _ _)
      | ⟨1, _⟩ => exact Fin.ext (congrArg Fin.val (congrFun hi (0 : Fin 4))).symm
      | ⟨2, _⟩ => exact Fin.ext (congrArg Fin.val (congrFun hi (1 : Fin 4))).symm
      | ⟨3, _⟩ => exact Fin.ext (congrArg Fin.val (congrFun hi (2 : Fin 4))).symm
      | ⟨4, _⟩ => exact Fin.ext (congrArg Fin.val (congrFun hi (3 : Fin 4))).symm
      | ⟨5, _⟩ => exact (Subsingleton.elim (α := Fin 1) _ _)
    · rintro ⟨_, rfl⟩
      funext ax
      match ax with
      | ⟨0, _⟩ => rfl
      | ⟨1, _⟩ => rfl
      | ⟨2, _⟩ => rfl
      | ⟨3, _⟩ => rfl

/-! ## The two halves of a window's keys -/

def lo (j : Fin 128) : Fin 256 := ⟨j.val, by omega⟩
def hi (j : Fin 128) : Fin 256 := ⟨128 + j.val, by omega⟩

theorem halves (j : Fin 256) : (∃ k, j = lo k) ∨ ∃ k, j = hi k := by
  by_cases h : j.val < 128
  · exact Or.inl ⟨⟨j.val, h⟩, rfl⟩
  · exact Or.inr ⟨⟨j.val - 128, by omega⟩, Fin.ext (by simp only [hi]; omega)⟩

theorem sum_halves (f : Fin 256 → EReal) : ∑ j, f j = (∑ j, f (lo j)) + ∑ j, f (hi j) :=
  Fin.sum_univ_add (a := 128) (b := 128) f

theorem fold_halves (f : Fin 256 → EReal) : Finset.univ.fold max ⊥ f
    = max (Finset.univ.fold max ⊥ fun j => f (hi j)) (Finset.univ.fold max ⊥ fun j => f (lo j)) := by
  apply le_antisymm
  · rw [Finset.fold_max_le]
    refine ⟨bot_le, fun j _ => ?_⟩
    rcases halves j with ⟨k, rfl⟩ | ⟨k, rfl⟩
    · exact le_max_of_le_right ((Finset.le_fold_max _).2 (Or.inr ⟨k, Finset.mem_univ _, le_rfl⟩))
    · exact le_max_of_le_left ((Finset.le_fold_max _).2 (Or.inr ⟨k, Finset.mem_univ _, le_rfl⟩))
  · refine max_le ?_ ?_ <;> rw [Finset.fold_max_le] <;>
      exact ⟨bot_le, fun j _ => (Finset.le_fold_max _).2 (Or.inr ⟨_, Finset.mem_univ _, le_rfl⟩)⟩

end DilBwd

end
-- ==== Proof.Dil.Ref.lean ====
/-
  The reference's stages at an index. A window's 256 keys are
  its two halves, the previous block's and the block's own.
-/
module

public import proofs.«01_k».proof.Proof.Dil.Arr
public import proofs.«01_k».proof.Proof.Dil.Red
public import proofs.«01_k».proof.Proof.Gen.ReferenceIdeal.Run

@[expose] public section

set_option maxRecDepth 16384

noncomputable section

namespace DilBwd

open Idealize.ShloMosaic

theorem eight_val : Ideal.ofBits .f32 0x41000000#32 = ((8 : ℝ) : EReal) := by
  simp [Ideal.ofBits, Ideal.ieee, -EReal.coe_mul]; norm_num

theorem div_eight (x : EReal) : Ideal.div x (Ideal.ofBits .f32 0x41000000#32) = x * ((1 / 8 : ℝ) : EReal) := by
  rw [eight_val, Ideal.div_coe (by norm_num : (8 : ℝ) ≠ 0)]

theorem uitofp_bool (p : Bool) : (FloatOps.uitofp (F := Ideal) .f32 (BitVec.ofBool p) : EReal) = if p = true then 1 else 0 := by
  cases p <;> simp [FloatOps.uitofp]

theorem select_bool {α : Type} (p : Bool) (x y : α) : Scalar.select (BitVec.ofBool p) x y = if p = true then x else y := by
  cases p <;> rfl

/-- The reference's mask over the previous block's keys, and over the block's own. -/
theorem band_lo : ∀ i j : Fin 128,
    IntOp.andi (IntOp.cmpi CmpIPredicate.sge (IntOp.subi (IntOp.addi 128#32 (BitVec.ofNat 32 i.val)) (BitVec.ofNat 32 (lo j).val)) 0#32)
      (IntOp.cmpi CmpIPredicate.sle (IntOp.subi (IntOp.addi 128#32 (BitVec.ofNat 32 i.val)) (BitVec.ofNat 32 (lo j).val)) 128#32)
    = BitVec.ofBool (decide (i ≤ j)) := by decide +kernel

theorem band_hi : ∀ i j : Fin 128,
    IntOp.andi (IntOp.cmpi CmpIPredicate.sge (IntOp.subi (IntOp.addi 128#32 (BitVec.ofNat 32 i.val)) (BitVec.ofNat 32 (hi j).val)) 0#32)
      (IntOp.cmpi CmpIPredicate.sle (IntOp.subi (IntOp.addi 128#32 (BitVec.ofNat 32 i.val)) (BitVec.ofNat 32 (hi j).val)) 128#32)
    = BitVec.ofBool (decide (j ≤ i)) := by decide +kernel

theorem pos_lo : ∀ n : Fin 32, ∀ j : Fin 128, IntOp.ori (IntOp.cmpi CmpIPredicate.sgt (BitVec.ofNat 32 n.val) 0#32)
    (IntOp.cmpi CmpIPredicate.sge (BitVec.ofNat 32 (lo j).val) 128#32) = BitVec.ofBool (decide (0 < n.val)) := by decide +kernel

theorem pos_hi : ∀ n : Fin 32, ∀ j : Fin 128, IntOp.ori (IntOp.cmpi CmpIPredicate.sgt (BitVec.ofNat 32 n.val) 0#32)
    (IntOp.cmpi CmpIPredicate.sge (BitVec.ofNat 32 (hi j).val) 128#32) = 1#1 := by decide +kernel

theorem and_ofBool (p b : Bool) : IntOp.andi (BitVec.ofBool p) (BitVec.ofBool b) = BitVec.ofBool (p && b) := by
  cases p <;> cases b <;> rfl

theorem and_one (p : Bool) : IntOp.andi (BitVec.ofBool p) 1#1 = BitVec.ofBool p := by cases p <;> rfl

/-- What the reference takes for the previous block: rows of noughts before the first. -/
def before (n : ℕ) (X : Mat) : Mat := if n < 1 then fun _ _ => 0 else X

end DilBwd

namespace DilBwd.R

open Idealize.ShloMosaic Idealize.ShloMosaic.TcCoe Idealize.SL.Sem
open Cert.ReferenceIdeal Cert.ReferenceIdeal.Value

variable (V : Valuation τ sig (Elt Ideal))

/-! ## The arguments cut into blocks -/

abbrev aq : S4096x768.Idx → EReal := V (Proc.devRef .tc main_arg0)
abbrev ak : S4096x768.Idx → EReal := V (Proc.devRef .tc main_arg1)
abbrev av : S4096x1536.Idx → EReal := V (Proc.devRef .tc main_arg2)
abbrev ao : S4096x256.Idx → EReal := V (Proc.devRef .tc main_arg3)
abbrev au : S4096x256.Idx → EReal := V (Proc.devRef .tc main_arg4)

variable (h : Fin 4) (n : Fin 32)

abbrev Q : Mat := ofQ 1 0 (aq V) n.val 0 h.val
abbrev Kc : Mat := ofQ 1 0 (ak V) n.val 0 h.val
abbrev Kp : Mat := before n.val (ofQ 1 0 (ak V) (n.val - 1) 0 h.val)
abbrev Vc : Mat := ofV 1 0 (av V) n.val 0 h.val
abbrev Vp : Mat := before n.val (ofV 1 0 (av V) (n.val - 1) 0 h.val)
abbrev O : Mat := ofO 1 (ao V) n.val 0 h.val
abbrev U : Mat := ofO 1 (au V) n.val 0 h.val
abbrev b : Bool := decide (0 < n.val)
abbrev sC (i : Fin 128) : Fin 128 → EReal := scC (Q V h n) (Kc V h n) i
abbrev sP (i : Fin 128) : Fin 128 → EReal := scP (b n) (Q V h n) (Kp V h n) i

/-- Entries of the arguments as entries of their blocks. -/
theorem at_block {R W : ℕ} (X : (⟨2, ![R, W]⟩ : Shape).Idx → EReal) {r c r0 c0 : ℕ} (hr : r < R) (hc : c < W) (i : Fin 128)
    (l : Fin 64) (e1 : r0 + 1 * i.val = r) (e2 : c0 + l.val = c) : X (ix2 ⟨r, hr⟩ ⟨c, hc⟩) = mat (ext X) r0 1 c0 i l := by
  subst e1 e2
  exact (ext_of X hr hc).symm

theorem v9 (i : Fin 128) (l : Fin 64) : res_main_v9 V (ix6 0 h 0 n i l) = Q V h n i l := by
  pointwise [res_main_v9]
  rw [dif_pos (by omega)]
  exact at_block (aq V) _ _ i l (by unfold row0; omega) (by omega)

theorem v13 (i : Fin 128) (l : Fin 64) : res_main_v13 V (ix6 0 h 0 n i l) = Kc V h n i l := by
  pointwise [res_main_v13]
  rw [dif_pos (by omega)]
  exact at_block (ak V) _ _ i l (by unfold row0; omega) (by omega)

theorem v23 (i : Fin 128) (l : Fin 64) : res_main_v23 V (ix6 0 h 0 n i l) = Vc V h n i l := by
  pointwise [res_main_v23]
  rw [dif_pos (by omega)]
  exact at_block (av V) _ _ i l (by unfold row0; omega) (by omega)

theorem v102 (i : Fin 128) (l : Fin 64) : res_main_v102 V (ix6 0 h 0 n i l) = O V h n i l := by
  pointwise [res_main_v102]
  exact at_block (ao V) _ _ i l (by unfold row0; omega) (by omega)

theorem v103 (i : Fin 128) : (res_main_v103 V (ix6 0 h 0 n i 0) : EReal) = tot (U V h n i) := by
  pointwise [res_main_v103]
  exact Finset.sum_congr (M := EReal) rfl fun x _ => at_block (au V) _ _ i x (by unfold row0; omega) (by omega)

theorem v19_lo (j : Fin 128) (l : Fin 64) : res_main_v19 V (ix6 0 h 0 n (lo j) l) = Kp V h n j l := by
  pointwise [res_main_v19]
  rw [dif_pos (show (lo j).val < 128 from j.isLt)]
  by_cases hn : n.val < 1
  · rw [dif_pos hn]; simp only [Kp, before, if_pos hn]
  · rw [dif_neg hn]; simp only [Kp, before, if_neg hn]
    exact v13 V h ⟨n.val - 1, by omega⟩ j l

theorem v19_hi (j : Fin 128) (l : Fin 64) : res_main_v19 V (ix6 0 h 0 n (hi j) l) = Kc V h n j l := by
  pointwise [res_main_v19]
  rw [dif_neg (show ¬ (hi j).val < 128 by simp only [hi]; omega)]
  refine (congrArg (fun x => res_main_v13 V (ix6 0 h 0 n x l)) (Fin.ext ?_)).trans (v13 V h n j l)
  simp only [hi]; omega

theorem v29_lo (j : Fin 128) (l : Fin 64) : res_main_v29 V (ix6 0 h 0 n (lo j) l) = Vp V h n j l := by
  pointwise [res_main_v29]
  rw [dif_pos (show (lo j).val < 128 from j.isLt)]
  by_cases hn : n.val < 1
  · rw [dif_pos hn]; simp only [Vp, before, if_pos hn]
  · rw [dif_neg hn]; simp only [Vp, before, if_neg hn]
    exact v23 V h ⟨n.val - 1, by omega⟩ j l

theorem v29_hi (j : Fin 128) (l : Fin 64) : res_main_v29 V (ix6 0 h 0 n (hi j) l) = Vc V h n j l := by
  pointwise [res_main_v29]
  rw [dif_neg (show ¬ (hi j).val < 128 by simp only [hi]; omega)]
  refine (congrArg (fun x => res_main_v23 V (ix6 0 h 0 n x l)) (Fin.ext ?_)).trans (v23 V h n j l)
  simp only [hi]; omega

/-! ## The weights -/

theorem mask_lo (i j : Fin 128) : res_main_v61_1 V (ix6 0 h 0 n i (lo j)) = BitVec.ofBool (decide (i ≤ j) && b n) := by
  pointwise [res_main_v61_1, res_main_v41, res_main_v36]
  rw [band_lo, pos_lo, and_ofBool]

theorem mask_hi (i j : Fin 128) : res_main_v61_1 V (ix6 0 h 0 n i (hi j)) = BitVec.ofBool (decide (j ≤ i)) := by
  pointwise [res_main_v61_1, res_main_v41, res_main_v36]
  rw [band_hi, pos_hi, and_one]

theorem s_lo (i j : Fin 128) : res_main_v61_0 V (ix6 0 h 0 n i (lo j)) = sP V h n i j := by
  pointwise [res_main_v61_0]
  rw [mask_lo, select_bool, div_eight]
  simp only [v9, v19_lo, scP, id, Bool.and_eq_true, decide_eq_true_eq]
  pointwise
  rw [ofBits_bot]

theorem s_hi (i j : Fin 128) : res_main_v61_0 V (ix6 0 h 0 n i (hi j)) = sC V h n i j := by
  pointwise [res_main_v61_0]
  rw [mask_hi, select_bool, div_eight]
  simp only [v9, v19_hi, scC, id, decide_eq_true_eq]
  pointwise
  rw [ofBits_bot]

theorem m_eq (i : Fin 128) : res_main_v62 V (ix5 0 h 0 n i) = mx (sC V h n i) (sP V h n i) := by
  pointwise [res_main_v62]
  refine (max_last _ (res_main_v61_0 V) _ 0 h 0 n i).trans ?_
  rw [ofBits_bot, fold_halves]
  simp only [s_lo, s_hi]
  rfl

theorem p_lo (i j : Fin 128) : res_main_v71 V (ix6 0 h 0 n i (lo j)) = wt (sC V h n i) (sP V h n i) (sP V h n i) j := by
  pointwise [res_main_v71, res_main_v68]
  rw [s_lo, m_eq]; rfl

theorem p_hi (i j : Fin 128) : res_main_v71 V (ix6 0 h 0 n i (hi j)) = wt (sC V h n i) (sP V h n i) (sC V h n i) j := by
  pointwise [res_main_v71, res_main_v68]
  rw [s_hi, m_eq]; rfl

theorem d_eq (i : Fin 128) : res_main_v73 V (ix6 0 h 0 n i 0) = den (sC V h n i) (sP V h n i) := by
  pointwise [res_main_v73]
  rw [sum_last, sum_halves, zero_add, add_comm]
  simp only [p_lo, p_hi]
  rfl

theorem num_eq (i : Fin 128) (l : Fin 64) :
    res_main_v74 V (ix6 0 h 0 n i l) = num (sC V h n i) (sP V h n i) (Vc V h n) (Vp V h n) l := by
  pointwise [res_main_v74]
  rw [sum_halves, add_comm]
  simp only [p_lo, p_hi, v29_lo, v29_hi]
  rfl

theorem eq_at (i : Fin 128) (x : Fin 256) : (res_main_v66 V (ix6 0 h 0 n i x) : EReal)
    = if (res_main_v61_0 V (ix6 0 h 0 n i x) : EReal) = mx (sC V h n i) (sP V h n i) then (1 : EReal) else 0 := by
  pointwise [res_main_v66]
  rw [m_eq, uitofp_bool]
  simp only [decide_eq_true_eq]

/-! ## The gradients of the scores -/

theorem g_eq (i : Fin 128) (l : Fin 64) : res_main_v113 V (ix6 0 h 0 n i l) = grd (sC V h n i) (sP V h n i) (O V h n i) l := by
  pointwise [res_main_v113]
  rw [v102, d_eq]; rfl

abbrev dd (i : Fin 128) : EReal := dden (sC V h n i) (sP V h n i) (Vc V h n) (Vp V h n) (O V h n i) (U V h n i)

theorem one_val : Ideal.ofBits .f32 0x3F800000#32 = 1 := ofBits_one

theorem x_lo (i j : Fin 128) : (res_main_v121 V (ix6 0 h 0 n i (lo j)) : EReal)
    = xx (sC V h n i) (sP V h n i) (Vc V h n) (Vp V h n) (O V h n i) (U V h n i) (Vp V h n) (sP V h n i) j := by
  pointwise [res_main_v121]
  rw [sum_ones]
  pointwise
  rw [sum_last]
  pointwise
  simp only [g_eq, v29_lo, p_lo, v102, v103, d_eq, num_eq, one_val, zero_add]
  rfl

theorem x_hi (i j : Fin 128) : (res_main_v121 V (ix6 0 h 0 n i (hi j)) : EReal)
    = xx (sC V h n i) (sP V h n i) (Vc V h n) (Vp V h n) (O V h n i) (U V h n i) (Vc V h n) (sC V h n i) j := by
  pointwise [res_main_v121]
  rw [sum_ones]
  pointwise
  rw [sum_last]
  pointwise
  simp only [g_eq, v29_hi, p_hi, v102, v103, d_eq, num_eq, one_val, zero_add]
  rfl

/-- The gradient of the row's maximum. -/
abbrev D (i : Fin 128) : EReal := dsum (sC V h n i) (sP V h n i) (Vc V h n) (Vp V h n) (O V h n i) (U V h n i)

theorem top_grad (i : Fin 128) : tot (U V h n i)
      + ((∑ x, -xx (sC V h n i) (sP V h n i) (Vc V h n) (Vp V h n) (O V h n i) (U V h n i) (Vp V h n) (sP V h n i) x)
        + ∑ x, -xx (sC V h n i) (sP V h n i) (Vc V h n) (Vp V h n) (O V h n i) (U V h n i) (Vc V h n) (sC V h n i) x)
    = D V h n i := by
  rw [← add_assoc]; rfl

theorem ds_lo (H : Fine (b n) (Q V h n) (Kc V h n) (Kp V h n)) (i j : Fin 128) : (res_main_v134 V (ix6 0 h 0 n i (lo j)) : EReal)
    = gsP (b n) (Q V h n) (Kc V h n) (Kp V h n) (Vc V h n) (Vp V h n) (O V h n) (U V h n) i j := by
  pointwise [res_main_v134]
  rw [sum_ones, sum_last]
  pointwise
  rw [sum_last, sum_halves]
  pointwise
  rw [div_eight, mask_lo, select_bool]
  simp only [x_lo, x_hi, v103, zero_add, eq_at]
  obtain ⟨t, ht⟩ := H i
  rw [top_grad V h n i, tie_all (dsum_cases ht (Vc V h n) (Vp V h n) (O V h n i) (U V h n i))
    (fun k => res_main_v61_0 V (ix6 0 h 0 n i k)) _ (lo j)]
  unfold gsP tie
  simp only [s_lo, Bool.and_eq_true, decide_eq_true_eq]

theorem ds_hi (H : Fine (b n) (Q V h n) (Kc V h n) (Kp V h n)) (i j : Fin 128) : (res_main_v134 V (ix6 0 h 0 n i (hi j)) : EReal)
    = gsC (b n) (Q V h n) (Kc V h n) (Kp V h n) (Vc V h n) (Vp V h n) (O V h n) (U V h n) i j := by
  pointwise [res_main_v134]
  rw [sum_ones, sum_last]
  pointwise
  rw [sum_last, sum_halves]
  pointwise
  rw [div_eight, mask_hi, select_bool]
  simp only [x_lo, x_hi, v103, zero_add, eq_at]
  obtain ⟨t, ht⟩ := H i
  rw [top_grad V h n i, tie_all (dsum_cases ht (Vc V h n) (Vp V h n) (O V h n i) (U V h n i))
    (fun k => res_main_v61_0 V (ix6 0 h 0 n i k)) _ (hi j)]
  unfold gsC tie
  simp only [s_hi, Bool.and_eq_true, decide_eq_true_eq]

/-! ## The gradients of the keys and values of a window -/

variable (H : Fine (b n) (Q V h n) (Kc V h n) (Kp V h n))

include H in
theorem dk_lo (j : Fin 128) (l : Fin 64) : res_main_v135 V (ix6 0 h 0 n (lo j) l)
    = gkP (b n) (Q V h n) (Kc V h n) (Kp V h n) (Vc V h n) (Vp V h n) (O V h n) (U V h n) j l := by
  pointwise [res_main_v135]
  simp only [ds_lo V h n H, v9]
  rfl

include H in
theorem dk_hi (j : Fin 128) (l : Fin 64) : res_main_v135 V (ix6 0 h 0 n (hi j) l)
    = gkC (b n) (Q V h n) (Kc V h n) (Kp V h n) (Vc V h n) (Vp V h n) (O V h n) (U V h n) j l := by
  pointwise [res_main_v135]
  simp only [ds_hi V h n H, v9]
  rfl

theorem dv_lo (j : Fin 128) (l : Fin 64) : (res_main_v115 V (ix6 0 h 0 n (lo j) l) : EReal)
    = gvP (b n) (Q V h n) (Kc V h n) (Kp V h n) (O V h n) j l := by
  pointwise [res_main_v115]
  simp only [g_eq, p_lo]
  exact Finset.sum_congr (M := EReal) rfl fun _ _ => mul_comm (G := EReal) _ _

theorem dv_hi (j : Fin 128) (l : Fin 64) : (res_main_v115 V (ix6 0 h 0 n (hi j) l) : EReal)
    = gvC (b n) (Q V h n) (Kc V h n) (Kp V h n) (O V h n) j l := by
  pointwise [res_main_v115]
  simp only [g_eq, p_hi]
  exact Finset.sum_congr (M := EReal) rfl fun _ _ => mul_comm (G := EReal) _ _

/-! ## Nothing depends on what stands before the first block -/

theorem drop {α : Sort*} (F : Bool → Mat → Mat → α) (hF : ∀ X X' Y Y', F false X Y = F false X' Y') (t : ℕ) (X Y : Mat) :
    F (decide (0 < t)) (before t X) (before t Y) = F (decide (0 < t)) X Y := by
  by_cases ht : 0 < t
  · unfold before
    rw [if_neg (by omega), if_neg (by omega)]
  · rw [decide_eq_false ht]
    exact hF _ _ _ _

theorem before_real {t : ℕ} {X : Mat} (hX : ∀ i l, ∃ x : ℝ, X i l = x) (i : Fin 128) (l : Fin 64) : ∃ x : ℝ, before t X i l = x := by
  unfold before
  split
  · exact ⟨0, rfl⟩
  · exact hX i l

section Blocks

variable (hq : ∀ i, ∃ x : ℝ, aq V i = x) (hk : ∀ i, ∃ x : ℝ, ak V i = x)

include hq hk in
theorem fines : Fine (b n) (Q V h n) (Kc V h n) (Kp V h n) :=
  fine (fun _ _ => ext_real _ hq _ _) (fun _ _ => ext_real _ hk _ _) (fun _ => before_real fun _ _ => ext_real _ hk _ _)

include hq hk in
theorem q_block (i : Fin 128) (l : Fin 64) :
    (∑ x, @HMul.hMul EReal EReal EReal _ (res_main_v134 V (ix6 0 h 0 n i x)) (res_main_v19 V (ix6 0 h 0 n x l)))
      = blkQ 1 0 (aq V) (ak V) (av V) (ao V) (au V) n.val 0 h.val i l := by
  rw [sum_halves]
  simp only [ds_lo V h n (fines V h n hq hk), ds_hi V h n (fines V h n hq hk), v19_lo, v19_hi]
  exact congrFun (congrFun (drop (fun t X Y => gq t (Q V h n) (Kc V h n) X (Vc V h n) Y (O V h n) (U V h n))
    (fun _ _ _ _ => gq_first _ _ _ _ _ _ _ _ _) n.val _ _) i) l

include hq hk in
theorem k_own (j : Fin 128) (l : Fin 64) : (res_main_v135 V (ix6 0 h 0 n (hi j) l) : EReal)
    = blkKC 1 0 (aq V) (ak V) (av V) (ao V) (au V) n.val 0 h.val j l := by
  rw [dk_hi V h n (fines V h n hq hk)]
  exact congrFun (congrFun (drop (fun t X Y => gkC t (Q V h n) (Kc V h n) X (Vc V h n) Y (O V h n) (U V h n))
    (fun _ _ _ _ => gkC_first _ _ _ _ _ _ _ _ _) n.val _ _) j) l

include hq hk in
theorem k_next (hn : 0 < n.val) (j : Fin 128) (l : Fin 64) : (res_main_v135 V (ix6 0 h 0 n (lo j) l) : EReal)
    = blkKP 1 0 (aq V) (ak V) (av V) (ao V) (au V) n.val 0 h.val j l := by
  rw [dk_lo V h n (fines V h n hq hk)]
  unfold Kp Vp before
  rw [if_neg (by omega), if_neg (by omega)]
  rfl

theorem v_own (j : Fin 128) (l : Fin 64) : (res_main_v115 V (ix6 0 h 0 n (hi j) l) : EReal)
    = blkVC 1 0 (aq V) (ak V) (ao V) n.val 0 h.val j l := by
  rw [dv_hi V h n]
  exact congrFun (congrFun (drop (fun t X _ => gvC t (Q V h n) (Kc V h n) X (O V h n))
    (fun _ _ _ _ => gvC_first _ _ _ _ _) n.val _ (fun _ _ => 0)) j) l

theorem v_next (hn : 0 < n.val) (j : Fin 128) (l : Fin 64) : (res_main_v115 V (ix6 0 h 0 n (lo j) l) : EReal)
    = blkVP 1 0 (aq V) (ak V) (ao V) n.val 0 h.val j l := by
  rw [dv_lo V h n]
  unfold Kp before
  rw [if_neg (by omega)]
  rfl

end Blocks

end DilBwd.R

end
-- ==== Proof.Dil.RefRun.lean ====
/-
  The reference's three results are the group's gradients (Arr.lean).
-/
module

public import proofs.«01_k».proof.Proof.Dil.Ref

@[expose] public section

set_option maxRecDepth 16384

noncomputable section

namespace DilBwd.R

open Idealize.ShloMosaic Idealize.ShloMosaic.TcCoe Idealize.SL.Sem
open Cert.ReferenceIdeal Cert.ReferenceIdeal.Value

/-! ## The results -/

section At

variable (R : Fin 4096) (C : Fin 256)

/-- A row and a lane: which head and block, and where in it. -/
theorem own_at (B : ℕ → ℕ → ℕ → Mat) : arr 1 Nat.one_pos B (ix2 R C)
    = B (R.val / 128) 0 (C.val / 64) ⟨R.val % 128, by omega⟩ ⟨C.val % 64, by omega⟩ :=
  arr_at 1 Nat.one_pos B R C ⟨R.val % 128, by omega⟩ ⟨C.val % 64, by omega⟩ Nat.one_pos (by simp only; omega) (by simp only; omega)

/-- A block's own share, and what the next block adds. -/
theorem both_own (A B : ℕ → ℕ → ℕ → Mat) : arr 1 Nat.one_pos (both 1 A B) (ix2 R C)
    = A (R.val / 128) 0 (C.val / 64) ⟨R.val % 128, by omega⟩ ⟨C.val % 64, by omega⟩
      + if R.val + 128 < 4096 then B (1 + R.val / 128) 0 (C.val / 64) ⟨R.val % 128, by omega⟩ ⟨C.val % 64, by omega⟩ else 0 := by
  rw [own_at]
  unfold both
  congr 1
  by_cases h : R.val + 128 < 4096
  · rw [if_pos h, if_pos (by omega), Nat.add_comm]
  · rw [if_neg h, if_neg (by omega)]

end At

section Low

variable (V : Valuation τ sig (Elt Ideal)) (h : Fin 4) (n : Fin 32) (j : Fin 128) (l : Fin 64)

theorem k_low : (res_main_v147 V (ix6 0 h 0 n j l) : EReal) = res_main_v135 V (ix6 0 h 0 n (lo j) l) := by
  pointwise [res_main_v147]
  rfl

theorem v_low : (res_main_v137 V (ix6 0 h 0 n j l) : EReal) = res_main_v115 V (ix6 0 h 0 n (lo j) l) := by
  pointwise [res_main_v137]
  rfl

end Low

section Results

variable (m : (ℓ : Loc nD τ sig) → Buf (Elt Ideal) ℓ) (ρ : Dev nD → PrngReg)

abbrev mq (c : Dev nD) : S4096x768.Idx → EReal := m ((c.tc : Thread nD τ).loc main_arg0)
abbrev mk (c : Dev nD) : S4096x768.Idx → EReal := m ((c.tc : Thread nD τ).loc main_arg1)
abbrev mv (c : Dev nD) : S4096x1536.Idx → EReal := m ((c.tc : Thread nD τ).loc main_arg2)
abbrev mo (c : Dev nD) : S4096x256.Idx → EReal := m ((c.tc : Thread nD τ).loc main_arg3)
abbrev mu (c : Dev nD) : S4096x256.Idx → EReal := m ((c.tc : Thread nD τ).loc main_arg4)

set_option maxHeartbeats 4000000 in
theorem run (hq : ∀ c i, ∃ x : ℝ, mq m c i = x) (hk : ∀ c i, ∃ x : ℝ, mk m c i = x) :
    θ_run defs (onTc (τ := τ) (main (F := Ideal))) ⟨m, fun _ => 0, ρ⟩ fun r => ∀ c : Dev nD,
      r.2.mem ((c.tc : Thread nD τ).loc main_v163) = gradQ 1 0 (mq m c) (mk m c) (mv m c) (mo m c) (mu m c) Nat.one_pos
      ∧ r.2.mem ((c.tc : Thread nD τ).loc main_v162) = gradK 1 0 (mq m c) (mk m c) (mv m c) (mo m c) (mu m c) Nat.one_pos
      ∧ r.2.mem ((c.tc : Thread nD τ).loc main_v161) = gradV 1 0 (mq m c) (mk m c) (mo m c) Nat.one_pos
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2⟩) (Value.run m ρ)
  all_goals clear h r
  · have hq : ∀ i, ∃ x : ℝ, aq (StableHlo.launchContents m c) i = x := hq c
    have hk : ∀ i, ∃ x : ℝ, ak (StableHlo.launchContents m c) i = x := hk c
    show _ = gradQ 1 0 (aq (StableHlo.launchContents m c)) (ak (StableHlo.launchContents m c)) (av (StableHlo.launchContents m c)) (ao (StableHlo.launchContents m c)) (au (StableHlo.launchContents m c)) Nat.one_pos
    generalize StableHlo.launchContents m c = V at hq hk ⊢
    funext x; rw [eq_ix2 x]; generalize x 0 = R; generalize x 1 = cc; revert R cc; intro (R : Fin 4096) (cc : Fin 256)
    pointwise
    rw [dif_pos ⟨by omega, by omega⟩]
    unfold gradQ
    rw [own_at]
    exact q_block V ⟨cc.val / 64, by omega⟩ ⟨R.val / 128, by omega⟩ hq hk ⟨R.val % 128, by omega⟩ ⟨cc.val % 64, by omega⟩
  · have hq : ∀ i, ∃ x : ℝ, aq (StableHlo.launchContents m c) i = x := hq c
    have hk : ∀ i, ∃ x : ℝ, ak (StableHlo.launchContents m c) i = x := hk c
    show _ = gradK 1 0 (aq (StableHlo.launchContents m c)) (ak (StableHlo.launchContents m c)) (av (StableHlo.launchContents m c)) (ao (StableHlo.launchContents m c)) (au (StableHlo.launchContents m c)) Nat.one_pos
    generalize StableHlo.launchContents m c = V at hq hk ⊢
    funext x; rw [eq_ix2 x]; generalize x 0 = R; generalize x 1 = cc; revert R cc; intro (R : Fin 4096) (cc : Fin 256)
    pointwise
    rw [dif_pos ⟨by omega, by omega⟩]
    unfold gradK
    refine Eq.trans ?_ (both_own R cc _ _).symm
    refine congrArg₂ (fun a b : EReal => a + b) (k_own V ⟨cc.val / 64, by omega⟩ ⟨R.val / 128, by omega⟩ hq hk ⟨R.val % 128, by omega⟩ ⟨cc.val % 64, by omega⟩) ?_
    by_cases hR : R.val + 128 < 4096
    · refine (dif_pos (⟨by omega, by omega, by omega, by omega⟩ : cc.val / 64 < 4 ∧ R.val / 128 < 31 ∧ R.val % 128 < 128 ∧ cc.val % 64 < 64)).trans (Eq.trans ?_ (if_pos hR).symm)
      exact (k_low V ⟨cc.val / 64, by omega⟩ ⟨1 + R.val / 128, by omega⟩ ⟨R.val % 128, by omega⟩ ⟨cc.val % 64, by omega⟩).trans (k_next V ⟨cc.val / 64, by omega⟩ ⟨1 + R.val / 128, by omega⟩ hq hk (by simp only; omega) ⟨R.val % 128, by omega⟩ ⟨cc.val % 64, by omega⟩)
    · exact (dif_neg (show ¬ (cc.val / 64 < 4 ∧ R.val / 128 < 31 ∧ R.val % 128 < 128 ∧ cc.val % 64 < 64) by omega)).trans (if_neg hR).symm
  · show _ = gradV 1 0 (aq (StableHlo.launchContents m c)) (ak (StableHlo.launchContents m c)) (ao (StableHlo.launchContents m c)) Nat.one_pos
    generalize StableHlo.launchContents m c = V
    funext x; rw [eq_ix2 x]; generalize x 0 = R; generalize x 1 = cc; revert R cc; intro (R : Fin 4096) (cc : Fin 256)
    pointwise
    rw [dif_pos ⟨by omega, by omega⟩]
    unfold gradV
    refine Eq.trans ?_ (both_own R cc _ _).symm
    refine congrArg₂ (fun a b : EReal => a + b) (v_own V ⟨cc.val / 64, by omega⟩ ⟨R.val / 128, by omega⟩ ⟨R.val % 128, by omega⟩ ⟨cc.val % 64, by omega⟩) ?_
    by_cases hR : R.val + 128 < 4096
    · refine (dif_pos (⟨by omega, by omega, by omega, by omega⟩ : cc.val / 64 < 4 ∧ R.val / 128 < 31 ∧ R.val % 128 < 128 ∧ cc.val % 64 < 64)).trans (Eq.trans ?_ (if_pos hR).symm)
      exact (v_low V ⟨cc.val / 64, by omega⟩ ⟨1 + R.val / 128, by omega⟩ ⟨R.val % 128, by omega⟩ ⟨cc.val % 64, by omega⟩).trans (v_next V ⟨cc.val / 64, by omega⟩ ⟨1 + R.val / 128, by omega⟩ (by simp only; omega) ⟨R.val % 128, by omega⟩ ⟨cc.val % 64, by omega⟩)
    · exact (dif_neg (show ¬ (cc.val / 64 < 4 ∧ R.val / 128 < 31 ∧ R.val % 128 < 128 ∧ cc.val % 64 < 64) by omega)).trans (if_neg hR).symm

end Results

end DilBwd.R

end
-- ==== Proof.Dil.Finite.lean ====
/-
  What the precondition gives: queries and keys whose entries are real numbers.
-/
module

public import proofs.«01_k».proof.Pre_finite
public import proofs.«01_k».proof.Proof.Gen.Pre_finite
public import Idealize.ShloMosaic.PureOps.Ideal

@[expose] public section

set_option maxRecDepth 16384

noncomputable section

namespace DilBwd

open Idealize.ShloMosaic Idealize.ShloMosaic.TcCoe Idealize.SL.Sem

theorem inf_val : Ideal.ofBits .f32 0x7F800000#32 = ⊤ := by
  simp [Ideal.ofBits, Ideal.ieee]

/-- Smaller than infinity in magnitude: a real number. -/
theorem real_of_lt {x : EReal} (h : FloatOps.cmpf (F := Ideal) (φ := .f32) .olt (FloatOps.hostAbsf (F := Ideal) (φ := .f32) x) (Ideal.ofBits .f32 0x7F800000#32) = 1#1) :
    ∃ r : ℝ, x = r := by
  rw [inf_val] at h
  induction x with
  | coe r => exact ⟨r, rfl⟩
  | bot => simp [FloatOps.cmpf, FloatOps.hostAbsf, Ideal.cmp] at h
  | top => simp [FloatOps.cmpf, FloatOps.hostAbsf, Ideal.cmp] at h

section

variable {q k : FVec Ideal Cert.Pre_finite.S4096x768 .f32} {v : FVec Ideal Cert.Pre_finite.S4096x1536 .f32}
  {o u : FVec Ideal Cert.Pre_finite.S4096x256 .f32}

theorem real_q (h : (Cert.Pre_finite.fn (F := Ideal) q k v o u).1 = fun _ => 1#1) (i : Cert.Pre_finite.S4096x768.Idx) :
    ∃ r : ℝ, (q i : EReal) = r :=
  real_of_lt (congrFun h i)

theorem real_k (h : (Cert.Pre_finite.fn (F := Ideal) q k v o u).2 = fun _ => 1#1) (i : Cert.Pre_finite.S4096x768.Idx) :
    ∃ r : ℝ, (k i : EReal) = r :=
  real_of_lt (congrFun h i)

end

end DilBwd

end
-- ==== Proof.Mm.Sums.lean ====
/-
  A blocked product adds, tile by tile along the contracted axis, the products of one tile: the sum over all tiles is the
  sum over the axis. And what an accumulator holds that is restarted at every multiple of the number of tiles.
-/
module

public import Idealize.ShloMosaic.Lib.Pointwise

@[expose] public section

noncomputable section

namespace Mm

open Idealize.ShloMosaic

/-- An entry of a matrix, nought outside it. -/
def ent {R W : ℕ} (X : (⟨2, ![R, W]⟩ : Shape).Idx → EReal) (r c : ℕ) : EReal :=
  if h : r < R ∧ c < W then X (ix2 ⟨r, h.1⟩ ⟨c, h.2⟩) else 0

theorem ent_of {R W : ℕ} (X : (⟨2, ![R, W]⟩ : Shape).Idx → EReal) {r c : ℕ} (hr : r < R) (hc : c < W) :
    ent X r c = X (ix2 ⟨r, hr⟩ ⟨c, hc⟩) := dif_pos ⟨hr, hc⟩

/-- `n` tiles of `T` each. -/
theorem tiles (T : ℕ) (f : ℕ → EReal) (n : ℕ) :
    (∑ s ∈ Finset.range n, ∑ k : Fin T, f (T * s + k.val)) = ∑ k ∈ Finset.range (T * n), f k := by
  induction n with
  | zero => simp
  | succ n ih =>
    rw [Finset.sum_range_succ, ih, Nat.mul_succ, Finset.sum_range_add]
    congr 1
    exact (Finset.sum_range fun x => f (T * n + x)).symm

/-- The whole contracted axis, of `K = T * n` places. -/
theorem axis (T n K : ℕ) (h : K = T * n) (f : ℕ → EReal) :
    (∑ s ∈ Finset.range n, ∑ k : Fin T, f (T * s + k.val)) = ∑ k : Fin K, f k.val := by
  rw [tiles, ← h, Finset.sum_range]

/-- The entry under an embedding that places a block of `r` rows and `w` columns at block row `a`, block column `b`. -/
theorem ent_emb {R W r w : ℕ} (X : (⟨2, ![R, W]⟩ : Shape).Idx → EReal) (e : (⟨2, ![r, w]⟩ : Shape).Idx → (⟨2, ![R, W]⟩ : Shape).Idx)
    (a b : ℕ) (h0 : ∀ j, (e j 0).val = a * r + 1 * (j 0).val) (h1 : ∀ j, (e j 1).val = b * w + 1 * (j 1).val) (i : Fin r) (k : Fin w) :
    X (e (ix2 i k)) = ent X (r * a + i.val) (w * b + k.val) := by
  have e0 : (e (ix2 i k) 0).val = r * a + i.val := by rw [h0, Nat.mul_comm a r, Nat.one_mul]; rfl
  have e1 : (e (ix2 i k) 1).val = w * b + k.val := by rw [h1, Nat.mul_comm b w, Nat.one_mul]; rfl
  have g0 : r * a + i.val < R := e0 ▸ (e (ix2 i k) 0).isLt
  have g1 : w * b + k.val < W := e1 ▸ (e (ix2 i k) 1).isLt
  rw [ent_of X g0 g1]
  exact congrArg X ((eq_ix2 (e (ix2 i k))).trans (congrArg₂ ix2 (Fin.ext e0 : e (ix2 i k) 0 = ⟨_, g0⟩) (Fin.ext e1 : e (ix2 i k) 1 = ⟨_, g1⟩)))

/-- The entries of the transposed matrix. -/
theorem ent_swap {R W : ℕ} (X : (⟨2, ![R, W]⟩ : Shape).Idx → EReal) (r c : ℕ) :
    ent (fun i : (⟨2, ![W, R]⟩ : Shape).Idx => X (ix2 (i 1) (i 0))) r c = ent X c r := by
  unfold ent
  by_cases h : r < W ∧ c < R
  · rw [dif_pos h, dif_pos h.symm]; rfl
  · rw [dif_neg h, dif_neg fun g => h g.symm]

/-- An accumulator over points numbered from nought, `n` to a run: at a run's first point it holds that point's share, at
    the points between what it held and the point's share, and at the last it gives out what it held and the point's share.
    So it gives out the shares of the run. -/
theorem given {N : ℕ} (n : ℕ) (hn : 1 < n) (a o : (t : ℕ) → t < N → EReal) (p : ℕ → EReal)
    (h0 : ∀ t h, t % n = 0 → a t h = p t)
    (h1 : ∀ t h, ¬ t % n = 0 → ¬ t % n = n - 1 → a t h = a (t - 1) (by omega) + p t)
    (h2 : ∀ t h, t % n = n - 1 → o t h = a (t - 1) (by omega) + p t)
    (b : ℕ) (h : n * b + (n - 1) < N) : o (n * b + (n - 1)) h = ∑ s ∈ Finset.range n, p (n * b + s) := by
  have hm : ∀ s, s < n → (n * b + s) % n = s := fun s hs => by rw [Nat.mul_add_mod, Nat.mod_eq_of_lt hs]
  have ha : ∀ s, s + 1 < n → ∀ h, a (n * b + s) h = ∑ s' ∈ Finset.range (s + 1), p (n * b + s') := by
    intro s
    induction s with
    | zero => intro hs h; rw [h0 _ h (hm 0 (by omega)), Finset.sum_range_one]
    | succ s ih =>
      intro hs h
      rw [h1 _ h (by rw [hm _ (by omega)]; omega) (by rw [hm _ (by omega)]; omega), Finset.sum_range_succ]
      exact congrArg (· + _) (ih (by omega) _)
  rw [h2 _ h (hm _ (by omega))]
  obtain ⟨n, rfl⟩ : ∃ n', n = n' + 1 + 1 := ⟨n - 2, by omega⟩
  rw [Finset.sum_range_succ]
  exact congrArg (· + _) (ha n (by omega) _)

/-- A blocked product. Point `t` takes tile `t % n` of the contracted axis and adds, at a place of its block, the products of
    that tile; the block stays the same through a run of `n` points. What a run gives out is the sum over the axis. -/
theorem blocked {N : ℕ} (n T K : ℕ) (hn : 1 < n) (hK : K = T * n) (f : ℕ → ℕ → EReal) (a o : (t : ℕ) → t < N → EReal)
    (h0 : ∀ t h, t % n = 0 → a t h = ∑ k : Fin T, f (t / n) (T * (t % n) + k.val))
    (h1 : ∀ t h, ¬ t % n = 0 → ¬ t % n = n - 1 → a t h = a (t - 1) (by omega) + ∑ k : Fin T, f (t / n) (T * (t % n) + k.val))
    (h2 : ∀ t h, t % n = n - 1 → o t h = a (t - 1) (by omega) + ∑ k : Fin T, f (t / n) (T * (t % n) + k.val))
    (b t : ℕ) (h : t < N) (ht : t = n * b + (n - 1)) : o t h = ∑ k : Fin K, f b k.val := by
  subst ht
  rw [given n hn a o _ h0 h1 h2 b h, ← axis T n K hK]
  refine Finset.sum_congr rfl fun s hs => Finset.sum_congr rfl fun k _ => ?_
  have hs := Finset.mem_range.mp hs
  rw [Nat.mul_add_mod, Nat.mod_eq_of_lt hs, Nat.mul_add_div (by omega), Nat.div_eq_of_lt hs, Nat.add_zero]

end Mm

end
-- ==== Proof.Mm.Up.lean ====
module

public import Idealize.ShloMosaic.Lib.VecWindow
public import Idealize.ShloMosaic.Lib.Quiescent
public import proofs.«01_k».proof.Defs
public import proofs.«01_k».proof.Proof.Mm.Sums
public import proofs.«01_k».proof.Proof.Gen.UpIdeal.Value
public import proofs.«01_k».proof.Proof.Gen.UpRefIdeal.Run

@[expose] public section

set_option maxRecDepth 16384

noncomputable section

namespace Cert.UpIdeal.Prod

open Cert.UpIdeal Cert.UpIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem only (a3 : Memref sig .tc .vmem S1024x1024 .bf16) (h3 : a3.IsWhole) (a4 : Memref sig .tc .vmem S1408x1024 .bf16)
    (h4 : a4.IsWhole) (a5 : Memref sig .tc .vmem S1024x1408 .f32) (h5 : a5.IsWhole) (a6 : Memref sig .tc .vmem S1024x1408 .f32)
    (h6 : a6.IsWhole) (hc0 : cond0_0 i) (hc1 : cond0_1 i) (x : Vec Ideal S1024x1024 .bf16) (w : Vec Ideal S1408x1024 .bf16) :
    out0_A_2 c i a3 h3 a4 h4 a5 h5 a6 h6 hc0 hc1 x w = k0_pay2 k0_pay1 x w := by
  unfold out0_A_2
  rw [View.read_writes_eq_canon _ _ _ (cover0_A_2 c i a3 h3 a4 h4 a5 h5 a6 h6 hc0 hc1 x w)]
  unfold kernelRun0_A
  dsimp only
  rw [View.canon_unit_zero (S := S1024x1408) hz]
  sl_unfold_words
  rw [View.readCov_unit_zero (S := S1024x1408) _ hz, View.readCov_full]
  simp only [View.readAt_eq_ld, h3.read_unread, h4.read_unread, View.ld_unit_zero (S := S1024x1024) hz, View.ld_unit_zero (S := S1408x1024) hz]

end Body

/-- The products start from nought. -/
theorem pay0 (x : Vec Ideal S1024x1024 .bf16) (w : Vec Ideal S1408x1024 .bf16) (r : Fin 1024) (q : Fin 1408) :
    (k0_pay2 k0_pay1 x w (ix2 r q) : EReal) = ∑ k : Fin 1024, x (ix2 r k) * w (ix2 q k) := by
  pointwise [k0_pay2, k0_pay1]

variable (m : (ℓ : Loc nD τ sig) → Buf (Elt Ideal) ℓ) (ρ : Dev nD → PrngReg)

theorem at0 : ∀ t : Fin cfg0.N, win0_0.index t (0 : Fin 2) = t.val / 4 ∧ win0_0.index t (1 : Fin 2) = 0 :=
  (by decide +kernel : ∀ t : Fin grid0.N, _)
theorem at1 : ∀ t : Fin cfg0.N, win0_1.index t (0 : Fin 2) = t.val % 4 ∧ win0_1.index t (1 : Fin 2) = 0 :=
  (by decide +kernel : ∀ t : Fin grid0.N, _)
theorem at2 : ∀ t : Fin cfg0.N, win0_2.index t (0 : Fin 2) = t.val / 4 ∧ win0_2.index t (1 : Fin 2) = t.val % 4 :=
  (by decide +kernel : ∀ t : Fin grid0.N, _)
theorem flush : ∀ t : Fin cfg0.N, (cfg0.win 2).flush t = true :=
  (by decide +kernel : ∀ t : Fin grid0.N, win0_2.flush t = true)

abbrev lhs (c : Dev nD) : (⟨2, ![4096, 1024]⟩ : Shape).Idx → EReal := m ((c : Thread nD τ).loc main_arg0)
abbrev arg (c : Dev nD) : (⟨2, ![1024, 5632]⟩ : Shape).Idx → EReal := m ((c : Thread nD τ).loc main_arg1)

theorem V_rhs (c : Dev nD) : (V m c main_v1 : S5632x1024.Idx → EReal) = fun i => arg m c (ix2 (i 1) (i 0)) := by
  unfold_abbrev_sides
  after_results
  funext i
  rw [eq_ix2 i]
  pointwise

theorem x_at (c : Dev nD) (t : Fin cfg0.N) (r : Fin 1024) (k : Fin 1024) :
    (iblk m c 0 t (ix2 r k) : EReal) = Mm.ent (lhs m c) (1024 * (t.val / 4) + r.val) (1024 * 0 + k.val) := by
  unfold iblk
  rw [View.read_apply]
  show V m c main_arg0 _ = _
  rw [V_main_arg0]
  exact Mm.ent_emb (lhs m c) ((cfg0.win 0).blk t).view.emb _ _ (fun j => congrArg (· * 1024 + 1 * (j 0).val) (at0 t).1)
    (fun j => congrArg (· * 1024 + 1 * (j 1).val) (at0 t).2) r k

theorem w_at (c : Dev nD) (t : Fin cfg0.N) (q : Fin 1408) (k : Fin 1024) :
    (iblk m c 1 t (ix2 q k) : EReal) = Mm.ent (arg m c) (1024 * 0 + k.val) (1408 * (t.val % 4) + q.val) := by
  unfold iblk
  rw [View.read_apply]
  show V m c main_v1 _ = _
  rw [V_rhs, ← Mm.ent_swap (arg m c)]
  exact Mm.ent_emb (fun i : (⟨2, ![5632, 1024]⟩ : Shape).Idx => arg m c (ix2 (i 1) (i 0))) ((cfg0.win 1).blk t).view.emb _ _ (fun j => congrArg (· * 1408 + 1 * (j 0).val) (at1 t).1)
    (fun j => congrArg (· * 1024 + 1 * (j 1).val) (at1 t).2) q k

/-- What a point gives out. -/
theorem block (c : Dev nD) (t : Fin cfg0.N) (r : Fin 1024) (q : Fin 1408) :
    (outsAt0 m c t (ix2 r q) : EReal)
      = ∑ k : Fin 1024, Mm.ent (lhs m c) (1024 * (t.val / 4) + r.val) k.val * Mm.ent (arg m c) k.val (1408 * (t.val % 4) + q.val) := by
  unfold outsAt0
  rw [only, pay0]
  refine Finset.sum_congr rfl fun k _ => ?_
  rw [← Nat.zero_add k.val, ← Nat.mul_zero 1024]
  exact congrArg₂ (· * ·) (x_at m c t r k) (w_at m c t q k)

/-- The kernel's array: every entry the sum over the whole contracted axis. -/
theorem value (c : Dev nD) (R : Fin 4096) (C : Fin 5632) :
    ((dats m 0 c).arrAt 2 cfg0.N (ix2 R C) : EReal) = ∑ k : Fin 1024, Mm.ent (lhs m c) R.val k.val * Mm.ent (arg m c) k.val C.val := by
  obtain ⟨t, ht⟩ : ∃ t : Fin cfg0.N, t.val = 4 * (R.val / 1024) + C.val / 1408 :=
    ⟨⟨4 * (R.val / 1024) + C.val / 1408, by rw [show cfg0.N = 16 from N_0]; omega⟩, rfl⟩
  have h := congrFun (Value.blocks2 m c t (flush t))
    (ix2 (⟨R.val % 1024, Nat.mod_lt _ (by decide)⟩ : Fin 1024) (⟨C.val % 1408, Nat.mod_lt _ (by decide)⟩ : Fin 1408))
  rw [View.read_apply, Value.flushed2] at h
  have e : ((cfg0.win 2).blk t).view.emb (ix2 (⟨R.val % 1024, Nat.mod_lt _ (by decide)⟩ : Fin 1024) (⟨C.val % 1408, Nat.mod_lt _ (by decide)⟩ : Fin 1408))
      = ix2 R C := by
    funext a; apply Fin.ext
    fin_cases a
    · show win0_2.index t (0 : Fin 2) * 1024 + 1 * (R.val % 1024) = R.val; rw [(at2 t).1]; omega
    · show win0_2.index t (1 : Fin 2) * 1408 + 1 * (C.val % 1408) = C.val; rw [(at2 t).2]; omega
  rw [e] at h
  refine h.trans ((block m c t _ _).trans ?_)
  rw [show 1024 * (t.val / 4) + R.val % 1024 = R.val by omega, show 1408 * (t.val % 4) + C.val % 1408 = C.val by omega]

/-- The kernel's array is the reference's. -/
theorem algebraic : algebraic_UpIdeal_UpRefIdeal (hUpIdeal := Cert.UpIdeal.Gen.facts)
    (hUpRefIdeal := Cert.UpRefIdeal.Gen.facts) := fun m g m' g' _ ha => by
  refine ⟨_, Value.run_blocks m g, (θ_run Cert.UpRefIdeal.defs _ _).mono (fun r h c => ⟨(h c).1.trans ?_, (h c).2⟩)
    (Cert.UpRefIdeal.Value.run m' g')⟩
  rw [(ha c).1, (ha c).2]
  funext i
  rw [eq_ix2 i]
  refine Eq.trans ?_ (value m c (i 0) (i 1)).symm
  pointwise
  exact Finset.sum_congr rfl fun k _ => congrArg₂ (· * ·)
    (Mm.ent_of (lhs m c) (i 0).isLt k.isLt).symm (Mm.ent_of (arg m c) k.isLt (i 1).isLt).symm

/-- The reference leaves its arguments and no semaphore raised. -/
theorem reference : quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run m ρ)

end Cert.UpIdeal.Prod

end
-- ==== Proof.Mm.UpDx.lean ====
module

public import Idealize.ShloMosaic.Lib.Quiescent
public import proofs.«01_k».proof.Defs
public import proofs.«01_k».proof.Proof.Mm.Sums
public import proofs.«01_k».proof.Proof.Gen.UpDxIdeal.Value
public import proofs.«01_k».proof.Proof.Gen.UpDxRefIdeal.Run

@[expose] public section

set_option maxRecDepth 16384

noncomputable section

namespace Cert.UpDxIdeal.Prod

open Cert.UpDxIdeal Cert.UpDxIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem first (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (hc0 : cond0_0 i) (hc1 : ¬cond0_1 i) (x : Vec Ideal S2048x1408 .bf16) (w : Vec Ideal S1408x512 .bf16) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S2048x512) hz, View.readCov_unit_zero (S := S2048x512) _ hz]
  simp only [View.readAt_eq_ld, h3.read_unread, h4.read_unread, View.ld_unit_zero (S := S2048x1408) hz, View.ld_unit_zero (S := S1408x512) hz]

theorem next (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (hc0 : ¬cond0_0 i) (hc1 : ¬cond0_1 i) (x : Vec Ideal S2048x1408 .bf16) (w : Vec Ideal S1408x512 .bf16)
    (s : Vec Ideal S2048x512 .f32) :
    sout0_B_0 c i a3 h3 a4 h4 a5 h5 a6 h6 hc0 hc1 x w s = k0_pay2 s x w := by
  unfold sout0_B_0
  rw [View.read_writes_eq_canon _ _ _ (scover0_B_0 c i a3 h3 a4 h4 a5 h5 a6 h6 hc0 hc1 x w s)]
  unfold kernelRun0_B
  dsimp only
  rw [View.canon_unit_zero (S := S2048x512) hz]
  simp only [View.readAt_eq_ld, h3.read_unread, h4.read_unread, h6.read_unread, View.ld_unit_zero (S := S2048x512) hz,
    View.ld_unit_zero (S := S2048x1408) hz, View.ld_unit_zero (S := S1408x512) hz]

theorem last (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (hc0 : ¬cond0_0 i) (hc1 : cond0_1 i) (x : Vec Ideal S2048x1408 .bf16) (w : Vec Ideal S1408x512 .bf16)
    (s : Vec Ideal S2048x512 .f32) :
    out0_C_2 c i a3 h3 a4 h4 a5 h5 a6 h6 hc0 hc1 x w s = k0_pay2 s x w := by
  unfold out0_C_2
  rw [View.read_writes_eq_canon _ _ _ (cover0_C_2 c i a3 h3 a4 h4 a5 h5 a6 h6 hc0 hc1 x w s)]
  unfold kernelRun0_C
  dsimp only
  rw [View.canon_unit_zero (S := S2048x512) hz]
  sl_unfold_words
  rw [View.readCov_unit_zero (S := S2048x512) _ hz]
  simp only [View.readAt_eq_ld, h3.read_unread, h4.read_unread, h6.read_unread, View.ld_unit_zero (S := S2048x512) hz,
    View.ld_unit_zero (S := S2048x1408) hz, View.ld_unit_zero (S := S1408x512) hz]

end Body

theorem pay (s : Vec Ideal S2048x512 .f32) (x : Vec Ideal S2048x1408 .bf16) (w : Vec Ideal S1408x512 .bf16) (r : Fin 2048) (q : Fin 512) :
    k0_pay2 s x w (ix2 r q) = s (ix2 r q) + ∑ k : Fin 1408, x (ix2 r k) * w (ix2 k q) := by
  pointwise [k0_pay2]

/-- The products start from nought. -/
theorem pay0 (x : Vec Ideal S2048x1408 .bf16) (w : Vec Ideal S1408x512 .bf16) (r : Fin 2048) (q : Fin 512) :
    (k0_pay2 k0_pay1 x w (ix2 r q) : EReal) = ∑ k : Fin 1408, x (ix2 r k) * w (ix2 k q) := by
  pointwise [k0_pay2, k0_pay1]

variable (m : (ℓ : Loc nD τ sig) → Buf (Elt Ideal) ℓ) (ρ : Dev nD → PrngReg)

theorem at0 : ∀ t : Fin cfg0.N, win0_0.index t (0 : Fin 2) = t.val / 4 / 2 ∧ win0_0.index t (1 : Fin 2) = t.val % 4 :=
  (by decide +kernel : ∀ t : Fin grid0.N, _)
theorem at1 : ∀ t : Fin cfg0.N, win0_1.index t (0 : Fin 2) = t.val % 4 ∧ win0_1.index t (1 : Fin 2) = t.val / 4 % 2 :=
  (by decide +kernel : ∀ t : Fin grid0.N, _)

abbrev lhs (c : Dev nD) : (⟨2, ![4096, 5632]⟩ : Shape).Idx → EReal := m ((c : Thread nD τ).loc main_arg0)
abbrev arg (c : Dev nD) : (⟨2, ![1024, 5632]⟩ : Shape).Idx → EReal := m ((c : Thread nD τ).loc main_arg1)

theorem V_rhs (c : Dev nD) : (V m c main_v1 : S5632x1024.Idx → EReal) = fun i => arg m c (ix2 (i 1) (i 0)) := by
  unfold_abbrev_sides
  after_results
  funext i
  rw [eq_ix2 i]
  pointwise

theorem x_at (c : Dev nD) (t : Fin cfg0.N) (r : Fin 2048) (k : Fin 1408) :
    (iblk m c 0 t (ix2 r k) : EReal) = Mm.ent (lhs m c) (2048 * (t.val / 4 / 2) + r.val) (1408 * (t.val % 4) + k.val) := by
  unfold iblk
  rw [View.read_apply]
  show V m c main_arg0 _ = _
  rw [V_main_arg0]
  exact Mm.ent_emb (lhs m c) ((cfg0.win 0).blk t).view.emb _ _ (fun j => congrArg (· * 2048 + 1 * (j 0).val) (at0 t).1)
    (fun j => congrArg (· * 1408 + 1 * (j 1).val) (at0 t).2) r k

theorem w_at (c : Dev nD) (t : Fin cfg0.N) (k : Fin 1408) (q : Fin 512) :
    (iblk m c 1 t (ix2 k q) : EReal) = Mm.ent (arg m c) (512 * (t.val / 4 % 2) + q.val) (1408 * (t.val % 4) + k.val) := by
  unfold iblk
  rw [View.read_apply]
  show V m c main_v1 _ = _
  rw [V_rhs, ← Mm.ent_swap (arg m c)]
  exact Mm.ent_emb (fun i : (⟨2, ![5632, 1024]⟩ : Shape).Idx => arg m c (ix2 (i 1) (i 0))) ((cfg0.win 1).blk t).view.emb _ _ (fun j => congrArg (· * 1408 + 1 * (j 0).val) (at1 t).1)
    (fun j => congrArg (· * 512 + 1 * (j 1).val) (at1 t).2) k q

/-- The product at place `k` of a row of the one array and a row of the other, at place `(r, q)` of block `b`. -/
abbrev term (c : Dev nD) (r q b k : ℕ) : EReal := Mm.ent (lhs m c) (2048 * (b / 2) + r) k * Mm.ent (arg m c) (512 * (b % 2) + q) k

theorem part (c : Dev nD) (t : Fin cfg0.N) (r : Fin 2048) (q : Fin 512) :
    (∑ k : Fin 1408, @HMul.hMul EReal EReal EReal _ (iblk m c 0 t (ix2 r k)) (iblk m c 1 t (ix2 k q)))
      = ∑ k : Fin 1408, term m c r.val q.val (t.val / 4) (1408 * (t.val % 4) + k.val) :=
  Finset.sum_congr rfl fun k _ => by rw [x_at, w_at]

/-- What a run's last point gives out. -/
theorem block (c : Dev nD) (b t : ℕ) (ht : t < cfg0.N) (h : t = 4 * b + 3) (r : Fin 2048) (q : Fin 512) :
    ((outsAt0 m c t ht).1 (ix2 r q) : EReal) = ∑ k : Fin 5632, term m c r.val q.val b k.val := by
  refine Mm.blocked 4 1408 5632 (by decide) rfl (term m c r.val q.val) (fun t ht => (outsAt0 m c t ht).2 (ix2 r q))
    (fun t ht => (outsAt0 m c t ht).1 (ix2 r q)) (fun t ht h0 => ?_) (fun t ht h0 h1 => ?_) (fun t ht h1 => ?_) b t ht h
  · rw [outsAt0_A m c ⟨t, ht⟩ h0 (by dsimp only; omega)]
    dsimp only
    rw [first, pay0]
    exact part m c ⟨t, ht⟩ r q
  · rw [outsAt0_B m c ⟨t, ht⟩ h0 h1]
    dsimp only
    rw [next, pay]
    exact congrArg _ (part m c ⟨t, ht⟩ r q)
  · rw [outsAt0_C m c ⟨t, ht⟩ (by dsimp only; omega) h1]
    dsimp only
    rw [last, pay]
    exact congrArg _ (part m c ⟨t, ht⟩ r q)

/-- The kernel's array: every entry the sum over the whole contracted axis. -/
theorem value (c : Dev nD) (R : Fin 4096) (C : Fin 1024) :
    (Value.G2 m c (ix2 R C) : EReal) = ∑ k : Fin 5632, Mm.ent (lhs m c) R.val k.val * Mm.ent (arg m c) C.val k.val := by
  have hp : Value.pt2Of (ix2 R C) = 4 * (2 * (R.val / 2048) + C.val / 512) + 3 := by
    show 4 * (2 * (R.val / 2048 - 0) + 1 * (C.val / 512 - 0)) + 3 = _; omega
  have hlt : Value.pt2Of (ix2 R C) < cfg0.N := by rw [hp, show cfg0.N = 16 from N_0]; omega
  have hl : Value.loc2Of (ix2 R C) = ix2 (⟨R.val % 2048, Nat.mod_lt _ (by decide)⟩ : Fin 2048) (⟨C.val % 512, Nat.mod_lt _ (by decide)⟩ : Fin 512) := by
    funext a; fin_cases a <;> rfl
  refine (dif_pos hlt).trans ?_
  rw [← Value.outsAt0_sweep m c _ hlt, hl, block m c _ _ hlt hp]
  unfold term
  dsimp only
  rw [show 2048 * ((2 * (R.val / 2048) + C.val / 512) / 2) + R.val % 2048 = R.val by omega,
    show 512 * ((2 * (R.val / 2048) + C.val / 512) % 2) + C.val % 512 = C.val by omega]

/-- The kernel's array is the reference's. -/
theorem algebraic : algebraic_UpDxIdeal_UpDxRefIdeal (hUpDxIdeal := Cert.UpDxIdeal.Gen.facts)
    (hUpDxRefIdeal := Cert.UpDxRefIdeal.Gen.facts) := fun m g m' g' _ ha => by
  refine ⟨_, Value.run m g, (θ_run Cert.UpDxRefIdeal.defs _ _).mono (fun r h c => ⟨(h c).1.trans ?_, (h c).2⟩)
    (Cert.UpDxRefIdeal.Value.run m' g')⟩
  rw [(ha c).1, (ha c).2]
  funext i
  rw [eq_ix2 i]
  refine Eq.trans ?_ (value m c (i 0) (i 1)).symm
  pointwise
  exact Finset.sum_congr rfl fun k _ => congrArg₂ (· * ·)
    (Mm.ent_of (lhs m c) (i 0).isLt k.isLt).symm (Mm.ent_of (arg m c) (i 1).isLt k.isLt).symm

/-- The reference leaves its arguments and no semaphore raised. -/
theorem reference : quiescent_UpDxRefIdeal (hUpDxRefIdeal := Cert.UpDxRefIdeal.Gen.facts) := fun m ρ _ =>
  (θ_run Cert.UpDxRefIdeal.defs _ _).mono (fun r h => ⟨fun c => (h c).2, sem_eq_zero_of_no_sems (by decide) r.2⟩)
    (Cert.UpDxRefIdeal.Value.run m ρ)

end Cert.UpDxIdeal.Prod

end
-- ==== Proof.Mm.UpDw.lean ====
module

public import Idealize.ShloMosaic.Lib.Quiescent
public import proofs.«01_k».proof.Defs
public import proofs.«01_k».proof.Proof.Mm.Sums
public import proofs.«01_k».proof.Proof.Gen.UpDwIdeal.Value
public import proofs.«01_k».proof.Proof.Gen.UpDwRefIdeal.Run

@[expose] public section

set_option maxRecDepth 16384

noncomputable section

namespace Cert.UpDwIdeal.Prod

open Cert.UpDwIdeal Cert.UpDwIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem first (a3 : Memref sig .tc .vmem S1024x1408 .bf16) (h3 : a3.IsWhole) (a4 : Memref sig .tc .vmem S1024x1024 .bf16)
    (h4 : a4.IsWhole) (a5 : Memref sig .tc .vmem S1408x1024 .bf16) (h5 : a5.IsWhole) (a6 : Memref sig .tc .vmem S1408x1024 .f32)
    (h6 : a6.IsWhole) (hc0 : cond0_0 i) (hc1 : ¬cond0_1 i) (x : Vec Ideal S1024x1408 .bf16) (w : Vec Ideal S1024x1024 .bf16) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz, View.ld_unit_zero (S := S1024x1024) hz]

theorem next (a3 : Memref sig .tc .vmem S1024x1408 .bf16) (h3 : a3.IsWhole) (a4 : Memref sig .tc .vmem S1024x1024 .bf16)
    (h4 : a4.IsWhole) (a5 : Memref sig .tc .vmem S1408x1024 .bf16) (h5 : a5.IsWhole) (a6 : Memref sig .tc .vmem S1408x1024 .f32)
    (h6 : a6.IsWhole) (hc0 : ¬cond0_0 i) (hc1 : ¬cond0_1 i) (x : Vec Ideal S1024x1408 .bf16) (w : Vec Ideal S1024x1024 .bf16)
    (s : Vec Ideal S1408x1024 .f32) :
    sout0_B_0 c i a3 h3 a4 h4 a5 h5 a6 h6 hc0 hc1 x w s = k0_pay2 s x w := by
  unfold sout0_B_0
  rw [View.read_writes_eq_canon _ _ _ (scover0_B_0 c i a3 h3 a4 h4 a5 h5 a6 h6 hc0 hc1 x w s)]
  unfold kernelRun0_B
  dsimp only
  rw [View.canon_unit_zero (S := S1408x1024) hz]
  simp only [View.readAt_eq_ld, h3.read_unread, h4.read_unread, h6.read_unread, View.ld_unit_zero (S := S1408x1024) hz,
    View.ld_unit_zero (S := S1024x1408) hz, View.ld_unit_zero (S := S1024x1024) hz]

theorem last (a3 : Memref sig .tc .vmem S1024x1408 .bf16) (h3 : a3.IsWhole) (a4 : Memref sig .tc .vmem S1024x1024 .bf16)
    (h4 : a4.IsWhole) (a5 : Memref sig .tc .vmem S1408x1024 .bf16) (h5 : a5.IsWhole) (a6 : Memref sig .tc .vmem S1408x1024 .f32)
    (h6 : a6.IsWhole) (hc0 : ¬cond0_0 i) (hc1 : cond0_1 i) (x : Vec Ideal S1024x1408 .bf16) (w : Vec Ideal S1024x1024 .bf16)
    (s : Vec Ideal S1408x1024 .f32) :
    out0_C_2 c i a3 h3 a4 h4 a5 h5 a6 h6 hc0 hc1 x w s = k0_pay3 (k0_pay2 s x w) := by
  unfold out0_C_2
  rw [View.read_writes_eq_canon _ _ _ (cover0_C_2 c i a3 h3 a4 h4 a5 h5 a6 h6 hc0 hc1 x w s)]
  unfold kernelRun0_C
  dsimp only
  rw [View.canon_unit_zero (S := S1408x1024) hz]
  sl_unfold_words
  rw [View.readCov_unit_zero (S := S1408x1024) _ hz]
  simp only [View.readAt_eq_ld, h3.read_unread, h4.read_unread, h6.read_unread, View.ld_unit_zero (S := S1408x1024) hz,
    View.ld_unit_zero (S := S1024x1408) hz, View.ld_unit_zero (S := S1024x1024) hz]

end Body

theorem pay (s : Vec Ideal S1408x1024 .f32) (x : Vec Ideal S1024x1408 .bf16) (w : Vec Ideal S1024x1024 .bf16) (r : Fin 1408) (q : Fin 1024) :
    k0_pay2 s x w (ix2 r q) = s (ix2 r q) + ∑ k : Fin 1024, x (ix2 k r) * w (ix2 k q) := by
  pointwise [k0_pay2]

/-- The products start from nought. -/
theorem pay0 (x : Vec Ideal S1024x1408 .bf16) (w : Vec Ideal S1024x1024 .bf16) (r : Fin 1408) (q : Fin 1024) :
    (k0_pay2 k0_pay1 x w (ix2 r q) : EReal) = ∑ k : Fin 1024, x (ix2 k r) * w (ix2 k q) := by
  pointwise [k0_pay2, k0_pay1]

/-- The rounding of the written block, at extended reals. -/
theorem pay3 (s : Vec Ideal S1408x1024 .f32) (i : S1408x1024.Idx) : (k0_pay3 s i : EReal) = s i := rfl

variable (m : (ℓ : Loc nD τ sig) → Buf (Elt Ideal) ℓ) (ρ : Dev nD → PrngReg)

theorem at0 : ∀ t : Fin cfg0.N, win0_0.index t (0 : Fin 2) = t.val % 4 ∧ win0_0.index t (1 : Fin 2) = t.val / 4 :=
  (by decide +kernel : ∀ t : Fin grid0.N, _)
theorem at1 : ∀ t : Fin cfg0.N, win0_1.index t (0 : Fin 2) = t.val % 4 ∧ win0_1.index t (1 : Fin 2) = 0 :=
  (by decide +kernel : ∀ t : Fin grid0.N, _)

abbrev lhs (c : Dev nD) : (⟨2, ![4096, 5632]⟩ : Shape).Idx → EReal := m ((c : Thread nD τ).loc main_arg0)
abbrev arg (c : Dev nD) : (⟨2, ![4096, 1024]⟩ : Shape).Idx → EReal := m ((c : Thread nD τ).loc main_arg1)

theorem x_at (c : Dev nD) (t : Fin cfg0.N) (k : Fin 1024) (r : Fin 1408) :
    (iblk m c 0 t (ix2 k r) : EReal) = Mm.ent (lhs m c) (1024 * (t.val % 4) + k.val) (1408 * (t.val / 4) + r.val) := by
  unfold iblk
  rw [View.read_apply]
  show V m c main_arg0 _ = _
  rw [V_main_arg0]
  exact Mm.ent_emb (lhs m c) ((cfg0.win 0).blk t).view.emb _ _ (fun j => congrArg (· * 1024 + 1 * (j 0).val) (at0 t).1)
    (fun j => congrArg (· * 1408 + 1 * (j 1).val) (at0 t).2) k r

theorem w_at (c : Dev nD) (t : Fin cfg0.N) (k : Fin 1024) (q : Fin 1024) :
    (iblk m c 1 t (ix2 k q) : EReal) = Mm.ent (arg m c) (1024 * (t.val % 4) + k.val) (1024 * 0 + q.val) := by
  unfold iblk
  rw [View.read_apply]
  show V m c main_arg1 _ = _
  rw [V_main_arg1]
  exact Mm.ent_emb (arg m c) ((cfg0.win 1).blk t).view.emb _ _ (fun j => congrArg (· * 1024 + 1 * (j 0).val) (at1 t).1)
    (fun j => congrArg (· * 1024 + 1 * (j 1).val) (at1 t).2) k q

/-- The product at place `k` of a column of the one array and a column of the other, at place `(r, q)` of block `b`. -/
abbrev term (c : Dev nD) (r q b k : ℕ) : EReal := Mm.ent (lhs m c) k (1408 * b + r) * Mm.ent (arg m c) k (1024 * 0 + q)

theorem part (c : Dev nD) (t : Fin cfg0.N) (r : Fin 1408) (q : Fin 1024) :
    (∑ k : Fin 1024, @HMul.hMul EReal EReal EReal _ (iblk m c 0 t (ix2 k r)) (iblk m c 1 t (ix2 k q)))
      = ∑ k : Fin 1024, term m c r.val q.val (t.val / 4) (1024 * (t.val % 4) + k.val) :=
  Finset.sum_congr rfl fun k _ => by rw [x_at, w_at]

/-- What a run's last point gives out. -/
theorem block (c : Dev nD) (b t : ℕ) (ht : t < cfg0.N) (h : t = 4 * b + 3) (r : Fin 1408) (q : Fin 1024) :
    ((outsAt0 m c t ht).1 (ix2 r q) : EReal) = ∑ k : Fin 4096, term m c r.val q.val b k.val := by
  refine Mm.blocked 4 1024 4096 (by decide) rfl (term m c r.val q.val) (fun t ht => (outsAt0 m c t ht).2 (ix2 r q))
    (fun t ht => (outsAt0 m c t ht).1 (ix2 r q)) (fun t ht h0 => ?_) (fun t ht h0 h1 => ?_) (fun t ht h1 => ?_) b t ht h
  · rw [outsAt0_A m c ⟨t, ht⟩ h0 (by dsimp only; omega)]
    dsimp only
    rw [first, pay0]
    exact part m c ⟨t, ht⟩ r q
  · rw [outsAt0_B m c ⟨t, ht⟩ h0 h1]
    dsimp only
    rw [next, pay]
    exact congrArg _ (part m c ⟨t, ht⟩ r q)
  · rw [outsAt0_C m c ⟨t, ht⟩ (by dsimp only; omega) h1]
    dsimp only
    rw [last, pay3, pay]
    exact congrArg _ (part m c ⟨t, ht⟩ r q)

/-- The kernel's array: every entry the sum over the whole contracted axis. -/
theorem value (c : Dev nD) (R : Fin 5632) (C : Fin 1024) :
    (Value.G2 m c (ix2 R C) : EReal) = ∑ k : Fin 4096, Mm.ent (lhs m c) k.val R.val * Mm.ent (arg m c) k.val C.val := by
  have hp : Value.pt2Of (ix2 R C) = 4 * (R.val / 1408) + 3 := by
    show 4 * (1 * (R.val / 1408 - 0) + 1 * (C.val / 1024 - 0)) + 3 = _; omega
  have hlt : Value.pt2Of (ix2 R C) < cfg0.N := by rw [hp, show cfg0.N = 16 from N_0]; omega
  have hl : Value.loc2Of (ix2 R C) = ix2 (⟨R.val % 1408, Nat.mod_lt _ (by decide)⟩ : Fin 1408) (⟨C.val % 1024, Nat.mod_lt _ (by decide)⟩ : Fin 1024) := by
    funext a; fin_cases a <;> rfl
  refine (dif_pos hlt).trans ?_
  rw [← Value.outsAt0_sweep m c _ hlt, hl, block m c _ _ hlt hp]
  unfold term
  dsimp only
  rw [show 1408 * (R.val / 1408) + R.val % 1408 = R.val by omega, show 1024 * 0 + C.val % 1024 = C.val by omega]

/-- The kernel's array is the reference's. -/
theorem algebraic : algebraic_UpDwIdeal_UpDwRefIdeal (hUpDwIdeal := Cert.UpDwIdeal.Gen.facts)
    (hUpDwRefIdeal := Cert.UpDwRefIdeal.Gen.facts) := fun m g m' g' _ ha => by
  refine ⟨_, Value.run m g, (θ_run Cert.UpDwRefIdeal.defs _ _).mono (fun r h c => ⟨(h c).1.trans ?_, (h c).2⟩)
    (Cert.UpDwRefIdeal.Value.run m' g')⟩
  rw [(ha c).1, (ha c).2]
  funext i
  rw [eq_ix2 i]
  refine Eq.trans ?_ (value m c (i 0) (i 1)).symm
  pointwise
  exact Finset.sum_congr rfl fun k _ => congrArg₂ (· * ·)
    (Mm.ent_of (lhs m c) k.isLt (i 0).isLt).symm (Mm.ent_of (arg m c) k.isLt (i 1).isLt).symm

/-- The reference leaves its arguments and no semaphore raised. -/
theorem reference : quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run m ρ)

end Cert.UpDwIdeal.Prod

end
-- ==== Proof.Mm.Down.lean ====
module

public import Idealize.ShloMosaic.Lib.Quiescent
public import proofs.«01_k».proof.Defs
public import proofs.«01_k».proof.Proof.Mm.Sums
public import proofs.«01_k».proof.Proof.Gen.DownIdeal.Value
public import proofs.«01_k».proof.Proof.Gen.DownRefIdeal.Run

@[expose] public section

set_option maxRecDepth 16384

noncomputable section

namespace Cert.DownIdeal.Prod

open Cert.DownIdeal Cert.DownIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem first (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (a7 : Memref sig .tc .vmem S2048x512 .f32) (h7 : a7.IsWhole) (hc0 : cond0_0 i) (hc1 : ¬cond0_1 i) (x : Vec Ideal S2048x1408 .bf16) (w : Vec Ideal S1408x512 .bf16)
    (d : Vec Ideal S2048x512 .f32) :
    sout0_A_0 c i a3 h3 a4 h4 a5 h5 a6 h6 a7 h7 hc0 hc1 x w d = k0_pay2 k0_pay1 x w := by
  unfold sout0_A_0
  rw [View.read_writes_eq_canon _ _ _ (scover0_A_0 c i a3 h3 a4 h4 a5 h5 a6 h6 a7 h7 hc0 hc1 x w d)]
  unfold kernelRun0_A
  dsimp only
  sl_unfold_words
  rw [View.canon_cons_unit_zero (S := S2048x512) hz, View.readCov_unit_zero (S := S2048x512) _ hz]
  simp only [View.readAt_eq_ld, h3.read_unread, h4.read_unread, View.ld_unit_zero (S := S2048x1408) hz, View.ld_unit_zero (S := S1408x512) hz]

theorem last (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (a7 : Memref sig .tc .vmem S2048x512 .f32) (h7 : a7.IsWhole) (hc0 : ¬cond0_0 i) (hc1 : cond0_1 i) (x : Vec Ideal S2048x1408 .bf16) (w : Vec Ideal S1408x512 .bf16)
    (d : Vec Ideal S2048x512 .f32)
    (s : Vec Ideal S2048x512 .f32) :
    out0_B_3 c i a3 h3 a4 h4 a5 h5 a6 h6 a7 h7 hc0 hc1 x w d s = k0_pay3 (k0_pay2 s x w) d := by
  unfold out0_B_3
  rw [View.read_writes_eq_canon _ _ _ (cover0_B_3 c i a3 h3 a4 h4 a5 h5 a6 h6 a7 h7 hc0 hc1 x w d s)]
  unfold kernelRun0_B
  dsimp only
  rw [View.canon_unit_zero (S := S2048x512) hz]
  sl_unfold_words
  rw [View.readCov_unit_zero (S := S2048x512) _ hz]
  simp only [View.readAt_eq_ld, h3.read_unread, h4.read_unread, h5.read_unread, h7.read_unread, View.ld_unit_zero (S := S2048x512) hz,
    View.ld_unit_zero (S := S2048x1408) hz, View.ld_unit_zero (S := S1408x512) hz]

end Body

theorem pay (s : Vec Ideal S2048x512 .f32) (x : Vec Ideal S2048x1408 .bf16) (w : Vec Ideal S1408x512 .bf16) (r : Fin 2048) (q : Fin 512) :
    k0_pay2 s x w (ix2 r q) = s (ix2 r q) + ∑ k : Fin 1408, x (ix2 r k) * w (ix2 k q) := by
  pointwise [k0_pay2]

/-- The products start from nought. -/
theorem pay0 (x : Vec Ideal S2048x1408 .bf16) (w : Vec Ideal S1408x512 .bf16) (r : Fin 2048) (q : Fin 512) :
    (k0_pay2 k0_pay1 x w (ix2 r q) : EReal) = ∑ k : Fin 1408, x (ix2 r k) * w (ix2 k q) := by
  pointwise [k0_pay2, k0_pay1]

/-- The residual is added to the sum. -/
theorem pay3 (s d : Vec Ideal S2048x512 .f32) (r : Fin 2048) (q : Fin 512) : (k0_pay3 s d (ix2 r q) : EReal) = s (ix2 r q) + d (ix2 r q) := by
  pointwise [k0_pay3]

variable (m : (ℓ : Loc nD τ sig) → Buf (Elt Ideal) ℓ) (ρ : Dev nD → PrngReg)

theorem at0 : ∀ t : Fin cfg0.N, win0_0.index t (0 : Fin 2) = t.val / 2 / 2 ∧ win0_0.index t (1 : Fin 2) = t.val % 2 :=
  (by decide +kernel : ∀ t : Fin grid0.N, _)
theorem at1 : ∀ t : Fin cfg0.N, win0_1.index t (0 : Fin 2) = t.val % 2 ∧ win0_1.index t (1 : Fin 2) = t.val / 2 % 2 :=
  (by decide +kernel : ∀ t : Fin grid0.N, _)

theorem at2 : ∀ t : Fin cfg0.N, win0_2.index t (0 : Fin 2) = t.val / 2 / 2 ∧ win0_2.index t (1 : Fin 2) = t.val / 2 % 2 :=
  (by decide +kernel : ∀ t : Fin grid0.N, _)

abbrev lhs (c : Dev nD) : (⟨2, ![4096, 2816]⟩ : Shape).Idx → EReal := m ((c : Thread nD τ).loc main_arg0)
abbrev arg (c : Dev nD) : (⟨2, ![2816, 1024]⟩ : Shape).Idx → EReal := m ((c : Thread nD τ).loc main_arg1)
abbrev res (c : Dev nD) : (⟨2, ![4096, 1024]⟩ : Shape).Idx → EReal := m ((c : Thread nD τ).loc main_arg2)

theorem V_rhs (c : Dev nD) : (V m c main_v0 : S2816x1024.Idx → EReal) = arg m c := by
  unfold_abbrev_sides
  after_results
  funext i
  rw [eq_ix2 i]
  pointwise

theorem x_at (c : Dev nD) (t : Fin cfg0.N) (r : Fin 2048) (k : Fin 1408) :
    (iblk m c 0 t (ix2 r k) : EReal) = Mm.ent (lhs m c) (2048 * (t.val / 2 / 2) + r.val) (1408 * (t.val % 2) + k.val) := by
  unfold iblk
  rw [View.read_apply]
  show V m c main_arg0 _ = _
  rw [V_main_arg0]
  exact Mm.ent_emb (lhs m c) ((cfg0.win 0).blk t).view.emb _ _ (fun j => congrArg (· * 2048 + 1 * (j 0).val) (at0 t).1)
    (fun j => congrArg (· * 1408 + 1 * (j 1).val) (at0 t).2) r k

theorem w_at (c : Dev nD) (t : Fin cfg0.N) (k : Fin 1408) (q : Fin 512) :
    (iblk m c 1 t (ix2 k q) : EReal) = Mm.ent (arg m c) (1408 * (t.val % 2) + k.val) (512 * (t.val / 2 % 2) + q.val) := by
  unfold iblk
  rw [View.read_apply]
  show V m c main_v0 _ = _
  rw [V_rhs]
  exact Mm.ent_emb (arg m c) ((cfg0.win 1).blk t).view.emb _ _ (fun j => congrArg (· * 1408 + 1 * (j 0).val) (at1 t).1)
    (fun j => congrArg (· * 512 + 1 * (j 1).val) (at1 t).2) k q

theorem d_at (c : Dev nD) (t : Fin cfg0.N) (r : Fin 2048) (q : Fin 512) :
    (iblk m c 2 t (ix2 r q) : EReal) = Mm.ent (res m c) (2048 * (t.val / 2 / 2) + r.val) (512 * (t.val / 2 % 2) + q.val) := by
  unfold iblk
  rw [View.read_apply]
  show V m c main_arg2 _ = _
  rw [V_main_arg2]
  exact Mm.ent_emb (res m c) ((cfg0.win 2).blk t).view.emb _ _ (fun j => congrArg (· * 2048 + 1 * (j 0).val) (at2 t).1)
    (fun j => congrArg (· * 512 + 1 * (j 1).val) (at2 t).2) r q

/-- The product at place `k` of a row of the one array and a column of the other, at place `(r, q)` of block `b`. -/
abbrev term (c : Dev nD) (r q b k : ℕ) : EReal := Mm.ent (lhs m c) (2048 * (b / 2) + r) k * Mm.ent (arg m c) k (512 * (b % 2) + q)

theorem part (c : Dev nD) (t : Fin cfg0.N) (r : Fin 2048) (q : Fin 512) :
    (∑ k : Fin 1408, @HMul.hMul EReal EReal EReal _ (iblk m c 0 t (ix2 r k)) (iblk m c 1 t (ix2 k q)))
      = ∑ k : Fin 1408, term m c r.val q.val (t.val / 2) (1408 * (t.val % 2) + k.val) :=
  Finset.sum_congr rfl fun k _ => by rw [x_at, w_at]

/-- What a run's last point adds to what the points before it left: the sum over the axis. -/
theorem total (c : Dev nD) (b t : ℕ) (ht : t < cfg0.N) (h : t = 2 * b + 1) (r : Fin 2048) (q : Fin 512) :
    ((outsAt0 m c (t - 1) (by omega)).2 (ix2 r q) : EReal) + ∑ k : Fin 1408, term m c r.val q.val (t / 2) (1408 * (t % 2) + k.val)
      = ∑ k : Fin 2816, term m c r.val q.val b k.val := by
  refine Mm.blocked 2 1408 2816 (by decide) rfl (term m c r.val q.val) (fun t ht => (outsAt0 m c t ht).2 (ix2 r q))
    (fun t ht => ((outsAt0 m c (t - 1) (by omega)).2 (ix2 r q) : EReal) + ∑ k : Fin 1408, term m c r.val q.val (t / 2) (1408 * (t % 2) + k.val))
    (fun t ht h0 => ?_) (fun t ht h0 h1 => ?_) (fun t ht h1 => rfl) b t ht h
  · rw [outsAt0_A m c ⟨t, ht⟩ h0 (by dsimp only; omega)]
    dsimp only
    rw [first, pay0]
    exact part m c ⟨t, ht⟩ r q
  · exact absurd (show t % 2 = 1 by omega) h1

/-- What a run's last point gives out. -/
theorem block (c : Dev nD) (b t : ℕ) (ht : t < cfg0.N) (h : t = 2 * b + 1) (r : Fin 2048) (q : Fin 512) :
    ((outsAt0 m c t ht).1 (ix2 r q) : EReal)
      = (∑ k : Fin 2816, term m c r.val q.val b k.val) + Mm.ent (res m c) (2048 * (b / 2) + r.val) (512 * (b % 2) + q.val) := by
  rw [← total m c b t ht h r q, outsAt0_B m c ⟨t, ht⟩ (by dsimp only; omega) (by dsimp only; omega)]
  dsimp only
  rw [last, pay3, pay]
  refine congrArg₂ (· + ·) (congrArg _ (part m c ⟨t, ht⟩ r q)) ((d_at m c ⟨t, ht⟩ r q).trans ?_)
  rw [show (⟨t, ht⟩ : Fin cfg0.N).val / 2 = b by dsimp only; omega]

/-- The kernel's array: every entry the sum over the whole contracted axis and the residual. -/
theorem value (c : Dev nD) (R : Fin 4096) (C : Fin 1024) :
    (Value.G3 m c (ix2 R C) : EReal)
      = (∑ k : Fin 2816, Mm.ent (lhs m c) R.val k.val * Mm.ent (arg m c) k.val C.val) + Mm.ent (res m c) R.val C.val := by
  have hp : Value.pt3Of (ix2 R C) = 2 * (2 * (R.val / 2048) + C.val / 512) + 1 := by
    show 2 * (2 * (R.val / 2048 - 0) + 1 * (C.val / 512 - 0)) + 1 = _; omega
  have hlt : Value.pt3Of (ix2 R C) < cfg0.N := by rw [hp, show cfg0.N = 8 from N_0]; omega
  have hl : Value.loc3Of (ix2 R C) = ix2 (⟨R.val % 2048, Nat.mod_lt _ (by decide)⟩ : Fin 2048) (⟨C.val % 512, Nat.mod_lt _ (by decide)⟩ : Fin 512) := by
    funext a; fin_cases a <;> rfl
  refine (dif_pos hlt).trans ?_
  rw [← Value.outsAt0_sweep m c _ hlt, hl, block m c _ _ hlt hp]
  unfold term
  dsimp only
  rw [show 2048 * ((2 * (R.val / 2048) + C.val / 512) / 2) + R.val % 2048 = R.val by omega,
    show 512 * ((2 * (R.val / 2048) + C.val / 512) % 2) + C.val % 512 = C.val by omega]

/-- The kernel's array is the reference's. -/
theorem algebraic : algebraic_DownIdeal_DownRefIdeal (hDownIdeal := Cert.DownIdeal.Gen.facts)
    (hDownRefIdeal := Cert.DownRefIdeal.Gen.facts) := fun m g m' g' _ ha => by
  refine ⟨_, Value.run m g, (θ_run Cert.DownRefIdeal.defs _ _).mono (fun r h c => ⟨(h c).1.trans ?_, (h c).2⟩)
    (Cert.DownRefIdeal.Value.run m' g')⟩
  rw [(ha c).1, (ha c).2.1, (ha c).2.2]
  funext i
  rw [eq_ix2 i]
  refine Eq.trans ?_ (value m c (i 0) (i 1)).symm
  pointwise
  refine (add_comm _ _).trans (congrArg₂ (· + ·) (Finset.sum_congr rfl fun k _ => congrArg₂ (· * ·) ?_ ?_) ?_)
  · exact (Mm.ent_of (lhs m c) (i 0).isLt k.isLt).symm
  · exact (Mm.ent_of (arg m c) k.isLt (i 1).isLt).symm
  · exact (congrArg (res m c) (eq_ix2 i)).trans (Mm.ent_of (res m c) (i 0).isLt (i 1).isLt).symm

/-- The reference leaves its arguments and no semaphore raised. -/
theorem reference : quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run m ρ)

end Cert.DownIdeal.Prod

end
-- ==== Proof.Mm.DownDx.lean ====
module

public import Idealize.ShloMosaic.Lib.VecWindow
public import Idealize.ShloMosaic.Lib.Quiescent
public import proofs.«01_k».proof.Defs
public import proofs.«01_k».proof.Proof.Mm.Sums
public import proofs.«01_k».proof.Proof.Gen.DownDxIdeal.Value
public import proofs.«01_k».proof.Proof.Gen.DownDxRefIdeal.Run

@[expose] public section

set_option maxRecDepth 16384

noncomputable section

namespace Cert.DownDxIdeal.Prod

open Cert.DownDxIdeal Cert.DownDxIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem only (a3 : Memref sig .tc .vmem S1024x1024 .bf16) (h3 : a3.IsWhole) (a4 : Memref sig .tc .vmem S1408x1024 .bf16)
    (h4 : a4.IsWhole) (a5 : Memref sig .tc .vmem S1024x1408 .f32) (h5 : a5.IsWhole) (a6 : Memref sig .tc .vmem S1024x1408 .f32)
    (h6 : a6.IsWhole) (hc0 : cond0_0 i) (hc1 : cond0_1 i) (x : Vec Ideal S1024x1024 .bf16) (w : Vec Ideal S1408x1024 .bf16) :
    out0_A_2 c i a3 h3 a4 h4 a5 h5 a6 h6 hc0 hc1 x w = k0_pay2 k0_pay1 x w := by
  unfold out0_A_2
  rw [View.read_writes_eq_canon _ _ _ (cover0_A_2 c i a3 h3 a4 h4 a5 h5 a6 h6 hc0 hc1 x w)]
  unfold kernelRun0_A
  dsimp only
  rw [View.canon_unit_zero (S := S1024x1408) hz]
  sl_unfold_words
  rw [View.readCov_unit_zero (S := S1024x1408) _ hz, View.readCov_full]
  simp only [View.readAt_eq_ld, h3.read_unread, h4.read_unread, View.ld_unit_zero (S := S1024x1024) hz, View.ld_unit_zero (S := S1408x1024) hz]

end Body

/-- The products start from nought. -/
theorem pay0 (x : Vec Ideal S1024x1024 .bf16) (w : Vec Ideal S1408x1024 .bf16) (r : Fin 1024) (q : Fin 1408) :
    (k0_pay2 k0_pay1 x w (ix2 r q) : EReal) = ∑ k : Fin 1024, x (ix2 r k) * w (ix2 q k) := by
  pointwise [k0_pay2, k0_pay1]

variable (m : (ℓ : Loc nD τ sig) → Buf (Elt Ideal) ℓ) (ρ : Dev nD → PrngReg)

theorem at0 : ∀ t : Fin cfg0.N, win0_0.index t (0 : Fin 2) = t.val / 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val / 2 ∧ win0_2.index t (1 : Fin 2) = t.val % 2 :=
  (by decide +kernel : ∀ t : Fin grid0.N, _)
theorem flush : ∀ t : Fin cfg0.N, (cfg0.win 2).flush t = true :=
  (by decide +kernel : ∀ t : Fin grid0.N, win0_2.flush t = true)

abbrev lhs (c : Dev nD) : (⟨2, ![4096, 1024]⟩ : Shape).Idx → EReal := m ((c : Thread nD τ).loc main_arg0)
abbrev arg (c : Dev nD) : (⟨2, ![2816, 1024]⟩ : Shape).Idx → EReal := m ((c : Thread nD τ).loc main_arg1)

theorem V_rhs (c : Dev nD) : (V m c main_v0 : S2816x1024.Idx → EReal) = arg m c := by
  unfold_abbrev_sides
  after_results
  funext i
  rw [eq_ix2 i]
  pointwise

theorem x_at (c : Dev nD) (t : Fin cfg0.N) (r : Fin 1024) (k : Fin 1024) :
    (iblk m c 0 t (ix2 r k) : EReal) = Mm.ent (lhs m c) (1024 * (t.val / 2) + r.val) (1024 * 0 + k.val) := by
  unfold iblk
  rw [View.read_apply]
  show V m c main_arg0 _ = _
  rw [V_main_arg0]
  exact Mm.ent_emb (lhs m c) ((cfg0.win 0).blk t).view.emb _ _ (fun j => congrArg (· * 1024 + 1 * (j 0).val) (at0 t).1)
    (fun j => congrArg (· * 1024 + 1 * (j 1).val) (at0 t).2) r k

theorem w_at (c : Dev nD) (t : Fin cfg0.N) (q : Fin 1408) (k : Fin 1024) :
    (iblk m c 1 t (ix2 q k) : EReal) = Mm.ent (arg m c) (1408 * (t.val % 2) + q.val) (1024 * 0 + k.val) := by
  unfold iblk
  rw [View.read_apply]
  show V m c main_v0 _ = _
  rw [V_rhs]
  exact Mm.ent_emb (arg m c) ((cfg0.win 1).blk t).view.emb _ _ (fun j => congrArg (· * 1408 + 1 * (j 0).val) (at1 t).1)
    (fun j => congrArg (· * 1024 + 1 * (j 1).val) (at1 t).2) q k

/-- What a point gives out. -/
theorem block (c : Dev nD) (t : Fin cfg0.N) (r : Fin 1024) (q : Fin 1408) :
    (outsAt0 m c t (ix2 r q) : EReal)
      = ∑ k : Fin 1024, Mm.ent (lhs m c) (1024 * (t.val / 2) + r.val) k.val * Mm.ent (arg m c) (1408 * (t.val % 2) + q.val) k.val := by
  unfold outsAt0
  rw [only, pay0]
  refine Finset.sum_congr rfl fun k _ => ?_
  rw [← Nat.zero_add k.val, ← Nat.mul_zero 1024]
  exact congrArg₂ (· * ·) (x_at m c t r k) (w_at m c t q k)

/-- The kernel's array: every entry the sum over the whole contracted axis. -/
theorem value (c : Dev nD) (R : Fin 4096) (C : Fin 2816) :
    ((dats m 0 c).arrAt 2 cfg0.N (ix2 R C) : EReal) = ∑ k : Fin 1024, Mm.ent (lhs m c) R.val k.val * Mm.ent (arg m c) C.val k.val := by
  obtain ⟨t, ht⟩ : ∃ t : Fin cfg0.N, t.val = 2 * (R.val / 1024) + C.val / 1408 :=
    ⟨⟨2 * (R.val / 1024) + C.val / 1408, by rw [show cfg0.N = 8 from N_0]; omega⟩, rfl⟩
  have h := congrFun (Value.blocks2 m c t (flush t))
    (ix2 (⟨R.val % 1024, Nat.mod_lt _ (by decide)⟩ : Fin 1024) (⟨C.val % 1408, Nat.mod_lt _ (by decide)⟩ : Fin 1408))
  rw [View.read_apply, Value.flushed2] at h
  have e : ((cfg0.win 2).blk t).view.emb (ix2 (⟨R.val % 1024, Nat.mod_lt _ (by decide)⟩ : Fin 1024) (⟨C.val % 1408, Nat.mod_lt _ (by decide)⟩ : Fin 1408))
      = ix2 R C := by
    funext a; apply Fin.ext
    fin_cases a
    · show win0_2.index t (0 : Fin 2) * 1024 + 1 * (R.val % 1024) = R.val; rw [(at2 t).1]; omega
    · show win0_2.index t (1 : Fin 2) * 1408 + 1 * (C.val % 1408) = C.val; rw [(at2 t).2]; omega
  rw [e] at h
  refine h.trans ((block m c t _ _).trans ?_)
  rw [show 1024 * (t.val / 2) + R.val % 1024 = R.val by omega, show 1408 * (t.val % 2) + C.val % 1408 = C.val by omega]

/-- The kernel's array is the reference's. -/
theorem algebraic : algebraic_DownDxIdeal_DownDxRefIdeal (hDownDxIdeal := Cert.DownDxIdeal.Gen.facts)
    (hDownDxRefIdeal := Cert.DownDxRefIdeal.Gen.facts) := fun m g m' g' _ ha => by
  refine ⟨_, Value.run_blocks m g, (θ_run Cert.DownDxRefIdeal.defs _ _).mono (fun r h c => ⟨(h c).1.trans ?_, (h c).2⟩)
    (Cert.DownDxRefIdeal.Value.run m' g')⟩
  rw [(ha c).1, (ha c).2]
  funext i
  rw [eq_ix2 i]
  refine Eq.trans ?_ (value m c (i 0) (i 1)).symm
  pointwise
  exact Finset.sum_congr rfl fun k _ => congrArg₂ (· * ·)
    (Mm.ent_of (lhs m c) (i 0).isLt k.isLt).symm (Mm.ent_of (arg m c) (i 1).isLt k.isLt).symm

/-- The reference leaves its arguments and no semaphore raised. -/
theorem reference : quiescent_DownDxRefIdeal (hDownDxRefIdeal := Cert.DownDxRefIdeal.Gen.facts) := fun m ρ _ =>
  (θ_run Cert.DownDxRefIdeal.defs _ _).mono (fun r h => ⟨fun c => (h c).2, sem_eq_zero_of_no_sems (by decide) r.2⟩)
    (Cert.DownDxRefIdeal.Value.run m ρ)

end Cert.DownDxIdeal.Prod

end
-- ==== Proof.Mm.DownDw.lean ====
module

public import Idealize.ShloMosaic.Lib.Quiescent
public import proofs.«01_k».proof.Defs
public import proofs.«01_k».proof.Proof.Mm.Sums
public import proofs.«01_k».proof.Proof.Gen.DownDwIdeal.Value
public import proofs.«01_k».proof.Proof.Gen.DownDwRefIdeal.Run

@[expose] public section

set_option maxRecDepth 16384

noncomputable section

namespace Cert.DownDwIdeal.Prod

open Cert.DownDwIdeal Cert.DownDwIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem first (a3 : Memref sig .tc .vmem S1024x1408 .bf16) (h3 : a3.IsWhole) (a4 : Memref sig .tc .vmem S1024x1024 .bf16)
    (h4 : a4.IsWhole) (a5 : Memref sig .tc .vmem S1408x1024 .bf16) (h5 : a5.IsWhole) (a6 : Memref sig .tc .vmem S1408x1024 .f32)
    (h6 : a6.IsWhole) (hc0 : cond0_0 i) (hc1 : ¬cond0_1 i) (x : Vec Ideal S1024x1408 .bf16) (w : Vec Ideal S1024x1024 .bf16) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz, View.ld_unit_zero (S := S1024x1024) hz]

theorem next (a3 : Memref sig .tc .vmem S1024x1408 .bf16) (h3 : a3.IsWhole) (a4 : Memref sig .tc .vmem S1024x1024 .bf16)
    (h4 : a4.IsWhole) (a5 : Memref sig .tc .vmem S1408x1024 .bf16) (h5 : a5.IsWhole) (a6 : Memref sig .tc .vmem S1408x1024 .f32)
    (h6 : a6.IsWhole) (hc0 : ¬cond0_0 i) (hc1 : ¬cond0_1 i) (x : Vec Ideal S1024x1408 .bf16) (w : Vec Ideal S1024x1024 .bf16)
    (s : Vec Ideal S1408x1024 .f32) :
    sout0_B_0 c i a3 h3 a4 h4 a5 h5 a6 h6 hc0 hc1 x w s = k0_pay2 s x w := by
  unfold sout0_B_0
  rw [View.read_writes_eq_canon _ _ _ (scover0_B_0 c i a3 h3 a4 h4 a5 h5 a6 h6 hc0 hc1 x w s)]
  unfold kernelRun0_B
  dsimp only
  rw [View.canon_unit_zero (S := S1408x1024) hz]
  simp only [View.readAt_eq_ld, h3.read_unread, h4.read_unread, h6.read_unread, View.ld_unit_zero (S := S1408x1024) hz,
    View.ld_unit_zero (S := S1024x1408) hz, View.ld_unit_zero (S := S1024x1024) hz]

theorem last (a3 : Memref sig .tc .vmem S1024x1408 .bf16) (h3 : a3.IsWhole) (a4 : Memref sig .tc .vmem S1024x1024 .bf16)
    (h4 : a4.IsWhole) (a5 : Memref sig .tc .vmem S1408x1024 .bf16) (h5 : a5.IsWhole) (a6 : Memref sig .tc .vmem S1408x1024 .f32)
    (h6 : a6.IsWhole) (hc0 : ¬cond0_0 i) (hc1 : cond0_1 i) (x : Vec Ideal S1024x1408 .bf16) (w : Vec Ideal S1024x1024 .bf16)
    (s : Vec Ideal S1408x1024 .f32) :
    out0_C_2 c i a3 h3 a4 h4 a5 h5 a6 h6 hc0 hc1 x w s = k0_pay3 (k0_pay2 s x w) := by
  unfold out0_C_2
  rw [View.read_writes_eq_canon _ _ _ (cover0_C_2 c i a3 h3 a4 h4 a5 h5 a6 h6 hc0 hc1 x w s)]
  unfold kernelRun0_C
  dsimp only
  rw [View.canon_unit_zero (S := S1408x1024) hz]
  sl_unfold_words
  rw [View.readCov_unit_zero (S := S1408x1024) _ hz]
  simp only [View.readAt_eq_ld, h3.read_unread, h4.read_unread, h6.read_unread, View.ld_unit_zero (S := S1408x1024) hz,
    View.ld_unit_zero (S := S1024x1408) hz, View.ld_unit_zero (S := S1024x1024) hz]

end Body

theorem pay (s : Vec Ideal S1408x1024 .f32) (x : Vec Ideal S1024x1408 .bf16) (w : Vec Ideal S1024x1024 .bf16) (r : Fin 1408) (q : Fin 1024) :
    k0_pay2 s x w (ix2 r q) = s (ix2 r q) + ∑ k : Fin 1024, x (ix2 k r) * w (ix2 k q) := by
  pointwise [k0_pay2]

/-- The products start from nought. -/
theorem pay0 (x : Vec Ideal S1024x1408 .bf16) (w : Vec Ideal S1024x1024 .bf16) (r : Fin 1408) (q : Fin 1024) :
    (k0_pay2 k0_pay1 x w (ix2 r q) : EReal) = ∑ k : Fin 1024, x (ix2 k r) * w (ix2 k q) := by
  pointwise [k0_pay2, k0_pay1]

/-- The rounding of the written block, at extended reals. -/
theorem pay3 (s : Vec Ideal S1408x1024 .f32) (i : S1408x1024.Idx) : (k0_pay3 s i : EReal) = s i := rfl

variable (m : (ℓ : Loc nD τ sig) → Buf (Elt Ideal) ℓ) (ρ : Dev nD → PrngReg)

theorem at0 : ∀ t : Fin cfg0.N, win0_0.index t (0 : Fin 2) = t.val % 4 ∧ win0_0.index t (1 : Fin 2) = t.val / 4 :=
  (by decide +kernel : ∀ t : Fin grid0.N, _)
theorem at1 : ∀ t : Fin cfg0.N, win0_1.index t (0 : Fin 2) = t.val % 4 ∧ win0_1.index t (1 : Fin 2) = 0 :=
  (by decide +kernel : ∀ t : Fin grid0.N, _)

abbrev lhs (c : Dev nD) : (⟨2, ![4096, 2816]⟩ : Shape).Idx → EReal := m ((c : Thread nD τ).loc main_arg0)
abbrev arg (c : Dev nD) : (⟨2, ![4096, 1024]⟩ : Shape).Idx → EReal := m ((c : Thread nD τ).loc main_arg1)

theorem x_at (c : Dev nD) (t : Fin cfg0.N) (k : Fin 1024) (r : Fin 1408) :
    (iblk m c 0 t (ix2 k r) : EReal) = Mm.ent (lhs m c) (1024 * (t.val % 4) + k.val) (1408 * (t.val / 4) + r.val) := by
  unfold iblk
  rw [View.read_apply]
  show V m c main_arg0 _ = _
  rw [V_main_arg0]
  exact Mm.ent_emb (lhs m c) ((cfg0.win 0).blk t).view.emb _ _ (fun j => congrArg (· * 1024 + 1 * (j 0).val) (at0 t).1)
    (fun j => congrArg (· * 1408 + 1 * (j 1).val) (at0 t).2) k r

theorem w_at (c : Dev nD) (t : Fin cfg0.N) (k : Fin 1024) (q : Fin 1024) :
    (iblk m c 1 t (ix2 k q) : EReal) = Mm.ent (arg m c) (1024 * (t.val % 4) + k.val) (1024 * 0 + q.val) := by
  unfold iblk
  rw [View.read_apply]
  show V m c main_arg1 _ = _
  rw [V_main_arg1]
  exact Mm.ent_emb (arg m c) ((cfg0.win 1).blk t).view.emb _ _ (fun j => congrArg (· * 1024 + 1 * (j 0).val) (at1 t).1)
    (fun j => congrArg (· * 1024 + 1 * (j 1).val) (at1 t).2) k q

/-- The product at place `k` of a column of the one array and a column of the other, at place `(r, q)` of block `b`. -/
abbrev term (c : Dev nD) (r q b k : ℕ) : EReal := Mm.ent (lhs m c) k (1408 * b + r) * Mm.ent (arg m c) k (1024 * 0 + q)

theorem part (c : Dev nD) (t : Fin cfg0.N) (r : Fin 1408) (q : Fin 1024) :
    (∑ k : Fin 1024, @HMul.hMul EReal EReal EReal _ (iblk m c 0 t (ix2 k r)) (iblk m c 1 t (ix2 k q)))
      = ∑ k : Fin 1024, term m c r.val q.val (t.val / 4) (1024 * (t.val % 4) + k.val) :=
  Finset.sum_congr rfl fun k _ => by rw [x_at, w_at]

/-- What a run's last point gives out. -/
theorem block (c : Dev nD) (b t : ℕ) (ht : t < cfg0.N) (h : t = 4 * b + 3) (r : Fin 1408) (q : Fin 1024) :
    ((outsAt0 m c t ht).1 (ix2 r q) : EReal) = ∑ k : Fin 4096, term m c r.val q.val b k.val := by
  refine Mm.blocked 4 1024 4096 (by decide) rfl (term m c r.val q.val) (fun t ht => (outsAt0 m c t ht).2 (ix2 r q))
    (fun t ht => (outsAt0 m c t ht).1 (ix2 r q)) (fun t ht h0 => ?_) (fun t ht h0 h1 => ?_) (fun t ht h1 => ?_) b t ht h
  · rw [outsAt0_A m c ⟨t, ht⟩ h0 (by dsimp only; omega)]
    dsimp only
    rw [first, pay0]
    exact part m c ⟨t, ht⟩ r q
  · rw [outsAt0_B m c ⟨t, ht⟩ h0 h1]
    dsimp only
    rw [next, pay]
    exact congrArg _ (part m c ⟨t, ht⟩ r q)
  · rw [outsAt0_C m c ⟨t, ht⟩ (by dsimp only; omega) h1]
    dsimp only
    rw [last, pay3, pay]
    exact congrArg _ (part m c ⟨t, ht⟩ r q)

/-- The kernel's array: every entry the sum over the whole contracted axis. -/
theorem value (c : Dev nD) (R : Fin 2816) (C : Fin 1024) :
    (Value.G2 m c (ix2 R C) : EReal) = ∑ k : Fin 4096, Mm.ent (lhs m c) k.val R.val * Mm.ent (arg m c) k.val C.val := by
  have hp : Value.pt2Of (ix2 R C) = 4 * (R.val / 1408) + 3 := by
    show 4 * (1 * (R.val / 1408 - 0) + 1 * (C.val / 1024 - 0)) + 3 = _; omega
  have hlt : Value.pt2Of (ix2 R C) < cfg0.N := by rw [hp, show cfg0.N = 8 from N_0]; omega
  have hl : Value.loc2Of (ix2 R C) = ix2 (⟨R.val % 1408, Nat.mod_lt _ (by decide)⟩ : Fin 1408) (⟨C.val % 1024, Nat.mod_lt _ (by decide)⟩ : Fin 1024) := by
    funext a; fin_cases a <;> rfl
  refine (dif_pos hlt).trans ?_
  rw [← Value.outsAt0_sweep m c _ hlt, hl, block m c _ _ hlt hp]
  unfold term
  dsimp only
  rw [show 1408 * (R.val / 1408) + R.val % 1408 = R.val by omega, show 1024 * 0 + C.val % 1024 = C.val by omega]

/-- The kernel's array is the reference's. -/
theorem algebraic : algebraic_DownDwIdeal_DownDwRefIdeal (hDownDwIdeal := Cert.DownDwIdeal.Gen.facts)
    (hDownDwRefIdeal := Cert.DownDwRefIdeal.Gen.facts) := fun m g m' g' _ ha => by
  refine ⟨_, Value.run m g, (θ_run Cert.DownDwRefIdeal.defs _ _).mono (fun r h c => ⟨(h c).1.trans ?_, (h c).2⟩)
    (Cert.DownDwRefIdeal.Value.run m' g')⟩
  rw [(ha c).1, (ha c).2]
  funext i
  rw [eq_ix2 i]
  refine Eq.trans ?_ (value m c (i 0) (i 1)).symm
  pointwise
  exact Finset.sum_congr rfl fun k _ => (mul_comm _ _).trans (congrArg₂ (· * ·)
    (Mm.ent_of (lhs m c) k.isLt (i 0).isLt).symm (Mm.ent_of (arg m c) k.isLt (i 1).isLt).symm)

/-- The reference leaves its arguments and no semaphore raised. -/
theorem reference : quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run m ρ)

end Cert.DownDwIdeal.Prod

end
-- ==== Proof.Mm.InDx.lean ====
module

public import Idealize.ShloMosaic.Lib.Quiescent
public import proofs.«01_k».proof.Defs
public import proofs.«01_k».proof.Proof.Mm.Sums
public import proofs.«01_k».proof.Proof.Gen.InDxIdeal.Value
public import proofs.«01_k».proof.Proof.Gen.InDxRefIdeal.Run

@[expose] public section

set_option maxRecDepth 16384

noncomputable section

namespace Cert.InDxIdeal.Prod

open Cert.InDxIdeal Cert.InDxIdeal.Gen Idealize.ShloMosaic Idealize.ShloMosaic.TcCoe Idealize.SL.Sem

theorem hz : (![0, 0] : Fin 2 → Nat) = fun _ => 0 := funext fun a => by fin_cases a <;> rfl

section Body

variable (c : Dev nD) (i : grid0.Coords)

theorem first (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (hc0 : cond0_0 i) (hc1 : ¬cond0_1 i) (x : Vec Ideal S2048x1408 .bf16) (w : Vec Ideal S1408x512 .bf16) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S2048x512) hz, View.readCov_unit_zero (S := S2048x512) _ hz]
  simp only [View.readAt_eq_ld, h3.read_unread, h4.read_unread, View.ld_unit_zero (S := S2048x1408) hz, View.ld_unit_zero (S := S1408x512) hz]

theorem last (a3 : Memref sig .tc .vmem S2048x1408 .bf16) (h3 : a3.IsWhole) (a4 : Memref sig .tc .vmem S1408x512 .bf16)
    (h4 : a4.IsWhole) (a5 : Memref sig .tc .vmem S2048x512 .f32) (h5 : a5.IsWhole) (a6 : Memref sig .tc .vmem S2048x512 .f32)
    (h6 : a6.IsWhole) (hc0 : ¬cond0_0 i) (hc1 : cond0_1 i) (x : Vec Ideal S2048x1408 .bf16) (w : Vec Ideal S1408x512 .bf16)
    (s : Vec Ideal S2048x512 .f32) :
    out0_B_2 c i a3 h3 a4 h4 a5 h5 a6 h6 hc0 hc1 x w s = k0_pay2 s x w := by
  unfold out0_B_2
  rw [View.read_writes_eq_canon _ _ _ (cover0_B_2 c i a3 h3 a4 h4 a5 h5 a6 h6 hc0 hc1 x w s)]
  unfold kernelRun0_B
  dsimp only
  rw [View.canon_unit_zero (S := S2048x512) hz]
  sl_unfold_words
  rw [View.readCov_unit_zero (S := S2048x512) _ hz]
  simp only [View.readAt_eq_ld, h3.read_unread, h4.read_unread, h6.read_unread, View.ld_unit_zero (S := S2048x512) hz,
    View.ld_unit_zero (S := S2048x1408) hz, View.ld_unit_zero (S := S1408x512) hz]

end Body

theorem pay (s : Vec Ideal S2048x512 .f32) (x : Vec Ideal S2048x1408 .bf16) (w : Vec Ideal S1408x512 .bf16) (r : Fin 2048) (q : Fin 512) :
    k0_pay2 s x w (ix2 r q) = s (ix2 r q) + ∑ k : Fin 1408, x (ix2 r k) * w (ix2 k q) := by
  pointwise [k0_pay2]

/-- The products start from nought. -/
theorem pay0 (x : Vec Ideal S2048x1408 .bf16) (w : Vec Ideal S1408x512 .bf16) (r : Fin 2048) (q : Fin 512) :
    (k0_pay2 k0_pay1 x w (ix2 r q) : EReal) = ∑ k : Fin 1408, x (ix2 r k) * w (ix2 k q) := by
  pointwise [k0_pay2, k0_pay1]

variable (m : (ℓ : Loc nD τ sig) → Buf (Elt Ideal) ℓ) (ρ : Dev nD → PrngReg)

theorem at0 : ∀ t : Fin cfg0.N, win0_0.index t (0 : Fin 2) = t.val / 2 / 2 ∧ win0_0.index t (1 : Fin 2) = t.val % 2 :=
  (by decide +kernel : ∀ t : Fin grid0.N, _)
theorem at1 : ∀ t : Fin cfg0.N, win0_1.index t (0 : Fin 2) = t.val % 2 ∧ win0_1.index t (1 : Fin 2) = t.val / 2 % 2 :=
  (by decide +kernel : ∀ t : Fin grid0.N, _)

abbrev lhs (c : Dev nD) : (⟨2, ![4096, 2816]⟩ : Shape).Idx → EReal := m ((c : Thread nD τ).loc main_arg0)
abbrev arg (c : Dev nD) : (⟨2, ![1024, 2816]⟩ : Shape).Idx → EReal := m ((c : Thread nD τ).loc main_arg1)

theorem V_rhs (c : Dev nD) : (V m c main_v1 : S2816x1024.Idx → EReal) = fun i => arg m c (ix2 (i 1) (i 0)) := by
  unfold_abbrev_sides
  after_results
  funext i
  rw [eq_ix2 i]
  pointwise

theorem x_at (c : Dev nD) (t : Fin cfg0.N) (r : Fin 2048) (k : Fin 1408) :
    (iblk m c 0 t (ix2 r k) : EReal) = Mm.ent (lhs m c) (2048 * (t.val / 2 / 2) + r.val) (1408 * (t.val % 2) + k.val) := by
  unfold iblk
  rw [View.read_apply]
  show V m c main_arg0 _ = _
  rw [V_main_arg0]
  exact Mm.ent_emb (lhs m c) ((cfg0.win 0).blk t).view.emb _ _ (fun j => congrArg (· * 2048 + 1 * (j 0).val) (at0 t).1)
    (fun j => congrArg (· * 1408 + 1 * (j 1).val) (at0 t).2) r k

theorem w_at (c : Dev nD) (t : Fin cfg0.N) (k : Fin 1408) (q : Fin 512) :
    (iblk m c 1 t (ix2 k q) : EReal) = Mm.ent (arg m c) (512 * (t.val / 2 % 2) + q.val) (1408 * (t.val % 2) + k.val) := by
  unfold iblk
  rw [View.read_apply]
  show V m c main_v1 _ = _
  rw [V_rhs, ← Mm.ent_swap (arg m c)]
  exact Mm.ent_emb (fun i : (⟨2, ![2816, 1024]⟩ : Shape).Idx => arg m c (ix2 (i 1) (i 0))) ((cfg0.win 1).blk t).view.emb _ _ (fun j => congrArg (· * 1408 + 1 * (j 0).val) (at1 t).1)
    (fun j => congrArg (· * 512 + 1 * (j 1).val) (at1 t).2) k q

/-- The product at place `k` of a row of the one array and a row of the other, at place `(r, q)` of block `b`. -/
abbrev term (c : Dev nD) (r q b k : ℕ) : EReal := Mm.ent (lhs m c) (2048 * (b / 2) + r) k * Mm.ent (arg m c) (512 * (b % 2) + q) k

theorem part (c : Dev nD) (t : Fin cfg0.N) (r : Fin 2048) (q : Fin 512) :
    (∑ k : Fin 1408, @HMul.hMul EReal EReal EReal _ (iblk m c 0 t (ix2 r k)) (iblk m c 1 t (ix2 k q)))
      = ∑ k : Fin 1408, term m c r.val q.val (t.val / 2) (1408 * (t.val % 2) + k.val) :=
  Finset.sum_congr rfl fun k _ => by rw [x_at, w_at]

/-- What a run's last point gives out. -/
theorem block (c : Dev nD) (b t : ℕ) (ht : t < cfg0.N) (h : t = 2 * b + 1) (r : Fin 2048) (q : Fin 512) :
    ((outsAt0 m c t ht).1 (ix2 r q) : EReal) = ∑ k : Fin 2816, term m c r.val q.val b k.val := by
  refine Mm.blocked 2 1408 2816 (by decide) rfl (term m c r.val q.val) (fun t ht => (outsAt0 m c t ht).2 (ix2 r q))
    (fun t ht => (outsAt0 m c t ht).1 (ix2 r q)) (fun t ht h0 => ?_) (fun t ht h0 h1 => ?_) (fun t ht h1 => ?_) b t ht h
  · rw [outsAt0_A m c ⟨t, ht⟩ h0 (by dsimp only; omega)]
    dsimp only
    rw [first, pay0]
    exact part m c ⟨t, ht⟩ r q
  · exact absurd (show t % 2 = 1 by omega) h1
  · rw [outsAt0_B m c ⟨t, ht⟩ (by dsimp only; omega) h1]
    dsimp only
    rw [last, pay]
    exact congrArg _ (part m c ⟨t, ht⟩ r q)

/-- The kernel's array: every entry the sum over the whole contracted axis. -/
theorem value (c : Dev nD) (R : Fin 4096) (C : Fin 1024) :
    (Value.G2 m c (ix2 R C) : EReal) = ∑ k : Fin 2816, Mm.ent (lhs m c) R.val k.val * Mm.ent (arg m c) C.val k.val := by
  have hp : Value.pt2Of (ix2 R C) = 2 * (2 * (R.val / 2048) + C.val / 512) + 1 := by
    show 2 * (2 * (R.val / 2048 - 0) + 1 * (C.val / 512 - 0)) + 1 = _; omega
  have hlt : Value.pt2Of (ix2 R C) < cfg0.N := by rw [hp, show cfg0.N = 8 from N_0]; omega
  have hl : Value.loc2Of (ix2 R C) = ix2 (⟨R.val % 2048, Nat.mod_lt _ (by decide)⟩ : Fin 2048) (⟨C.val % 512, Nat.mod_lt _ (by decide)⟩ : Fin 512) := by
    funext a; fin_cases a <;> rfl
  refine (dif_pos hlt).trans ?_
  rw [← Value.outsAt0_sweep m c _ hlt, hl, block m c _ _ hlt hp]
  unfold term
  dsimp only
  rw [show 2048 * ((2 * (R.val / 2048) + C.val / 512) / 2) + R.val % 2048 = R.val by omega,
    show 512 * ((2 * (R.val / 2048) + C.val / 512) % 2) + C.val % 512 = C.val by omega]

/-- The kernel's array is the reference's. -/
theorem algebraic : algebraic_InDxIdeal_InDxRefIdeal (hInDxIdeal := Cert.InDxIdeal.Gen.facts)
    (hInDxRefIdeal := Cert.InDxRefIdeal.Gen.facts) := fun m g m' g' _ ha => by
  refine ⟨_, Value.run m g, (θ_run Cert.InDxRefIdeal.defs _ _).mono (fun r h c => ⟨(h c).1.trans ?_, (h c).2⟩)
    (Cert.InDxRefIdeal.Value.run m' g')⟩
  rw [(ha c).1, (ha c).2]
  funext i
  rw [eq_ix2 i]
  refine Eq.trans ?_ (value m c (i 0) (i 1)).symm
  pointwise
  exact Finset.sum_congr rfl fun k _ => congrArg₂ (· * ·)
    (Mm.ent_of (lhs m c) (i 0).isLt k.isLt).symm (Mm.ent_of (arg m c) (i 1).isLt k.isLt).symm

/-- The reference leaves its arguments and no semaphore raised. -/
theorem reference : quiescent_InDxRefIdeal (hInDxRefIdeal := Cert.InDxRefIdeal.Gen.facts) := fun m ρ _ =>
  (θ_run Cert.InDxRefIdeal.defs _ _).mono (fun r h => ⟨fun c => (h c).2, sem_eq_zero_of_no_sems (by decide) r.2⟩)
    (Cert.InDxRefIdeal.Value.run m ρ)

end Cert.InDxIdeal.Prod

end
-- ==== Proof.Opt.Step.lean ====
module

public import Idealize.ShloMosaic.Lib.Quiescent
public import Idealize.ShloMosaic.Lib.Pipeline.ValueKit

@[expose] public section

noncomputable section

/-! # One step of the optimiser, element by element and on a whole array -/

namespace Opt

open Idealize.ShloMosaic Idealize.ShloMosaic.TcCoe Idealize.SL.Sem

/-- The new first moment. -/
def avg (g m : EReal) : EReal := Ideal.ofBits .f32 0x3F666666#32 * m + Ideal.ofBits .f32 0x3DCCCCCD#32 * g

/-- The new second moment. -/
def sq (g v : EReal) : EReal := Ideal.ofBits .f32 0x3F7FBE77#32 * v + Ideal.ofBits .f32 0x3A83126F#32 * (g * g)

/-- The weight's change, the moments corrected by a multiplication. -/
def move (g w m v : EReal) : EReal :=
  Ideal.ofBits .f32 0xBA83126F#32 * (Ideal.div (avg g m * ((8388608 / 5463681 : ℝ) : EReal))
    (Ideal.sqrt (sq g v * ((268435456 / 2672307 : ℝ) : EReal)) + Ideal.ofBits .f32 0x322BCC77#32) + Ideal.ofBits .f32 0x3C23D70A#32 * w)

/-- Dividing by the first correction is multiplying by its reciprocal. -/
theorem div1 (x : EReal) : Ideal.div x (Ideal.ofBits .f32 0x3F26BD02#32) = x * ((8388608 / 5463681 : ℝ) : EReal) := by
  rw [show Ideal.ofBits .f32 0x3F26BD02#32 = ((10927362 / 16777216 : ℝ) : EReal) by
    simp [Ideal.ofBits, Ideal.ieee]; rw [← EReal.coe_mul]; norm_num, Ideal.div_coe (by norm_num)]
  norm_num

/-- Dividing by the second. -/
theorem div2 (x : EReal) : Ideal.div x (Ideal.ofBits .f32 0x3C231ACC#32) = x * ((268435456 / 2672307 : ℝ) : EReal) := by
  rw [show Ideal.ofBits .f32 0x3C231ACC#32 = ((2672307 / 268435456 : ℝ) : EReal) by
    simp [Ideal.ofBits, Ideal.ieee]; rw [← EReal.coe_mul]; norm_num, Ideal.div_coe (by norm_num)]
  norm_num

/-- Eight parts, added from the first to the last. -/
theorem eight (f g : Fin 8 → EReal) (h : ∀ s, f s = g s) : f 0 + f 1 + f 2 + f 3 + f 4 + f 5 + f 6 + f 7 = ∑ s, g s := by
  rw [Fin.sum_univ_eight]
  simp only [h]

/-- A number for every entry. -/
abbrev num {S : Shape} (h : (⟨0, ![]⟩ : Shape).BroadcastsInDim S ![]) (b : BitVec 32) : FVec Ideal S .f32 :=
  broadcastInDim S ![] h (constant (⟨0, ![]⟩ : Shape) .f32 b)

variable {S : Shape} (h : (⟨0, ![]⟩ : Shape).BroadcastsInDim S ![]) (g w m v : FVec Ideal S .f32)

/-- The reference's new first moment. -/
abbrev avgs : FVec Ideal S .f32 := addf (mulf (num h 0x3F666666#32) m) (mulf (num h 0x3DCCCCCD#32) g)

/-- The reference's new second moment. -/
abbrev sqs : FVec Ideal S .f32 := addf (mulf (num h 0x3F7FBE77#32) v) (mulf (num h 0x3A83126F#32) (mulf g g))

/-- The reference's change of the weight. -/
abbrev moves : FVec Ideal S .f32 :=
  mulf (num h 0xBA83126F#32) (addf (Host.divf (Host.divf (avgs h g m) (num h 0x3F26BD02#32))
    (addf (Host.sqrt (Host.divf (sqs h g v) (num h 0x3C231ACC#32))) (num h 0x322BCC77#32))) (mulf (num h 0x3C23D70A#32) w))

theorem avgs_apply (i : S.Idx) : avgs h g m i = avg (g i) (m i) := by
  pointwise [avgs]
  rfl

theorem sqs_apply (i : S.Idx) : sqs h g v i = sq (g i) (v i) := by
  pointwise [sqs]
  rfl

theorem moves_apply (i : S.Idx) : moves h g w m v i = move (g i) (w i) (m i) (v i) := by
  pointwise [moves, avgs, sqs]
  rw [div1, div2]
  rfl

end Opt

end
-- ==== Proof.Opt.StepOut.lean ====
module

public import Idealize.ShloMosaic.Lib.Quiescent
public import Idealize.ShloMosaic.Lib.Pipeline.ValueKit
public import proofs.«01_k».proof.Defs
public import proofs.«01_k».proof.Proof.Gen.StepOutIdeal.Value
public import proofs.«01_k».proof.Proof.Gen.StepOutRefIdeal.Run
public import proofs.«01_k».proof.Proof.Opt.Step

@[expose] public section

set_option maxRecDepth 16384

noncomputable section

namespace Cert.StepOutIdeal.Opt

open Cert.StepOutIdeal Cert.StepOutIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The sum of the devices' parts. -/
abbrev total (x : FVec Ideal Cert.StepOutRefIdeal.S8x1x128x1024 .bf16) : FVec Ideal S128x1024 .f32 :=
  shapeCast _ (Host.reduceAdd (extf .f32 x Cert.StepOutRefIdeal.Gen.bitsLt_bf16_f32) (constant Cert.StepOutRefIdeal.S_ .f32 0x00000000#32)
    Cert.StepOutRefIdeal.Gen.reducesTo_S8x1x128x1024_S1x128x1024_d0 Cert.StepOutRefIdeal.Gen.h_S_)
    Cert.StepOutRefIdeal.Gen.shapeCasts_S1x128x1024_S128x1024

/-- A weight or a moment, as rows. -/
abbrev rows (x : FVec Ideal Cert.StepOutRefIdeal.S1x128x1024 .f32) : FVec Ideal S128x1024 .f32 :=
  shapeCast _ x Cert.StepOutRefIdeal.Gen.shapeCasts_S1x128x1024_S128x1024

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S128x1024.Idx) : S128x1024.Idx := ((View.whole main_v4_0).slice (win0_4.rect t)).emb y

theorem grad (c : Dev nD) (t : Fin cfg0.N) (y : S128x1024.Idx) :
    k0_pay6 (iblk m c 0 t) (iblk m c 1 t) (iblk m c 2 t) (iblk m c 3 t) y = total (m ((c : Thread nD τ).loc main_arg0)) (at_ t y) := by
  pointwise [k0_pay6, k0_pay4, total]
  refine Opt.eight (fun s => iblk m c 0 t (ix3 s (y 0) (y 1))) _ fun s => ?_
  unfold at_
  blk_point [iblk, V, idx t]

theorem row1 (c : Dev nD) (t : Fin cfg0.N) (y : S128x1024.Idx) :
    (iblk m c 1 t : FVec Ideal S128x1024 .f32) y = rows (m ((c : Thread nD τ).loc main_arg1)) (at_ t y) := by
  unfold at_
  blk_point [iblk, V, idx t]

theorem row2 (c : Dev nD) (t : Fin cfg0.N) (y : S128x1024.Idx) :
    (iblk m c 2 t : FVec Ideal S128x1024 .f32) y = rows (m ((c : Thread nD τ).loc main_arg2)) (at_ t y) := by
  unfold at_
  blk_point [iblk, V, idx t]

theorem row3 (c : Dev nD) (t : Fin cfg0.N) (y : S128x1024.Idx) :
    (iblk m c 3 t : FVec Ideal S128x1024 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  exact grad m c t y

theorem final5 (c : Dev nD) : (dats m 0 c).arrAt 5 cfg0.N = Opt.moves Cert.StepOutRefIdeal.Gen.bcast_S_S128x1024 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay3, k0_pay1, k0_pay2, k0_pay5, k0_pay7]
  rw [c1, c2]
  unfold Opt.move Opt.avg Opt.sq
  rfl

theorem final6 (c : Dev nD) : (dats m 0 c).arrAt 6 cfg0.N = Opt.avgs Cert.StepOutRefIdeal.Gen.bcast_S_S128x1024 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay3, k0_pay1, k0_pay2, k0_pay5, k0_pay7]
  rfl

theorem final7 (c : Dev nD) : (dats m 0 c).arrAt 7 cfg0.N = Opt.sqs Cert.StepOutRefIdeal.Gen.bcast_S_S128x1024 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay3, k0_pay1, k0_pay2, k0_pay5, k0_pay7]
  rfl

/-- The results are the reference's. -/
theorem algebraic : algebraic_StepOutIdeal_StepOutRefIdeal (hStepOutIdeal := Cert.StepOutIdeal.Gen.facts)
    (hStepOutRefIdeal := Cert.StepOutRefIdeal.Gen.facts) := fun m g m' g' _ ha => by
  refine ⟨_, _, _, _, Value.run_blocks m g, (θ_run Cert.StepOutRefIdeal.defs _ _).mono (fun r h c =>
    ⟨(h c).1.trans ?_, (h c).2.1.trans ?_, (h c).2.2.1.trans ?_, (h c).2.2.2.1.trans ?_, (h c).2.2.2.2⟩) (Cert.StepOutRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepOutRefIdeal (hStepOutRefIdeal := Cert.StepOutRefIdeal.Gen.facts) := fun m ρ _ =>
  (θ_run Cert.StepOutRefIdeal.defs _ _).mono (fun r h => ⟨fun c => (h c).2.2.2.2, sem_eq_zero_of_no_sems (by decide) r.2⟩)
    (Cert.StepOutRefIdeal.Value.run m ρ)

/-- The named constants stand for the literals' values. -/
theorem named : preserves_StepOut_StepOutIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepOutIdeal.Opt

end
-- ==== Proof.Opt.StepMem.lean ====
module

public import Idealize.ShloMosaic.Lib.Quiescent
public import Idealize.ShloMosaic.Lib.Pipeline.ValueKit
public import proofs.«01_k».proof.Defs
public import proofs.«01_k».proof.Proof.Gen.StepMemIdeal.Value
public import proofs.«01_k».proof.Proof.Gen.StepMemRefIdeal.Run
public import proofs.«01_k».proof.Proof.Opt.Step

@[expose] public section

set_option maxRecDepth 16384

noncomputable section

namespace Cert.StepMemIdeal.Opt

open Cert.StepMemIdeal Cert.StepMemIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The sum of the devices' parts. -/
abbrev total (x : FVec Ideal Cert.StepMemRefIdeal.S8x2x128x512 .bf16) : FVec Ideal S256x512 .f32 :=
  shapeCast _ (Host.reduceAdd (extf .f32 x Cert.StepMemRefIdeal.Gen.bitsLt_bf16_f32) (constant Cert.StepMemRefIdeal.S_ .f32 0x00000000#32)
    Cert.StepMemRefIdeal.Gen.reducesTo_S8x2x128x512_S2x128x512_d0 Cert.StepMemRefIdeal.Gen.h_S_)
    Cert.StepMemRefIdeal.Gen.shapeCasts_S2x128x512_S256x512

/-- A weight or a moment, as rows. -/
abbrev rows (x : FVec Ideal Cert.StepMemRefIdeal.S2x128x512 .f32) : FVec Ideal S256x512 .f32 :=
  shapeCast _ x Cert.StepMemRefIdeal.Gen.shapeCasts_S2x128x512_S256x512

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S256x512.Idx) : S256x512.Idx := ((View.whole main_v4_0).slice (win0_4.rect t)).emb y

theorem grad (c : Dev nD) (t : Fin cfg0.N) (y : S256x512.Idx) :
    k0_pay6 (iblk m c 0 t) (iblk m c 1 t) (iblk m c 2 t) (iblk m c 3 t) y = total (m ((c : Thread nD τ).loc main_arg0)) (at_ t y) := by
  pointwise [k0_pay6, k0_pay4, total]
  refine Opt.eight (fun s => iblk m c 0 t (ix3 s (y 0) (y 1))) _ fun s => ?_
  unfold at_
  blk_point [iblk, V, idx t]

theorem row1 (c : Dev nD) (t : Fin cfg0.N) (y : S256x512.Idx) :
    (iblk m c 1 t : FVec Ideal S256x512 .f32) y = rows (m ((c : Thread nD τ).loc main_arg1)) (at_ t y) := by
  unfold at_
  blk_point [iblk, V, idx t]

theorem row2 (c : Dev nD) (t : Fin cfg0.N) (y : S256x512.Idx) :
    (iblk m c 2 t : FVec Ideal S256x512 .f32) y = rows (m ((c : Thread nD τ).loc main_arg2)) (at_ t y) := by
  unfold at_
  blk_point [iblk, V, idx t]

theorem row3 (c : Dev nD) (t : Fin cfg0.N) (y : S256x512.Idx) :
    (iblk m c 3 t : FVec Ideal S256x512 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  exact grad m c t y

theorem final5 (c : Dev nD) : (dats m 0 c).arrAt 5 cfg0.N = Opt.moves Cert.StepMemRefIdeal.Gen.bcast_S_S256x512 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay3, k0_pay1, k0_pay2, k0_pay5, k0_pay7]
  rw [c1, c2]
  unfold Opt.move Opt.avg Opt.sq
  rfl

theorem final6 (c : Dev nD) : (dats m 0 c).arrAt 6 cfg0.N = Opt.avgs Cert.StepMemRefIdeal.Gen.bcast_S_S256x512 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay3, k0_pay1, k0_pay2, k0_pay5, k0_pay7]
  rfl

theorem final7 (c : Dev nD) : (dats m 0 c).arrAt 7 cfg0.N = Opt.sqs Cert.StepMemRefIdeal.Gen.bcast_S_S256x512 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay3, k0_pay1, k0_pay2, k0_pay5, k0_pay7]
  rfl

/-- The results are the reference's. -/
theorem algebraic : algebraic_StepMemIdeal_StepMemRefIdeal (hStepMemIdeal := Cert.StepMemIdeal.Gen.facts)
    (hStepMemRefIdeal := Cert.StepMemRefIdeal.Gen.facts) := fun m g m' g' _ ha => by
  refine ⟨_, _, _, _, Value.run_blocks m g, (θ_run Cert.StepMemRefIdeal.defs _ _).mono (fun r h c =>
    ⟨(h c).1.trans ?_, (h c).2.1.trans ?_, (h c).2.2.1.trans ?_, (h c).2.2.2.1.trans ?_, (h c).2.2.2.2⟩) (Cert.StepMemRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepMemRefIdeal (hStepMemRefIdeal := Cert.StepMemRefIdeal.Gen.facts) := fun m ρ _ =>
  (θ_run Cert.StepMemRefIdeal.defs _ _).mono (fun r h => ⟨fun c => (h c).2.2.2.2, sem_eq_zero_of_no_sems (by decide) r.2⟩)
    (Cert.StepMemRefIdeal.Value.run m ρ)

/-- The named constants stand for the literals' values. -/
theorem named : preserves_StepMem_StepMemIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepMemIdeal.Opt

end
-- ==== Proof.Opt.StepDown.lean ====
module

public import Idealize.ShloMosaic.Lib.Quiescent
public import Idealize.ShloMosaic.Lib.Pipeline.ValueKit
public import proofs.«01_k».proof.Defs
public import proofs.«01_k».proof.Proof.Gen.StepDownIdeal.Value
public import proofs.«01_k».proof.Proof.Gen.StepDownRefIdeal.Run
public import proofs.«01_k».proof.Proof.Opt.Step

@[expose] public section

set_option maxRecDepth 16384

noncomputable section

namespace Cert.StepDownIdeal.Opt

open Cert.StepDownIdeal Cert.StepDownIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The sum of the devices' parts. -/
abbrev total (x : FVec Ideal Cert.StepDownRefIdeal.S8x2x352x1024 .bf16) : FVec Ideal S704x1024 .f32 :=
  shapeCast _ (Host.reduceAdd (extf .f32 x Cert.StepDownRefIdeal.Gen.bitsLt_bf16_f32) (constant Cert.StepDownRefIdeal.S_ .f32 0x00000000#32)
    Cert.StepDownRefIdeal.Gen.reducesTo_S8x2x352x1024_S2x352x1024_d0 Cert.StepDownRefIdeal.Gen.h_S_)
    Cert.StepDownRefIdeal.Gen.shapeCasts_S2x352x1024_S704x1024

/-- A weight or a moment, as rows. -/
abbrev rows (x : FVec Ideal Cert.StepDownRefIdeal.S2x352x1024 .f32) : FVec Ideal S704x1024 .f32 :=
  shapeCast _ x Cert.StepDownRefIdeal.Gen.shapeCasts_S2x352x1024_S704x1024

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S64x1024.Idx) : S704x1024.Idx := ((View.whole main_v4_0).slice (win0_4.rect t)).emb y

theorem grad (c : Dev nD) (t : Fin cfg0.N) (y : S64x1024.Idx) :
    k0_pay6 (iblk m c 0 t) (iblk m c 1 t) (iblk m c 2 t) (iblk m c 3 t) y = total (m ((c : Thread nD τ).loc main_arg0)) (at_ t y) := by
  pointwise [k0_pay6, k0_pay4, total]
  refine Opt.eight (fun s => iblk m c 0 t (ix3 s (y 0) (y 1))) _ fun s => ?_
  unfold at_
  blk_point [iblk, V, idx t]

theorem row1 (c : Dev nD) (t : Fin cfg0.N) (y : S64x1024.Idx) :
    (iblk m c 1 t : FVec Ideal S64x1024 .f32) y = rows (m ((c : Thread nD τ).loc main_arg1)) (at_ t y) := by
  unfold at_
  blk_point [iblk, V, idx t]

theorem row2 (c : Dev nD) (t : Fin cfg0.N) (y : S64x1024.Idx) :
    (iblk m c 2 t : FVec Ideal S64x1024 .f32) y = rows (m ((c : Thread nD τ).loc main_arg2)) (at_ t y) := by
  unfold at_
  blk_point [iblk, V, idx t]

theorem row3 (c : Dev nD) (t : Fin cfg0.N) (y : S64x1024.Idx) :
    (iblk m c 3 t : FVec Ideal S64x1024 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  exact grad m c t y

theorem final5 (c : Dev nD) : (dats m 0 c).arrAt 5 cfg0.N = Opt.moves Cert.StepDownRefIdeal.Gen.bcast_S_S704x1024 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay3, k0_pay1, k0_pay2, k0_pay5, k0_pay7]
  rw [c1, c2]
  unfold Opt.move Opt.avg Opt.sq
  rfl

theorem final6 (c : Dev nD) : (dats m 0 c).arrAt 6 cfg0.N = Opt.avgs Cert.StepDownRefIdeal.Gen.bcast_S_S704x1024 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay3, k0_pay1, k0_pay2, k0_pay5, k0_pay7]
  rfl

theorem final7 (c : Dev nD) : (dats m 0 c).arrAt 7 cfg0.N = Opt.sqs Cert.StepDownRefIdeal.Gen.bcast_S_S704x1024 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay3, k0_pay1, k0_pay2, k0_pay5, k0_pay7]
  rfl

/-- The results are the reference's. -/
theorem algebraic : algebraic_StepDownIdeal_StepDownRefIdeal (hStepDownIdeal := Cert.StepDownIdeal.Gen.facts)
    (hStepDownRefIdeal := Cert.StepDownRefIdeal.Gen.facts) := fun m g m' g' _ ha => by
  refine ⟨_, _, _, _, Value.run_blocks m g, (θ_run Cert.StepDownRefIdeal.defs _ _).mono (fun r h c =>
    ⟨(h c).1.trans ?_, (h c).2.1.trans ?_, (h c).2.2.1.trans ?_, (h c).2.2.2.1.trans ?_, (h c).2.2.2.2⟩) (Cert.StepDownRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepDownRefIdeal (hStepDownRefIdeal := Cert.StepDownRefIdeal.Gen.facts) := fun m ρ _ =>
  (θ_run Cert.StepDownRefIdeal.defs _ _).mono (fun r h => ⟨fun c => (h c).2.2.2.2, sem_eq_zero_of_no_sems (by decide) r.2⟩)
    (Cert.StepDownRefIdeal.Value.run m ρ)

/-- The named constants stand for the literals' values. -/
theorem named : preserves_StepDown_StepDownIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepDownIdeal.Opt

end
-- ==== Proof.Opt.SumIn.lean ====
module

public import Idealize.ShloMosaic.Lib.Quiescent
public import Idealize.ShloMosaic.Lib.Pipeline.ValueKit
public import proofs.«01_k».proof.Defs
public import proofs.«01_k».proof.Proof.Gen.SumInIdeal.Value
public import proofs.«01_k».proof.Proof.Gen.SumInRefIdeal.Run
public import proofs.«01_k».proof.Proof.Opt.Step

@[expose] public section

set_option maxRecDepth 16384

noncomputable section

namespace Cert.SumInIdeal.Opt

open Cert.SumInIdeal Cert.SumInIdeal.Gen Idealize.ShloMosaic Idealize.ShloMosaic.TcCoe Idealize.SL.Sem

theorem idx : ∀ t : Fin cfg0.N, win0_0.index t = ![0, t.val, 0] ∧ win0_1.index t = ![t.val, 0] :=
  (by decide +kernel : ∀ t : Fin grid0.N, _)

/-- The sum of the devices' parts. -/
abbrev total (x : FVec Ideal Cert.SumInRefIdeal.S8x1x352x1024 .bf16) : FVec Ideal S352x1024 .f32 :=
  shapeCast _ (Host.reduceAdd (extf .f32 x Cert.SumInRefIdeal.Gen.bitsLt_bf16_f32) (constant Cert.SumInRefIdeal.S_ .f32 0x00000000#32)
    Cert.SumInRefIdeal.Gen.reducesTo_S8x1x352x1024_S1x352x1024_d0 Cert.SumInRefIdeal.Gen.h_S_) Cert.SumInRefIdeal.Gen.shapeCasts_S1x352x1024_S352x1024

variable (m : (ℓ : Loc nD τ sig) → Buf (Elt Ideal) ℓ)

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]; frame_out
  pointwise [k0_pay1, total]
  refine Opt.eight (fun s => iblk m c 0 t (ix3 s (y 0) (y 1))) _ fun s => ?_
  blk_point [iblk, V, idx t]

/-- The result is the reference's. -/
theorem algebraic : algebraic_SumInIdeal_SumInRefIdeal (hSumInIdeal := Cert.SumInIdeal.Gen.facts)
    (hSumInRefIdeal := Cert.SumInRefIdeal.Gen.facts) := fun m g m' g' _ ha => by
  refine ⟨_, Value.run_blocks m g, (θ_run Cert.SumInRefIdeal.defs _ _).mono (fun r h c => ⟨(h c).1.trans ?_, (h c).2⟩)
    (Cert.SumInRefIdeal.Value.run m' g')⟩
  rw [ha c]
  exact (final m c).symm

/-- The reference leaves its arguments and no semaphore raised. -/
theorem reference : quiescent_SumInRefIdeal (hSumInRefIdeal := Cert.SumInRefIdeal.Gen.facts) := fun m ρ _ =>
  (θ_run Cert.SumInRefIdeal.defs _ _).mono (fun r h => ⟨fun c => (h c).2, sem_eq_zero_of_no_sems (by decide) r.2⟩)
    (Cert.SumInRefIdeal.Value.run m ρ)

end Cert.SumInIdeal.Opt

end
-- ==== Proof.Opt.SumKv.lean ====
module

public import Idealize.ShloMosaic.Lib.Quiescent
public import Idealize.ShloMosaic.Lib.Pipeline.ValueKit
public import proofs.«01_k».proof.Defs
public import proofs.«01_k».proof.Proof.Gen.SumKvIdeal.Value
public import proofs.«01_k».proof.Proof.Gen.SumKvRefIdeal.Run
public import proofs.«01_k».proof.Proof.Opt.Step

@[expose] public section

set_option maxRecDepth 16384

noncomputable section

namespace Cert.SumKvIdeal.Opt

open Cert.SumKvIdeal Cert.SumKvIdeal.Gen Idealize.ShloMosaic Idealize.ShloMosaic.TcCoe Idealize.SL.Sem

theorem idx : ∀ t : Fin cfg0.N, win0_0.index t = ![0, t.val, 0] ∧ win0_1.index t = ![t.val, 0] :=
  (by decide +kernel : ∀ t : Fin grid0.N, _)

/-- The sum of the devices' parts. -/
abbrev total (x : FVec Ideal Cert.SumKvRefIdeal.S8x1x192x1024 .bf16) : FVec Ideal S192x1024 .f32 :=
  shapeCast _ (Host.reduceAdd (extf .f32 x Cert.SumKvRefIdeal.Gen.bitsLt_bf16_f32) (constant Cert.SumKvRefIdeal.S_ .f32 0x00000000#32)
    Cert.SumKvRefIdeal.Gen.reducesTo_S8x1x192x1024_S1x192x1024_d0 Cert.SumKvRefIdeal.Gen.h_S_) Cert.SumKvRefIdeal.Gen.shapeCasts_S1x192x1024_S192x1024

variable (m : (ℓ : Loc nD τ sig) → Buf (Elt Ideal) ℓ)

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]; frame_out
  pointwise [k0_pay1, total]
  refine Opt.eight (fun s => iblk m c 0 t (ix3 s (y 0) (y 1))) _ fun s => ?_
  blk_point [iblk, V, idx t]

/-- The result is the reference's. -/
theorem algebraic : algebraic_SumKvIdeal_SumKvRefIdeal (hSumKvIdeal := Cert.SumKvIdeal.Gen.facts)
    (hSumKvRefIdeal := Cert.SumKvRefIdeal.Gen.facts) := fun m g m' g' _ ha => by
  refine ⟨_, Value.run_blocks m g, (θ_run Cert.SumKvRefIdeal.defs _ _).mono (fun r h c => ⟨(h c).1.trans ?_, (h c).2⟩)
    (Cert.SumKvRefIdeal.Value.run m' g')⟩
  rw [ha c]
  exact (final m c).symm

/-- The reference leaves its arguments and no semaphore raised. -/
theorem reference : quiescent_SumKvRefIdeal (hSumKvRefIdeal := Cert.SumKvRefIdeal.Gen.facts) := fun m ρ _ =>
  (θ_run Cert.SumKvRefIdeal.defs _ _).mono (fun r h => ⟨fun c => (h c).2, sem_eq_zero_of_no_sems (by decide) r.2⟩)
    (Cert.SumKvRefIdeal.Value.run m ρ)

end Cert.SumKvIdeal.Opt

end
-- ==== Proof.Opt.SumMix.lean ====
module

public import Idealize.ShloMosaic.Lib.Quiescent
public import Idealize.ShloMosaic.Lib.Pipeline.ValueKit
public import proofs.«01_k».proof.Defs
public import proofs.«01_k».proof.Proof.Gen.SumMixIdeal.Value
public import proofs.«01_k».proof.Proof.Gen.SumMixRefIdeal.Run
public import proofs.«01_k».proof.Proof.Opt.Step

@[expose] public section

set_option maxRecDepth 16384

noncomputable section

namespace Cert.SumMixIdeal.Opt

open Cert.SumMixIdeal Cert.SumMixIdeal.Gen Idealize.ShloMosaic Idealize.ShloMosaic.TcCoe Idealize.SL.Sem

theorem idx : ∀ t : Fin cfg0.N, win0_0.index t = ![0, t.val, 0] ∧ win0_1.index t = ![t.val, 0] :=
  (by decide +kernel : ∀ t : Fin grid0.N, _)

/-- The sum of the devices' parts. -/
abbrev total (x : FVec Ideal Cert.SumMixRefIdeal.S8x1x128x512 .bf16) : FVec Ideal S128x512 .f32 :=
  shapeCast _ (Host.reduceAdd (extf .f32 x Cert.SumMixRefIdeal.Gen.bitsLt_bf16_f32) (constant Cert.SumMixRefIdeal.S_ .f32 0x00000000#32)
    Cert.SumMixRefIdeal.Gen.reducesTo_S8x1x128x512_S1x128x512_d0 Cert.SumMixRefIdeal.Gen.h_S_) Cert.SumMixRefIdeal.Gen.shapeCasts_S1x128x512_S128x512

variable (m : (ℓ : Loc nD τ sig) → Buf (Elt Ideal) ℓ)

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]; frame_out
  pointwise [k0_pay1, total]
  refine Opt.eight (fun s => iblk m c 0 t (ix3 s (y 0) (y 1))) _ fun s => ?_
  blk_point [iblk, V, idx t]

/-- The result is the reference's. -/
theorem algebraic : algebraic_SumMixIdeal_SumMixRefIdeal (hSumMixIdeal := Cert.SumMixIdeal.Gen.facts)
    (hSumMixRefIdeal := Cert.SumMixRefIdeal.Gen.facts) := fun m g m' g' _ ha => by
  refine ⟨_, Value.run_blocks m g, (θ_run Cert.SumMixRefIdeal.defs _ _).mono (fun r h c => ⟨(h c).1.trans ?_, (h c).2⟩)
    (Cert.SumMixRefIdeal.Value.run m' g')⟩
  rw [ha c]
  exact (final m c).symm

/-- The reference leaves its arguments and no semaphore raised. -/
theorem reference : quiescent_SumMixRefIdeal (hSumMixRefIdeal := Cert.SumMixRefIdeal.Gen.facts) := fun m ρ _ =>
  (θ_run Cert.SumMixRefIdeal.defs _ _).mono (fun r h => ⟨fun c => (h c).2, sem_eq_zero_of_no_sems (by decide) r.2⟩)
    (Cert.SumMixRefIdeal.Value.run m ρ)

end Cert.SumMixIdeal.Opt

end
-- ==== Proof.Opt.SumUp.lean ====
module

public import Idealize.ShloMosaic.Lib.Quiescent
public import Idealize.ShloMosaic.Lib.Pipeline.ValueKit
public import proofs.«01_k».proof.Defs
public import proofs.«01_k».proof.Proof.Gen.SumUpIdeal.Value
public import proofs.«01_k».proof.Proof.Gen.SumUpRefIdeal.Run
public import proofs.«01_k».proof.Proof.Opt.Step

@[expose] public section

set_option maxRecDepth 16384

noncomputable section

namespace Cert.SumUpIdeal.Opt

open Cert.SumUpIdeal Cert.SumUpIdeal.Gen Idealize.ShloMosaic Idealize.ShloMosaic.TcCoe Idealize.SL.Sem

theorem idx : ∀ t : Fin cfg0.N, win0_0.index t = ![0, t.val, 0] ∧ win0_1.index t = ![t.val, 0] :=
  (by decide +kernel : ∀ t : Fin grid0.N, _)

/-- The sum of the devices' parts. -/
abbrev total (x : FVec Ideal Cert.SumUpRefIdeal.S8x2x704x1024 .bf16) : FVec Ideal S1408x1024 .f32 :=
  shapeCast _ (Host.reduceAdd (extf .f32 x Cert.SumUpRefIdeal.Gen.bitsLt_bf16_f32) (constant Cert.SumUpRefIdeal.S_ .f32 0x00000000#32)
    Cert.SumUpRefIdeal.Gen.reducesTo_S8x2x704x1024_S2x704x1024_d0 Cert.SumUpRefIdeal.Gen.h_S_) Cert.SumUpRefIdeal.Gen.shapeCasts_S2x704x1024_S1408x1024

variable (m : (ℓ : Loc nD τ sig) → Buf (Elt Ideal) ℓ)

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]; frame_out
  pointwise [k0_pay1, total]
  refine Opt.eight (fun s => iblk m c 0 t (ix3 s (y 0) (y 1))) _ fun s => ?_
  blk_point [iblk, V, idx t]

/-- The result is the reference's. -/
theorem algebraic : algebraic_SumUpIdeal_SumUpRefIdeal (hSumUpIdeal := Cert.SumUpIdeal.Gen.facts)
    (hSumUpRefIdeal := Cert.SumUpRefIdeal.Gen.facts) := fun m g m' g' _ ha => by
  refine ⟨_, Value.run_blocks m g, (θ_run Cert.SumUpRefIdeal.defs _ _).mono (fun r h c => ⟨(h c).1.trans ?_, (h c).2⟩)
    (Cert.SumUpRefIdeal.Value.run m' g')⟩
  rw [ha c]
  exact (final m c).symm

/-- The reference leaves its arguments and no semaphore raised. -/
theorem reference : quiescent_SumUpRefIdeal (hSumUpRefIdeal := Cert.SumUpRefIdeal.Gen.facts) := fun m ρ _ =>
  (θ_run Cert.SumUpRefIdeal.defs _ _).mono (fun r h => ⟨fun c => (h c).2, sem_eq_zero_of_no_sems (by decide) r.2⟩)
    (Cert.SumUpRefIdeal.Value.run m ρ)

end Cert.SumUpIdeal.Opt

end
-- ==== Proof.Opt.StepIn.lean ====
module

public import Idealize.ShloMosaic.Lib.Quiescent
public import Idealize.ShloMosaic.Lib.Pipeline.ValueKit
public import proofs.«01_k».proof.Defs
public import proofs.«01_k».proof.Proof.Gen.StepInIdeal.Value
public import proofs.«01_k».proof.Proof.Gen.StepInRefIdeal.Run
public import proofs.«01_k».proof.Proof.Opt.Step

@[expose] public section

set_option maxRecDepth 16384

noncomputable section

namespace Cert.StepInIdeal.Opt

open Cert.StepInIdeal Cert.StepInIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, turned back and as rows. -/
abbrev total (x : FVec Ideal Cert.StepInRefIdeal.S1x352x1024 .f32) : FVec Ideal S1024x352 .f32 :=
  shapeCast _ (transpose Cert.StepInRefIdeal.S1x1024x352 [0, 2, 1] x Cert.StepInRefIdeal.Gen.transposes_S1x352x1024_S1x1024x352_0_2_1) Cert.StepInRefIdeal.Gen.shapeCasts_S1x1024x352_S1024x352

/-- A weight or a moment, as rows. -/
abbrev rows (x : FVec Ideal Cert.StepInRefIdeal.S1x1024x352 .f32) : FVec Ideal S1024x352 .f32 :=
  shapeCast _ x Cert.StepInRefIdeal.Gen.shapeCasts_S1x1024x352_S1024x352

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S512x352.Idx) : S1024x352.Idx := ((View.whole main_v5_0).slice (win0_4.rect t)).emb y

theorem grad (c : Dev nD) (t : Fin cfg0.N) (y : S512x352.Idx) :
    (iblk m c 0 t : FVec Ideal S1x512x352 .f32) (ix3 0 (y 0) (y 1)) = total (m ((c : Thread nD τ).loc main_arg0)) (at_ t y) := by
  unfold at_
  pointwise [total]
  blk_point [iblk, V, idx t]

theorem row1 (c : Dev nD) (t : Fin cfg0.N) (y : S512x352.Idx) :
    (iblk m c 1 t : FVec Ideal S512x352 .f32) y = rows (m ((c : Thread nD τ).loc main_arg1)) (at_ t y) := by
  unfold at_
  blk_point [iblk, V, idx t]

theorem row2 (c : Dev nD) (t : Fin cfg0.N) (y : S512x352.Idx) :
    (iblk m c 2 t : FVec Ideal S512x352 .f32) y = rows (m ((c : Thread nD τ).loc main_arg2)) (at_ t y) := by
  unfold at_
  blk_point [iblk, V, idx t]

theorem row3 (c : Dev nD) (t : Fin cfg0.N) (y : S512x352.Idx) :
    (iblk m c 3 t : FVec Ideal S512x352 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  refine Eq.trans ?_ (grad m c t y)
  pointwise [k0_pay2]

theorem final5 (c : Dev nD) : (dats m 0 c).arrAt 5 cfg0.N = Opt.moves Cert.StepInRefIdeal.Gen.bcast_S_S1024x352 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay1, k0_pay5, k0_pay2, k0_pay3, k0_pay4]
  rw [c1, c2]
  unfold Opt.move Opt.avg Opt.sq
  rfl

theorem final6 (c : Dev nD) : (dats m 0 c).arrAt 6 cfg0.N = Opt.avgs Cert.StepInRefIdeal.Gen.bcast_S_S1024x352 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay3, k0_pay2]
  rfl

theorem final7 (c : Dev nD) : (dats m 0 c).arrAt 7 cfg0.N = Opt.sqs Cert.StepInRefIdeal.Gen.bcast_S_S1024x352 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay4, k0_pay2]
  rfl

/-- The results are the reference's. -/
theorem algebraic : algebraic_StepInIdeal_StepInRefIdeal (hStepInIdeal := Cert.StepInIdeal.Gen.facts)
    (hStepInRefIdeal := Cert.StepInRefIdeal.Gen.facts) := fun m g m' g' _ ha => by
  refine ⟨_, _, _, _, Value.run_blocks m g, (θ_run Cert.StepInRefIdeal.defs _ _).mono (fun r h c =>
    ⟨(h c).1.trans ?_, (h c).2.1.trans ?_, (h c).2.2.1.trans ?_, (h c).2.2.2.1.trans ?_, (h c).2.2.2.2⟩) (Cert.StepInRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepInRefIdeal (hStepInRefIdeal := Cert.StepInRefIdeal.Gen.facts) := fun m ρ _ =>
  (θ_run Cert.StepInRefIdeal.defs _ _).mono (fun r h => ⟨fun c => (h c).2.2.2.2, sem_eq_zero_of_no_sems (by decide) r.2⟩)
    (Cert.StepInRefIdeal.Value.run m ρ)

/-- The named constants stand for the literals' values. -/
theorem named : preserves_StepIn_StepInIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepInIdeal.Opt

end
-- ==== Proof.Opt.StepKv.lean ====
module

public import Idealize.ShloMosaic.Lib.Quiescent
public import Idealize.ShloMosaic.Lib.Pipeline.ValueKit
public import proofs.«01_k».proof.Defs
public import proofs.«01_k».proof.Proof.Gen.StepKvIdeal.Value
public import proofs.«01_k».proof.Proof.Gen.StepKvRefIdeal.Run
public import proofs.«01_k».proof.Proof.Opt.Step

@[expose] public section

set_option maxRecDepth 16384

noncomputable section

namespace Cert.StepKvIdeal.Opt

open Cert.StepKvIdeal Cert.StepKvIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, turned back and as rows. -/
abbrev total (x : FVec Ideal Cert.StepKvRefIdeal.S1x192x1024 .f32) : FVec Ideal S1024x192 .f32 :=
  shapeCast _ (transpose Cert.StepKvRefIdeal.S1x1024x192 [0, 2, 1] x Cert.StepKvRefIdeal.Gen.transposes_S1x192x1024_S1x1024x192_0_2_1) Cert.StepKvRefIdeal.Gen.shapeCasts_S1x1024x192_S1024x192

/-- A weight or a moment as it is given. -/
abbrev rows (x : FVec Ideal S1024x192 .f32) : FVec Ideal S1024x192 .f32 := x

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S512x192.Idx) : S1024x192.Idx := ((View.whole main_v1_0).slice (win0_4.rect t)).emb y

theorem grad (c : Dev nD) (t : Fin cfg0.N) (y : S512x192.Idx) :
    (iblk m c 0 t : FVec Ideal S1x512x192 .f32) (ix3 0 (y 0) (y 1)) = total (m ((c : Thread nD τ).loc main_arg0)) (at_ t y) := by
  unfold at_
  pointwise [total]
  blk_point [iblk, V, idx t]

theorem row1 (c : Dev nD) (t : Fin cfg0.N) (y : S512x192.Idx) :
    (iblk m c 1 t : FVec Ideal S512x192 .f32) y = rows (m ((c : Thread nD τ).loc main_arg1)) (at_ t y) := by
  unfold at_
  blk_point [iblk, V, idx t]

theorem row2 (c : Dev nD) (t : Fin cfg0.N) (y : S512x192.Idx) :
    (iblk m c 2 t : FVec Ideal S512x192 .f32) y = rows (m ((c : Thread nD τ).loc main_arg2)) (at_ t y) := by
  unfold at_
  blk_point [iblk, V, idx t]

theorem row3 (c : Dev nD) (t : Fin cfg0.N) (y : S512x192.Idx) :
    (iblk m c 3 t : FVec Ideal S512x192 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  refine Eq.trans ?_ (grad m c t y)
  pointwise [k0_pay1]

theorem final5 (c : Dev nD) : (dats m 0 c).arrAt 5 cfg0.N = Opt.moves Cert.StepKvRefIdeal.Gen.bcast_S_S1024x192 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay4, k0_pay1, k0_pay2, k0_pay3]
  rw [c1, c2]
  unfold Opt.move Opt.avg Opt.sq
  rfl

theorem final6 (c : Dev nD) : (dats m 0 c).arrAt 6 cfg0.N = Opt.avgs Cert.StepKvRefIdeal.Gen.bcast_S_S1024x192 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay2, k0_pay1]
  rfl

theorem final7 (c : Dev nD) : (dats m 0 c).arrAt 7 cfg0.N = Opt.sqs Cert.StepKvRefIdeal.Gen.bcast_S_S1024x192 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay3, k0_pay1]
  rfl

/-- The results are the reference's. -/
theorem algebraic : algebraic_StepKvIdeal_StepKvRefIdeal (hStepKvIdeal := Cert.StepKvIdeal.Gen.facts)
    (hStepKvRefIdeal := Cert.StepKvRefIdeal.Gen.facts) := fun m g m' g' _ ha => by
  refine ⟨_, _, _, _, Value.run_blocks m g, (θ_run Cert.StepKvRefIdeal.defs _ _).mono (fun r h c =>
    ⟨(h c).1.trans ?_, (h c).2.1.trans ?_, (h c).2.2.1.trans ?_, (h c).2.2.2.1.trans ?_, (h c).2.2.2.2⟩) (Cert.StepKvRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepKvRefIdeal (hStepKvRefIdeal := Cert.StepKvRefIdeal.Gen.facts) := fun m ρ _ =>
  (θ_run Cert.StepKvRefIdeal.defs _ _).mono (fun r h => ⟨fun c => (h c).2.2.2.2, sem_eq_zero_of_no_sems (by decide) r.2⟩)
    (Cert.StepKvRefIdeal.Value.run m ρ)

/-- The named constants stand for the literals' values. -/
theorem named : preserves_StepKv_StepKvIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepKvIdeal.Opt

end
-- ==== Proof.Opt.StepMix.lean ====
module

public import Idealize.ShloMosaic.Lib.Quiescent
public import Idealize.ShloMosaic.Lib.Pipeline.ValueKit
public import proofs.«01_k».proof.Defs
public import proofs.«01_k».proof.Proof.Gen.StepMixIdeal.Value
public import proofs.«01_k».proof.Proof.Gen.StepMixRefIdeal.Run
public import proofs.«01_k».proof.Proof.Opt.Step

@[expose] public section

set_option maxRecDepth 16384

noncomputable section

namespace Cert.StepMixIdeal.Opt

open Cert.StepMixIdeal Cert.StepMixIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, turned back and as rows. -/
abbrev total (x : FVec Ideal Cert.StepMixRefIdeal.S1x128x512 .f32) : FVec Ideal S512x128 .f32 :=
  shapeCast _ (transpose Cert.StepMixRefIdeal.S1x512x128 [0, 2, 1] x Cert.StepMixRefIdeal.Gen.transposes_S1x128x512_S1x512x128_0_2_1) Cert.StepMixRefIdeal.Gen.shapeCasts_S1x512x128_S512x128

/-- A weight or a moment, as rows. -/
abbrev rows (x : FVec Ideal Cert.StepMixRefIdeal.S1x512x128 .f32) : FVec Ideal S512x128 .f32 :=
  shapeCast _ x Cert.StepMixRefIdeal.Gen.shapeCasts_S1x512x128_S512x128

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S512x128.Idx) : S512x128.Idx := ((View.whole main_v5_0).slice (win0_4.rect t)).emb y

theorem grad (c : Dev nD) (t : Fin cfg0.N) (y : S512x128.Idx) :
    (iblk m c 0 t : FVec Ideal S1x512x128 .f32) (ix3 0 (y 0) (y 1)) = total (m ((c : Thread nD τ).loc main_arg0)) (at_ t y) := by
  unfold at_
  pointwise [total]
  blk_point [iblk, V, idx t]

theorem row1 (c : Dev nD) (t : Fin cfg0.N) (y : S512x128.Idx) :
    (iblk m c 1 t : FVec Ideal S512x128 .f32) y = rows (m ((c : Thread nD τ).loc main_arg1)) (at_ t y) := by
  unfold at_
  blk_point [iblk, V, idx t]

theorem row2 (c : Dev nD) (t : Fin cfg0.N) (y : S512x128.Idx) :
    (iblk m c 2 t : FVec Ideal S512x128 .f32) y = rows (m ((c : Thread nD τ).loc main_arg2)) (at_ t y) := by
  unfold at_
  blk_point [iblk, V, idx t]

theorem row3 (c : Dev nD) (t : Fin cfg0.N) (y : S512x128.Idx) :
    (iblk m c 3 t : FVec Ideal S512x128 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  refine Eq.trans ?_ (grad m c t y)
  pointwise [k0_pay2]

theorem final5 (c : Dev nD) : (dats m 0 c).arrAt 5 cfg0.N = Opt.moves Cert.StepMixRefIdeal.Gen.bcast_S_S512x128 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay1, k0_pay5, k0_pay2, k0_pay3, k0_pay4]
  rw [c1, c2]
  unfold Opt.move Opt.avg Opt.sq
  rfl

theorem final6 (c : Dev nD) : (dats m 0 c).arrAt 6 cfg0.N = Opt.avgs Cert.StepMixRefIdeal.Gen.bcast_S_S512x128 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay3, k0_pay2]
  rfl

theorem final7 (c : Dev nD) : (dats m 0 c).arrAt 7 cfg0.N = Opt.sqs Cert.StepMixRefIdeal.Gen.bcast_S_S512x128 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay4, k0_pay2]
  rfl

/-- The results are the reference's. -/
theorem algebraic : algebraic_StepMixIdeal_StepMixRefIdeal (hStepMixIdeal := Cert.StepMixIdeal.Gen.facts)
    (hStepMixRefIdeal := Cert.StepMixRefIdeal.Gen.facts) := fun m g m' g' _ ha => by
  refine ⟨_, _, _, _, Value.run_blocks m g, (θ_run Cert.StepMixRefIdeal.defs _ _).mono (fun r h c =>
    ⟨(h c).1.trans ?_, (h c).2.1.trans ?_, (h c).2.2.1.trans ?_, (h c).2.2.2.1.trans ?_, (h c).2.2.2.2⟩) (Cert.StepMixRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepMixRefIdeal (hStepMixRefIdeal := Cert.StepMixRefIdeal.Gen.facts) := fun m ρ _ =>
  (θ_run Cert.StepMixRefIdeal.defs _ _).mono (fun r h => ⟨fun c => (h c).2.2.2.2, sem_eq_zero_of_no_sems (by decide) r.2⟩)
    (Cert.StepMixRefIdeal.Value.run m ρ)

/-- The named constants stand for the literals' values. -/
theorem named : preserves_StepMix_StepMixIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepMixIdeal.Opt

end
-- ==== Proof.Opt.StepUp.lean ====
module

public import Idealize.ShloMosaic.Lib.Quiescent
public import Idealize.ShloMosaic.Lib.Pipeline.ValueKit
public import proofs.«01_k».proof.Defs
public import proofs.«01_k».proof.Proof.Gen.StepUpIdeal.Value
public import proofs.«01_k».proof.Proof.Gen.StepUpRefIdeal.Run
public import proofs.«01_k».proof.Proof.Opt.Step

@[expose] public section

set_option maxRecDepth 16384

noncomputable section

namespace Cert.StepUpIdeal.Opt

open Cert.StepUpIdeal Cert.StepUpIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient, turned back and as rows. -/
abbrev total (x : FVec Ideal Cert.StepUpRefIdeal.S2x704x1024 .f32) : FVec Ideal S2048x704 .f32 :=
  shapeCast _ (transpose Cert.StepUpRefIdeal.S2x1024x704 [0, 2, 1] x Cert.StepUpRefIdeal.Gen.transposes_S2x704x1024_S2x1024x704_0_2_1) Cert.StepUpRefIdeal.Gen.shapeCasts_S2x1024x704_S2048x704

/-- A weight or a moment, as rows. -/
abbrev rows (x : FVec Ideal Cert.StepUpRefIdeal.S2x1024x704 .f32) : FVec Ideal S2048x704 .f32 :=
  shapeCast _ x Cert.StepUpRefIdeal.Gen.shapeCasts_S2x1024x704_S2048x704

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S512x704.Idx) : S2048x704.Idx := ((View.whole main_v6_0).slice (win0_4.rect t)).emb y

/-- The gradient as the kernel is given it, turned on the host. -/
theorem given (x : FVec Ideal S2x704x1024 .f32) (i : S1x2048x704.Idx) :
    shapeCast S1x2048x704 (transpose S2x1024x704 [0, 2, 1] x transposes_S2x704x1024_S2x1024x704_0_2_1)
      shapeCasts_S2x1024x704_S1x2048x704 i
    = x (ix3 (⟨(i 1).val / 1024, by have : (i 1).val < 2048 := (i 1).isLt; omega⟩ : Fin 2)
      (⟨(i 2).val, (i 2).isLt⟩ : Fin 704) (⟨(i 1).val % 1024, by omega⟩ : Fin 1024)) := by
  pointwise

theorem grad (c : Dev nD) (t : Fin cfg0.N) (y : S512x704.Idx) :
    (iblk m c 0 t : FVec Ideal S1x512x704 .f32) (ix3 0 (y 0) (y 1)) = total (m ((c : Thread nD τ).loc main_arg0)) (at_ t y) := by
  unfold at_
  pointwise [total]
  blk_simp [iblk, idx t]
  entry_read
  refine (given _ _).trans ?_
  blk_ext [idx t]

theorem row1 (c : Dev nD) (t : Fin cfg0.N) (y : S512x704.Idx) :
    (iblk m c 1 t : FVec Ideal S512x704 .f32) y = rows (m ((c : Thread nD τ).loc main_arg1)) (at_ t y) := by
  unfold at_
  blk_point [iblk, V, idx t]

theorem row2 (c : Dev nD) (t : Fin cfg0.N) (y : S512x704.Idx) :
    (iblk m c 2 t : FVec Ideal S512x704 .f32) y = rows (m ((c : Thread nD τ).loc main_arg2)) (at_ t y) := by
  unfold at_
  blk_point [iblk, V, idx t]

theorem row3 (c : Dev nD) (t : Fin cfg0.N) (y : S512x704.Idx) :
    (iblk m c 3 t : FVec Ideal S512x704 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  refine Eq.trans ?_ (grad m c t y)
  pointwise [k0_pay2]

theorem final5 (c : Dev nD) : (dats m 0 c).arrAt 5 cfg0.N = Opt.moves Cert.StepUpRefIdeal.Gen.bcast_S_S2048x704 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay1, k0_pay5, k0_pay2, k0_pay3, k0_pay4]
  rw [c1, c2]
  unfold Opt.move Opt.avg Opt.sq
  rfl

theorem final6 (c : Dev nD) : (dats m 0 c).arrAt 6 cfg0.N = Opt.avgs Cert.StepUpRefIdeal.Gen.bcast_S_S2048x704 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay3, k0_pay2]
  rfl

theorem final7 (c : Dev nD) : (dats m 0 c).arrAt 7 cfg0.N = Opt.sqs Cert.StepUpRefIdeal.Gen.bcast_S_S2048x704 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay4, k0_pay2]
  rfl

/-- The results are the reference's. -/
theorem algebraic : algebraic_StepUpIdeal_StepUpRefIdeal (hStepUpIdeal := Cert.StepUpIdeal.Gen.facts)
    (hStepUpRefIdeal := Cert.StepUpRefIdeal.Gen.facts) := fun m g m' g' _ ha => by
  refine ⟨_, _, _, _, Value.run_blocks m g, (θ_run Cert.StepUpRefIdeal.defs _ _).mono (fun r h c =>
    ⟨(h c).1.trans ?_, (h c).2.1.trans ?_, (h c).2.2.1.trans ?_, (h c).2.2.2.1.trans ?_, (h c).2.2.2.2⟩) (Cert.StepUpRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepUpRefIdeal (hStepUpRefIdeal := Cert.StepUpRefIdeal.Gen.facts) := fun m ρ _ =>
  (θ_run Cert.StepUpRefIdeal.defs _ _).mono (fun r h => ⟨fun c => (h c).2.2.2.2, sem_eq_zero_of_no_sems (by decide) r.2⟩)
    (Cert.StepUpRefIdeal.Value.run m ρ)

/-- The named constants stand for the literals' values. -/
theorem named : preserves_StepUp_StepUpIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepUpIdeal.Opt

end
-- ==== Proof.Opt.SumSmall.lean ====
module

public import Idealize.ShloMosaic.Lib.Quiescent
public import Idealize.ShloMosaic.Lib.Pipeline.ValueKit
public import proofs.«01_k».proof.Defs
public import proofs.«01_k».proof.Proof.Gen.SumSmallIdeal.Value
public import proofs.«01_k».proof.Proof.Gen.SumSmallRefIdeal.Run
public import proofs.«01_k».proof.Proof.Opt.Step

@[expose] public section

set_option maxRecDepth 16384

noncomputable section

namespace Cert.SumSmallIdeal.Opt

open Cert.SumSmallIdeal Cert.SumSmallIdeal.Gen Idealize.ShloMosaic Idealize.ShloMosaic.TcCoe Idealize.SL.Sem

theorem idx : ∀ t : Fin cfg0.N, win0_0.index t = ![0, t.val, 0] ∧ win0_1.index t = ![t.val, 0] :=
  (by decide +kernel : ∀ t : Fin grid0.N, _)

/-- The sum of the devices' parts. -/
abbrev total (x : FVec Ideal Cert.SumSmallRefIdeal.S8x256x128 .f32) : FVec Ideal S256x128 .f32 :=
  Host.reduceAdd x (constant Cert.SumSmallRefIdeal.S_ .f32 0x00000000#32) Cert.SumSmallRefIdeal.Gen.reducesTo_S8x256x128_S256x128_d0 Cert.SumSmallRefIdeal.Gen.h_S_

variable (m : (ℓ : Loc nD τ sig) → Buf (Elt Ideal) ℓ)

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]; frame_out
  pointwise [k0_pay1, total]
  refine Opt.eight (fun s => iblk m c 0 t (ix3 s (y 0) (y 1))) _ fun s => ?_
  blk_point [iblk, V, idx t]

/-- The result is the reference's. -/
theorem algebraic : algebraic_SumSmallIdeal_SumSmallRefIdeal (hSumSmallIdeal := Cert.SumSmallIdeal.Gen.facts)
    (hSumSmallRefIdeal := Cert.SumSmallRefIdeal.Gen.facts) := fun m g m' g' _ ha => by
  refine ⟨_, Value.run_blocks m g, (θ_run Cert.SumSmallRefIdeal.defs _ _).mono (fun r h c => ⟨(h c).1.trans ?_, (h c).2⟩)
    (Cert.SumSmallRefIdeal.Value.run m' g')⟩
  rw [ha c]
  exact (final m c).symm

/-- The reference leaves its arguments and no semaphore raised. -/
theorem reference : quiescent_SumSmallRefIdeal (hSumSmallRefIdeal := Cert.SumSmallRefIdeal.Gen.facts) := fun m ρ _ =>
  (θ_run Cert.SumSmallRefIdeal.defs _ _).mono (fun r h => ⟨fun c => (h c).2, sem_eq_zero_of_no_sems (by decide) r.2⟩)
    (Cert.SumSmallRefIdeal.Value.run m ρ)

end Cert.SumSmallIdeal.Opt

end
-- ==== Proof.Opt.StepSmall.lean ====
module

public import Idealize.ShloMosaic.Lib.Quiescent
public import Idealize.ShloMosaic.Lib.Pipeline.ValueKit
public import proofs.«01_k».proof.Defs
public import proofs.«01_k».proof.Proof.Gen.StepSmallIdeal.Value
public import proofs.«01_k».proof.Proof.Gen.StepSmallRefIdeal.Run
public import proofs.«01_k».proof.Proof.Opt.Step

@[expose] public section

set_option maxRecDepth 16384

noncomputable section

namespace Cert.StepSmallIdeal.Opt

open Cert.StepSmallIdeal Cert.StepSmallIdeal.Gen Idealize.ShloMosaic Idealize.ShloMosaic.TcCoe Idealize.SL.Sem

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- The gradient as it is given. -/
abbrev total (x : FVec Ideal S512x128 .f32) : FVec Ideal S512x128 .f32 := x

/-- A weight or a moment as it is given. -/
abbrev rows (x : FVec Ideal S512x128 .f32) : FVec Ideal S512x128 .f32 := x

theorem c1 : (Named.named κ "c1" 0x3FC48605#32 : Ideal .f32) = ((8388608 / 5463681 : ℝ) : EReal) :=
  IdealRules.named_const.ideal_named_scalar _ _ _ _ rfl

theorem c2 : (Named.named κ "c2" 0x42C8E6D3#32 : Ideal .f32) = ((268435456 / 2672307 : ℝ) : EReal) :=
  IdealRules.named_const.ideal_named_scalar _ _ _ _ rfl

/-- Where a point's block lies in the arrays of results. -/
abbrev at_ (t : Fin cfg0.N) (y : S512x128.Idx) : S512x128.Idx := ((View.whole main_v1_0).slice (win0_4.rect t)).emb y

theorem grad (c : Dev nD) (t : Fin cfg0.N) (y : S512x128.Idx) :
    (iblk m c 0 t : FVec Ideal S1x512x128 .f32) (ix3 0 (y 0) (y 1)) = total (m ((c : Thread nD τ).loc main_arg0)) (at_ t y) := by
  unfold at_
  blk_point [iblk, V, idx t]

theorem row1 (c : Dev nD) (t : Fin cfg0.N) (y : S512x128.Idx) :
    (iblk m c 1 t : FVec Ideal S512x128 .f32) y = rows (m ((c : Thread nD τ).loc main_arg1)) (at_ t y) := by
  unfold at_
  blk_point [iblk, V, idx t]

theorem row2 (c : Dev nD) (t : Fin cfg0.N) (y : S512x128.Idx) :
    (iblk m c 2 t : FVec Ideal S512x128 .f32) y = rows (m ((c : Thread nD τ).loc main_arg2)) (at_ t y) := by
  unfold at_
  blk_point [iblk, V, idx t]

theorem row3 (c : Dev nD) (t : Fin cfg0.N) (y : S512x128.Idx) :
    (iblk m c 3 t : FVec Ideal S512x128 .f32) y = rows (m ((c : Thread nD τ).loc main_arg3)) (at_ t y) := by
  unfold at_
  blk_point [iblk, V, idx t]

theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  refine Eq.trans ?_ (grad m c t y)
  pointwise [k0_pay1]

theorem final5 (c : Dev nD) : (dats m 0 c).arrAt 5 cfg0.N = Opt.moves Cert.StepSmallRefIdeal.Gen.bcast_S_S512x128 (total (m ((c : Thread nD τ).loc main_arg0)))
    (rows (m ((c : Thread nD τ).loc main_arg1))) (rows (m ((c : Thread nD τ).loc main_arg2))) (rows (m ((c : Thread nD τ).loc main_arg3))) := by
  refine (dats m 0 c).arrAt_eq_of_covers 5 _ (by decide +kernel) fun t _ y => ?_
  blk_simp
  rw [after0_5]; frame_out
  refine Eq.trans ?_ (Opt.moves_apply _ _ _ _ _ (at_ t y)).symm
  rw [← grad m c t y, ← row1 m c t y, ← row2 m c t y, ← row3 m c t y]
  pointwise [k0_pay4, k0_pay1, k0_pay2, k0_pay3]
  rw [c1, c2]
  unfold Opt.move Opt.avg Opt.sq
  rfl

theorem final6 (c : Dev nD) : (dats m 0 c).arrAt 6 cfg0.N = Opt.avgs Cert.StepSmallRefIdeal.Gen.bcast_S_S512x128 (total (m ((c : Thread nD τ).loc main_arg0)))
    (rows (m ((c : Thread nD τ).loc main_arg2))) := by
  refine (dats m 0 c).arrAt_eq_of_covers 6 _ (by decide +kernel) fun t _ y => ?_
  blk_simp
  rw [after0_6]; frame_out
  refine Eq.trans ?_ (Opt.avgs_apply _ _ _ (at_ t y)).symm
  rw [← grad m c t y, ← row2 m c t y]
  pointwise [k0_pay2, k0_pay1]
  rfl

theorem final7 (c : Dev nD) : (dats m 0 c).arrAt 7 cfg0.N = Opt.sqs Cert.StepSmallRefIdeal.Gen.bcast_S_S512x128 (total (m ((c : Thread nD τ).loc main_arg0)))
    (rows (m ((c : Thread nD τ).loc main_arg3))) := by
  refine (dats m 0 c).arrAt_eq_of_covers 7 _ (by decide +kernel) fun t _ y => ?_
  blk_simp
  rw [after0_7]; frame_out
  refine Eq.trans ?_ (Opt.sqs_apply _ _ _ (at_ t y)).symm
  rw [← grad m c t y, ← row3 m c t y]
  pointwise [k0_pay3, k0_pay1]
  rfl

/-- The results are the reference's. -/
theorem algebraic : algebraic_StepSmallIdeal_StepSmallRefIdeal (hStepSmallIdeal := Cert.StepSmallIdeal.Gen.facts)
    (hStepSmallRefIdeal := Cert.StepSmallRefIdeal.Gen.facts) := fun m g m' g' _ ha => by
  refine ⟨_, _, _, _, Value.run_blocks m g, (θ_run Cert.StepSmallRefIdeal.defs _ _).mono (fun r h c =>
    ⟨(h c).1.trans ?_, (h c).2.1.trans ?_, (h c).2.2.1.trans ?_, (h c).2.2.2.1.trans ?_, (h c).2.2.2.2⟩) (Cert.StepSmallRefIdeal.Value.run m' g')⟩
  all_goals rw [(ha c).1]
  · exact (final4 m c).symm
  · rw [(ha c).2.1, (ha c).2.2.1, (ha c).2.2.2]
    exact (final5 m c).symm
  · rw [(ha c).2.2.1]
    exact (final6 m c).symm
  · rw [(ha c).2.2.2]
    exact (final7 m c).symm

/-- The reference leaves its arguments and no semaphore raised. -/
theorem reference : quiescent_StepSmallRefIdeal (hStepSmallRefIdeal := Cert.StepSmallRefIdeal.Gen.facts) := fun m ρ _ =>
  (θ_run Cert.StepSmallRefIdeal.defs _ _).mono (fun r h => ⟨fun c => (h c).2.2.2.2, sem_eq_zero_of_no_sems (by decide) r.2⟩)
    (Cert.StepSmallRefIdeal.Value.run m ρ)

/-- The named constants stand for the literals' values. -/
theorem named : preserves_StepSmall_StepSmallIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

end Cert.StepSmallIdeal.Opt

end
-- ==== Proof.Norm.NormDx.lean ====
module

public import Idealize.ShloMosaic.Lib.Quiescent
public import Idealize.ShloMosaic.Lib.Pipeline.ValueKit
public import proofs.«01_k».proof.Defs
public import proofs.«01_k».proof.Proof.Gen.NormDxIdeal.Value
public import proofs.«01_k».proof.Proof.Gen.NormDxRefIdeal.Run
public import proofs.«01_k».proof.Proof.Mm.Sums

@[expose] public section

set_option maxRecDepth 16384

noncomputable section

/-! # The gradient of a root-mean-square norm, in its input and in its gain -/

namespace Cert.NormDxIdeal.Norm

open Cert.NormDxIdeal Cert.NormDxIdeal.Gen Idealize.ShloMosaic Idealize.ShloMosaic.TcCoe Idealize.SL.Sem

theorem hz : (![0, 0] : Fin 2 → Nat) = fun _ => 0 := funext fun a => by fin_cases a <;> rfl

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-! ## The reference -/

namespace Want

open Cert.NormDxRefIdeal Cert.NormDxRefIdeal.Gen

abbrev Rows := FVec Ideal S4096x1024 .f32
abbrev Gain := FVec Ideal S1x1024 .f32
abbrev Col := FVec Ideal S4096x1 .f32

abbrev num (b : BitVec 32) : Col := broadcastInDim S4096x1 ![] bcast_S_S4096x1 (constant S_ .f32 b)

/-- A row's mean square and a bit. -/
abbrev mean (x : Rows) : Col :=
  addf (Host.divf (broadcastInDim S4096x1 ![0] bcast_S4096_S4096x1_0 (Host.reduceAdd (mulf x x) (constant S_ .f32 0x00000000#32)
    reducesTo_S4096x1024_S4096_d1 h_S_)) (num 0x44800000#32)) (num 0x358637BD#32)

/-- The gained gradient. -/
abbrev gained (dh : Rows) (g : Gain) : Rows := mulf dh (broadcastInDim S4096x1024 ![0, 1] bcast_S1x1024_S4096x1024_0_1 g)

/-- What every entry of a row takes through the row's norm. -/
abbrev back (x dh : Rows) (g : Gain) : Rows :=
  broadcastInDim S4096x1024 ![0] bcast_S4096_S4096x1024_0 (Host.reduceAdd (Host.divf (mulf (shapeCast _ (Host.reduceAdd (mulf x (gained dh g))
    (constant S_ .f32 0x00000000#32) reducesTo_S4096x1024_S4096_d1 h_S_) shapeCasts_S4096_S4096x1)
    (mulf (num 0xBF000000#32) (Host.divf (Host.rsqrt (mean x)) (mean x)))) (num 0x44800000#32)) (constant S_ .f32 0x00000000#32)
    reducesTo_S4096x1_S4096_d1 h_S_)

/-- The gradient in the input. -/
abbrev dx (x dh d : Rows) (g : Gain) : Rows :=
  addf (addf (addf d (mulf (gained dh g) (broadcastInDim S4096x1024 ![0, 1] bcast_S4096x1_S4096x1024_0_1 (Host.rsqrt (mean x)))))
    (mulf x (back x dh g))) (mulf (back x dh g) x)

/-- The gradient in the gain. -/
abbrev dg (x dh : Rows) : Gain :=
  shapeCast _ (Host.reduceAdd (mulf (mulf x (broadcastInDim S4096x1024 ![0, 1] bcast_S4096x1_S4096x1024_0_1 (Host.rsqrt (mean x)))) dh)
    (constant S_ .f32 0x00000000#32) reducesTo_S4096x1024_S1024_d0 h_S_) NormDxRefIdeal.Gen.shapeCasts_S1024_S1x1024

end Want

/-! ## What the kernel's body gives out -/

section Body

variable (c : Dev nD) (i : grid0.Coords) (a1 : Memref sig .tc .vmem S512x1024 .f32) (h1 : a1.IsWhole) (a2 : Memref sig .tc .vmem S512x1024 .f32)
  (h2 : a2.IsWhole) (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x1024 .f32) (h6 : a6.IsWhole)
  (x dh d : Vec Ideal S512x1024 .f32) (g s : Vec Ideal S1x1024 .f32)

theorem rows_first (hc : cond0_0 i) : out0_A_4 c i a1 h1 a2 h2 a3 h3 a4 h4 a5 h5 a6 h6 hc x dh d g = k0_pay6 x dh d g := by
  unfold out0_A_4
  rw [View.read_writes_eq_canon _ _ _ (cover0_A_4 c i a1 h1 a2 h2 a3 h3 a4 h4 a5 h5 a6 h6 hc x dh d g)]
  unfold kernelRun0_A
  dsimp only
  rw [View.canon_unit_zero (S := S512x1024) hz]
  simp only [View.readAt_eq_ld, h1.read_unread, h2.read_unread, h3.read_unread, h4.read_unread, View.ld_unit_zero (S := S512x1024) hz,
    View.ld_unit_zero (S := S1x1024) hz]

theorem rows_next (hc : ¬cond0_0 i) : out0_B_4 c i a1 h1 a2 h2 a3 h3 a4 h4 a5 h5 a6 h6 hc x dh d g s = k0_pay6 x dh d g := by
  unfold out0_B_4
  rw [View.read_writes_eq_canon _ _ _ (cover0_B_4 c i a1 h1 a2 h2 a3 h3 a4 h4 a5 h5 a6 h6 hc x dh d g s)]
  unfold kernelRun0_B
  dsimp only
  rw [View.canon_unit_zero (S := S512x1024) hz]
  simp only [View.readAt_eq_ld, h1.read_unread, h2.read_unread, h3.read_unread, h4.read_unread, View.ld_unit_zero (S := S512x1024) hz,
    View.ld_unit_zero (S := S1x1024) hz]

theorem gain_first (hc : cond0_0 i) :
    out0_A_5 c i a1 h1 a2 h2 a3 h3 a4 h4 a5 h5 a6 h6 hc x dh d g = k0_pay2 (k0_pay5 x dh) (k0_pay1 (F := Ideal)) := by
  unfold out0_A_5
  rw [View.read_writes_eq_canon _ _ _ (cover0_A_5 c i a1 h1 a2 h2 a3 h3 a4 h4 a5 h5 a6 h6 hc x dh d g)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

theorem gain_next (hc : ¬cond0_0 i) :
    out0_B_5 c i a1 h1 a2 h2 a3 h3 a4 h4 a5 h5 a6 h6 hc x dh d g s = k0_pay2 (k0_pay5 x dh) s := by
  unfold out0_B_5
  rw [View.read_writes_eq_canon _ _ _ (cover0_B_5 c i a1 h1 a2 h2 a3 h3 a4 h4 a5 h5 a6 h6 hc x dh d g s)]
  unfold kernelRun0_B
  dsimp only
  sl_unfold_words
  rw [View.canon_unit_zero (S := S1x1024) hz]
  simp only [View.readAt_eq_ld, h1.read_unread, h2.read_unread, h6.read_unread, View.ld_unit_zero (S := S512x1024) hz,
    View.ld_unit_zero (S := S1x1024) hz]

end Body

variable (m : (ℓ : Loc nD τ sig) → Buf (Elt Ideal) ℓ)

theorem rows (c : Dev nD) (t : Fin cfg0.N) :
    (outsAt0 m c t.val t.isLt).1 = k0_pay6 (iblk m c 0 t) (iblk m c 1 t) (iblk m c 2 t) (iblk m c 3 t) := by
  by_cases h0 : t.val % 8 = 0
  · rw [outsAt0_A m c t h0]
    dsimp only
    rw [rows_first]
  · rw [outsAt0_B m c t h0]
    dsimp only
    rw [rows_next]

theorem final (c : Dev nD) : (dats m 0 c).arrAt 4 cfg0.N = Want.dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, rows]
  pointwise [k0_pay6, k0_pay4, k0_pay3, Want.dx, Want.back, Want.gained, Want.mean, Want.num]
  blk_point [iblk, V, idx t]

abbrev inp (c : Dev nD) : (⟨2, ![4096, 1024]⟩ : Shape).Idx → EReal := m ((c : Thread nD τ).loc main_arg0)
abbrev grad (c : Dev nD) : (⟨2, ![4096, 1024]⟩ : Shape).Idx → EReal := m ((c : Thread nD τ).loc main_arg1)

theorem at0 : ∀ t : Fin cfg0.N, win0_0.index t (0 : Fin 2) = t.val % 8 ∧ win0_0.index t (1 : Fin 2) = 0 :=
  (by decide +kernel : ∀ t : Fin grid0.N, _)
theorem at1 : ∀ t : Fin cfg0.N, win0_1.index t (0 : Fin 2) = t.val % 8 ∧ win0_1.index t (1 : Fin 2) = 0 :=
  (by decide +kernel : ∀ t : Fin grid0.N, _)

theorem x_at (c : Dev nD) (t : Fin cfg0.N) (k : Fin 512) (q : Fin 1024) :
    (iblk m c 0 t (ix2 k q) : EReal) = Mm.ent (inp m c) (512 * (t.val % 8) + k.val) q.val := by
  unfold iblk
  rw [View.read_apply]
  show V m c main_arg0 _ = _
  rw [V_main_arg0, ← show 1024 * 0 + q.val = q.val by omega]
  exact Mm.ent_emb (inp m c) ((cfg0.win 0).blk t).view.emb _ _ (fun j => congrArg (· * 512 + 1 * (j 0).val) (at0 t).1)
    (fun j => congrArg (· * 1024 + 1 * (j 1).val) (at0 t).2) k q

theorem dh_at (c : Dev nD) (t : Fin cfg0.N) (k : Fin 512) (q : Fin 1024) :
    (iblk m c 1 t (ix2 k q) : EReal) = Mm.ent (grad m c) (512 * (t.val % 8) + k.val) q.val := by
  unfold iblk
  rw [View.read_apply]
  show V m c main_arg1 _ = _
  rw [V_main_arg1, ← show 1024 * 0 + q.val = q.val by omega]
  exact Mm.ent_emb (grad m c) ((cfg0.win 1).blk t).view.emb _ _ (fun j => congrArg (· * 512 + 1 * (j 0).val) (at1 t).1)
    (fun j => congrArg (· * 1024 + 1 * (j 1).val) (at1 t).2) k q

/-- A row's share of the gradient in the gain. -/
def share (x dh : EReal) (r : Fin 1024 → EReal) : EReal :=
  x * Ideal.rsqrt (Ideal.div (∑ j, r j * r j) (Ideal.ofBits .f32 0x44800000#32) + Ideal.ofBits .f32 0x358637BD#32) * dh

theorem pay (x dh : Vec Ideal S512x1024 .f32) (s : Vec Ideal S1x1024 .f32) (q : Fin 1024) :
    (k0_pay2 (k0_pay5 x dh) s (ix2 0 q) : EReal) = s (ix2 0 q) + ∑ k : Fin 512, share (x (ix2 k q)) (dh (ix2 k q)) fun j => x (ix2 k j) := by
  pointwise [k0_pay2, k0_pay5, k0_pay4, k0_pay3]
  rfl

theorem pay0 (x dh : Vec Ideal S512x1024 .f32) (q : Fin 1024) :
    (k0_pay2 (k0_pay5 x dh) (k0_pay1 (F := Ideal)) (ix2 0 q) : EReal) = ∑ k : Fin 512, share (x (ix2 k q)) (dh (ix2 k q)) fun j => x (ix2 k j) := by
  rw [pay]
  pointwise [k0_pay1]

/-- The share of row `k`. -/
abbrev term (c : Dev nD) (q k : ℕ) : EReal := share (Mm.ent (inp m c) k q) (Mm.ent (grad m c) k q) fun j => Mm.ent (inp m c) k j.val

theorem part (c : Dev nD) (t : Fin cfg0.N) (q : Fin 1024) :
    (∑ k : Fin 512, share (iblk m c 0 t (ix2 k q)) (iblk m c 1 t (ix2 k q)) fun j => iblk m c 0 t (ix2 k j))
      = ∑ k : Fin 512, term m c q.val (512 * (t.val % 8) + k.val) :=
  Finset.sum_congr rfl fun k _ => by simp only [x_at, dh_at]

/-- What the last point leaves. -/
theorem block (c : Dev nD) (t : ℕ) (ht : t < cfg0.N) (h : t = 7) (q : Fin 1024) :
    ((outsAt0 m c t ht).2 (ix2 0 q) : EReal) = ∑ k : Fin 4096, term m c q.val k.val := by
  have hn : ∀ t ht, ¬ t % 8 = 0 → ((outsAt0 m c t ht).2 (ix2 0 q) : EReal)
      = (outsAt0 m c (t - 1) (by omega)).2 (ix2 0 q) + ∑ k : Fin 512, term m c q.val (512 * (t % 8) + k.val) := fun t ht h0 => by
    rw [outsAt0_B m c ⟨t, ht⟩ h0]
    dsimp only
    rw [gain_next, pay]
    exact congrArg _ (part m c ⟨t, ht⟩ q)
  refine Mm.blocked 8 512 4096 (by decide) rfl (fun _ => term m c q.val) (fun t ht => (outsAt0 m c t ht).2 (ix2 0 q))
    (fun t ht => (outsAt0 m c t ht).2 (ix2 0 q)) (fun t ht h0 => ?_) (fun t ht h0 _ => hn t ht h0) (fun t ht h1 => hn t ht (by omega)) 0 t ht h
  rw [outsAt0_A m c ⟨t, ht⟩ h0]
  dsimp only
  rw [gain_first, pay0]
  exact part m c ⟨t, ht⟩ q

theorem want (c : Dev nD) (q : Fin 1024) :
    (Want.dg (inp m c) (grad m c) (ix2 0 q) : EReal) = ∑ k : Fin 4096, term m c q.val k.val := by
  pointwise [Want.dg, Want.mean, Want.num]
  refine Finset.sum_congr rfl fun k _ => ?_
  unfold term share
  simp only [Mm.ent_of _ k.isLt q.isLt, Mm.ent_of _ k.isLt (Fin.isLt _)]

theorem gain (c : Dev nD) : (dats m 0 c).arrAt 5 cfg0.N = Want.dg (m ((c : Thread nD τ).loc main_arg0)) (m ((c : Thread nD τ).loc main_arg1)) := by
  refine (dats m 0 c).arrAt_eq_of_covers 5 _ (by decide +kernel) fun t hf y => ?_
  have h7 : t.val = 7 := (by decide +kernel : ∀ t : Fin cfg0.N, (cfg0.win 5).flush t = true → t.val = 7) t hf
  blk_simp
  rw [after0_5]
  have hy : (y : (⟨2, ![1, 1024]⟩ : Shape).Idx) = ix2 0 (y 1) := by
    refine (eq_ix2 (n0 := 1) (n1 := 1024) y).trans (congrArg (ix2 · (y 1)) (Subsingleton.elim (α := Fin 1) _ _))
  have he : (win0_5.blk t).view.emb y = ix2 0 (y 1) := by
    blk_ext [idx t]
  rw [he]
  exact (congrArg (outsAt0 m c t.val t.isLt).2 hy).trans ((block m c t.val t.isLt h7 (y 1)).trans (want m c (y 1)).symm)

/-- The results are the reference's. -/
theorem algebraic : algebraic_NormDxIdeal_NormDxRefIdeal (hNormDxIdeal := Cert.NormDxIdeal.Gen.facts)
    (hNormDxRefIdeal := Cert.NormDxRefIdeal.Gen.facts) := fun m g m' g' _ ha => by
  refine ⟨_, _, Value.run_blocks m g, (θ_run Cert.NormDxRefIdeal.defs _ _).mono (fun r h c => ⟨(h c).1.trans ?_, (h c).2.1.trans ?_, (h c).2.2⟩)
    (Cert.NormDxRefIdeal.Value.run m' g')⟩
  · rw [(ha c).1, (ha c).2.1, (ha c).2.2.1, (ha c).2.2.2]
    exact (final m c).symm
  · rw [(ha c).1, (ha c).2.1]
    exact (gain m c).symm

/-- The reference leaves its arguments and no semaphore raised. -/
theorem reference : quiescent_NormDxRefIdeal (hNormDxRefIdeal := Cert.NormDxRefIdeal.Gen.facts) := fun m ρ _ =>
  (θ_run Cert.NormDxRefIdeal.defs _ _).mono (fun r h => ⟨fun c => (h c).2.2, sem_eq_zero_of_no_sems (by decide) r.2⟩)
    (Cert.NormDxRefIdeal.Value.run m ρ)

end Cert.NormDxIdeal.Norm

end
-- ==== Proof.Norm.Norm.lean ====
module

public import Idealize.ShloMosaic.Lib.Quiescent
public import Idealize.ShloMosaic.Lib.Pipeline.ValueKit
public import proofs.«01_k».proof.Defs
public import proofs.«01_k».proof.Proof.Gen.NormIdeal.Value
public import proofs.«01_k».proof.Proof.Gen.NormRefIdeal.Run

@[expose] public section

set_option maxRecDepth 16384

noncomputable section

namespace Cert.NormIdeal.Norm

open Cert.NormIdeal Cert.NormIdeal.Gen Idealize.ShloMosaic Idealize.ShloMosaic.TcCoe Idealize.SL.Sem

theorem idx : ∀ t : Fin cfg0.N, win0_0.index t = ![t.val, 0] ∧ win0_1.index t = ![0, 0] ∧ win0_2.index t = ![t.val, 0] :=
  (by decide +kernel : ∀ t : Fin grid0.N, _)

/-- The reference's norm of the rows. -/
abbrev rms (x : FVec Ideal Cert.NormRefIdeal.S4096x1024 .f32) (g : FVec Ideal Cert.NormRefIdeal.S1x1024 .f32) :
    FVec Ideal Cert.NormRefIdeal.S4096x1024 .bf16 :=
  open Cert.NormRefIdeal Cert.NormRefIdeal.Gen in
  truncf .bf16 (mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)) Cert.NormRefIdeal.Gen.bitsLt_bf16_f32

variable (m : (ℓ : Loc nD τ sig) → Buf (Elt Ideal) ℓ)

theorem final (c : Dev nD) : (dats m 0 c).arrAt 2 cfg0.N = rms (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rms]
  blk_point [iblk, V, idx t]

/-- The result is the reference's. -/
theorem algebraic : algebraic_NormIdeal_NormRefIdeal (hNormIdeal := Cert.NormIdeal.Gen.facts)
    (hNormRefIdeal := Cert.NormRefIdeal.Gen.facts) := fun m g m' g' _ ha => by
  refine ⟨_, Value.run_blocks m g, (θ_run Cert.NormRefIdeal.defs _ _).mono (fun r h c => ⟨(h c).1.trans ?_, (h c).2⟩)
    (Cert.NormRefIdeal.Value.run m' g')⟩
  rw [(ha c).1, (ha c).2]
  exact (final m c).symm

/-- The reference leaves its arguments and no semaphore raised. -/
theorem reference : quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run m ρ)

end Cert.NormIdeal.Norm

end
-- ==== Proof.Norm.MemNorm.lean ====
module

public import Idealize.ShloMosaic.Lib.Quiescent
public import Idealize.ShloMosaic.Lib.Pipeline.ValueKit
public import proofs.«01_k».proof.Defs
public import proofs.«01_k».proof.Proof.Gen.MemNormIdeal.Value
public import proofs.«01_k».proof.Proof.Gen.MemNormRefIdeal.Run

@[expose] public section

set_option maxRecDepth 16384

noncomputable section

namespace Cert.MemNormIdeal.Norm

open Cert.MemNormIdeal Cert.MemNormIdeal.Gen Idealize.ShloMosaic Idealize.ShloMosaic.TcCoe Idealize.SL.Sem

theorem idx : ∀ t : Fin cfg0.N, win0_0.index t = ![t.val, 0] ∧ win0_1.index t = ![0, 0] ∧ win0_2.index t = ![t.val, 0] :=
  (by decide +kernel : ∀ t : Fin grid0.N, _)

/-- The reference's norm of the rows. -/
abbrev rms (x : FVec Ideal Cert.MemNormRefIdeal.S256x1024 .f32) (g : FVec Ideal Cert.MemNormRefIdeal.S1x1024 .f32) :
    FVec Ideal Cert.MemNormRefIdeal.S256x1024 .bf16 :=
  open Cert.MemNormRefIdeal Cert.MemNormRefIdeal.Gen in
  truncf .bf16 (mulf (mulf x (broadcastInDim S256x1024 ![0, 1] bcast_S256x1_S256x1024_0_1 (Host.rsqrt (addf (Host.divf
    (broadcastInDim S256x1 ![0] bcast_S256_S256x1_0 (Host.reduceAdd (mulf x x) (constant S_ .f32 0x00000000#32) reducesTo_S256x1024_S256_d1 h_S_))
    (broadcastInDim S256x1 ![] bcast_S_S256x1 (constant S_ .f32 0x44800000#32)))
    (broadcastInDim S256x1 ![] bcast_S_S256x1 (constant S_ .f32 0x358637BD#32))))))
    (broadcastInDim S256x1024 ![0, 1] bcast_S1x1024_S256x1024_0_1 g)) Cert.MemNormRefIdeal.Gen.bitsLt_bf16_f32

variable (m : (ℓ : Loc nD τ sig) → Buf (Elt Ideal) ℓ)

theorem final (c : Dev nD) : (dats m 0 c).arrAt 2 cfg0.N = rms (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, rms]
  blk_point [iblk, V, idx t]

/-- The result is the reference's. -/
theorem algebraic : algebraic_MemNormIdeal_MemNormRefIdeal (hMemNormIdeal := Cert.MemNormIdeal.Gen.facts)
    (hMemNormRefIdeal := Cert.MemNormRefIdeal.Gen.facts) := fun m g m' g' _ ha => by
  refine ⟨_, Value.run_blocks m g, (θ_run Cert.MemNormRefIdeal.defs _ _).mono (fun r h c => ⟨(h c).1.trans ?_, (h c).2⟩)
    (Cert.MemNormRefIdeal.Value.run m' g')⟩
  rw [(ha c).1, (ha c).2]
  exact (final m c).symm

/-- The reference leaves its arguments and no semaphore raised. -/
theorem reference : quiescent_MemNormRefIdeal (hMemNormRefIdeal := Cert.MemNormRefIdeal.Gen.facts) := fun m ρ _ =>
  (θ_run Cert.MemNormRefIdeal.defs _ _).mono (fun r h => ⟨fun c => (h c).2, sem_eq_zero_of_no_sems (by decide) r.2⟩)
    (Cert.MemNormRefIdeal.Value.run m ρ)

end Cert.MemNormIdeal.Norm

end
-- ==== Proof.Norm.NormTwo.lean ====
module

public import Idealize.ShloMosaic.Lib.Quiescent
public import Idealize.ShloMosaic.Lib.Pipeline.ValueKit
public import proofs.«01_k».proof.Defs
public import proofs.«01_k».proof.Proof.Gen.NormTwoIdeal.Value
public import proofs.«01_k».proof.Proof.Gen.NormTwoRefIdeal.Run
public import proofs.«01_k».proof.Proof.Norm.Norm

@[expose] public section

set_option maxRecDepth 16384

noncomputable section

namespace Cert.NormTwoIdeal.Norm

open Cert.NormTwoIdeal Cert.NormTwoIdeal.Gen Idealize.ShloMosaic Idealize.ShloMosaic.TcCoe Idealize.SL.Sem

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ)

theorem first (c : Dev nD) : (dats m 0 c).arrAt 3 cfg0.N
    = NormIdeal.Norm.rms (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay2, k0_pay1, NormIdeal.Norm.rms]
  blk_point [iblk, V, idx t]

theorem second (c : Dev nD) : (dats m 0 c).arrAt 4 cfg0.N
    = NormIdeal.Norm.rms (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay3, k0_pay1, NormIdeal.Norm.rms]
  blk_point [iblk, V, idx t]

/-- The results are the reference's. -/
theorem algebraic : algebraic_NormTwoIdeal_NormTwoRefIdeal (hNormTwoIdeal := Cert.NormTwoIdeal.Gen.facts)
    (hNormTwoRefIdeal := Cert.NormTwoRefIdeal.Gen.facts) := fun m g m' g' _ ha => by
  refine ⟨_, _, Value.run_blocks m g, (θ_run Cert.NormTwoRefIdeal.defs _ _).mono (fun r h c => ⟨(h c).1.trans ?_, (h c).2.1.trans ?_, (h c).2.2⟩)
    (Cert.NormTwoRefIdeal.Value.run m' g')⟩
  · rw [(ha c).1, (ha c).2.1]
    exact (first m c).symm
  · rw [(ha c).1, (ha c).2.2]
    exact (second m c).symm

/-- The reference leaves its arguments and no semaphore raised. -/
theorem reference : quiescent_NormTwoRefIdeal (hNormTwoRefIdeal := Cert.NormTwoRefIdeal.Gen.facts) := fun m ρ _ =>
  (θ_run Cert.NormTwoRefIdeal.defs _ _).mono (fun r h => ⟨fun c => (h c).2.2, sem_eq_zero_of_no_sems (by decide) r.2⟩)
    (Cert.NormTwoRefIdeal.Value.run m ρ)

end Cert.NormTwoIdeal.Norm

end
-- ==== Proof.Norm.Loss.lean ====
module

public import Idealize.ShloMosaic.Lib.Quiescent
public import Idealize.ShloMosaic.Lib.Pipeline.ValueKit
public import proofs.«01_k».proof.Defs
public import proofs.«01_k».proof.Proof.Gen.LossIdeal.Value
public import proofs.«01_k».proof.Proof.Gen.LossRefIdeal.Run
public import proofs.«01_k».proof.Proof.Mm.Sums

@[expose] public section

set_option maxRecDepth 16384

noncomputable section

/-! # The loss of one device and its gradient -/

namespace Cert.LossIdeal.Norm

open Cert.LossIdeal Cert.LossIdeal.Gen Idealize.ShloMosaic Idealize.ShloMosaic.TcCoe Idealize.SL.Sem

theorem hz : (![0, 0] : Fin 2 → Nat) = fun _ => 0 := funext fun a => by fin_cases a <;> rfl

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-! ## The reference -/

namespace Want

open Cert.LossRefIdeal Cert.LossRefIdeal.Gen

abbrev Rows := FVec Ideal S4096x1024 .f32

abbrev num (b : BitVec 32) : FVec Ideal S4096 .f32 := broadcastInDim S4096 ![] bcast_S_S4096 (constant S_ .f32 b)

/-- Half the sum of the rows' mean squares, in every place. -/
abbrev loss (y t : Rows) : FVec Ideal S8x128 .f32 :=
  broadcastInDim S8x128 ![] bcast_S_S8x128 (mulf (constant S_ .f32 0x3F000000#32) (Host.reduceAdd (Host.divf (Host.reduceAdd
    (mulf (subf y t) (subf y t)) (constant S_ .f32 0x00000000#32) reducesTo_S4096x1024_S4096_d1 h_S_) (num 0x44800000#32))
    (constant S_ .f32 0x00000000#32) reducesTo_S4096_S_d0 h_S_))

/-- Its gradient. -/
abbrev grad (y t : Rows) : Rows :=
  mulf (broadcastInDim S4096x1024 ![0] bcast_S4096_S4096x1024_0 (Host.divf (broadcastInDim S4096 ![] bcast_S_S4096
    (mulf (constant S_ .f32 0x3F000000#32) (constant S_ .f32 0x3F800000#32))) (num 0x44800000#32)))
    (mulf (broadcastInDim S4096x1024 ![] bcast_S_S4096x1024 (constant S_ .f32 0x40000000#32)) (subf y t))

end Want

/-! ## What the kernel's body gives out -/

section Body

variable (c : Dev nD) (i : grid0.Coords) (a1 : Memref sig .tc .vmem S512x1024 .f32) (h1 : a1.IsWhole) (a2 : Memref sig .tc .vmem S512x1024 .f32)
  (h2 : a2.IsWhole) (a3 : Memref sig .tc .vmem S8x128 .f32) (h3 : a3.IsWhole) (a4 : Memref sig .tc .vmem S512x1024 .f32) (h4 : a4.IsWhole)
  (a5 : Memref sig .tc .vmem S512x1024 .bf16) (h5 : a5.IsWhole) (y w : Vec Ideal S512x1024 .f32) (s : Vec Ideal S8x128 .f32)

theorem loss_first (hc : cond0_0 i) :
    out0_A_2 c i a1 h1 a2 h2 a3 h3 a4 h4 a5 h5 hc y w = k0_pay5 y w (k0_pay4 (F := Ideal)) := by
  unfold out0_A_2
  rw [View.read_writes_eq_canon _ _ _ (cover0_A_2 c i a1 h1 a2 h2 a3 h3 a4 h4 a5 h5 hc y w)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S512x1024) hz]

theorem loss_next (hc : ¬cond0_0 i) : out0_B_2 c i a1 h1 a2 h2 a3 h3 a4 h4 a5 h5 hc y w s = k0_pay5 y w s := by
  unfold out0_B_2
  rw [View.read_writes_eq_canon _ _ _ (cover0_B_2 c i a1 h1 a2 h2 a3 h3 a4 h4 a5 h5 hc y w s)]
  unfold kernelRun0_B
  dsimp only
  sl_unfold_words
  rw [View.canon_unit_zero (S := S8x128) hz]
  simp only [View.readAt_eq_ld, h1.read_unread, h2.read_unread, h3.read_unread, View.ld_unit_zero (S := S512x1024) hz,
    View.ld_unit_zero (S := S8x128) hz]

theorem grad_first (hc : cond0_0 i) : out0_A_3 c i a1 h1 a2 h2 a3 h3 a4 h4 a5 h5 hc y w = k0_pay2 y w := by
  unfold out0_A_3
  rw [View.read_writes_eq_canon _ _ _ (cover0_A_3 c i a1 h1 a2 h2 a3 h3 a4 h4 a5 h5 hc y w)]
  unfold kernelRun0_A
  dsimp only
  rw [View.canon_unit_zero (S := S512x1024) hz]
  simp only [View.readAt_eq_ld, h1.read_unread, h2.read_unread, View.ld_unit_zero (S := S512x1024) hz]

theorem grad_next (hc : ¬cond0_0 i) : out0_B_3 c i a1 h1 a2 h2 a3 h3 a4 h4 a5 h5 hc y w s = k0_pay2 y w := by
  unfold out0_B_3
  rw [View.read_writes_eq_canon _ _ _ (cover0_B_3 c i a1 h1 a2 h2 a3 h3 a4 h4 a5 h5 hc y w s)]
  unfold kernelRun0_B
  dsimp only
  rw [View.canon_unit_zero (S := S512x1024) hz]
  simp only [View.readAt_eq_ld, h1.read_unread, h2.read_unread, View.ld_unit_zero (S := S512x1024) hz]

theorem cast_first (hc : cond0_0 i) : out0_A_4 c i a1 h1 a2 h2 a3 h3 a4 h4 a5 h5 hc y w = k0_pay3 y w := by
  unfold out0_A_4
  rw [View.read_writes_eq_canon _ _ _ (cover0_A_4 c i a1 h1 a2 h2 a3 h3 a4 h4 a5 h5 hc y w)]
  unfold kernelRun0_A
  dsimp only
  rw [View.canon_unit_zero (S := S512x1024) hz]
  simp only [View.readAt_eq_ld, h1.read_unread, h2.read_unread, View.ld_unit_zero (S := S512x1024) hz]

theorem cast_next (hc : ¬cond0_0 i) : out0_B_4 c i a1 h1 a2 h2 a3 h3 a4 h4 a5 h5 hc y w s = k0_pay3 y w := by
  unfold out0_B_4
  rw [View.read_writes_eq_canon _ _ _ (cover0_B_4 c i a1 h1 a2 h2 a3 h3 a4 h4 a5 h5 hc y w s)]
  unfold kernelRun0_B
  dsimp only
  rw [View.canon_unit_zero (S := S512x1024) hz]
  simp only [View.readAt_eq_ld, h1.read_unread, h2.read_unread, View.ld_unit_zero (S := S512x1024) hz]

end Body

/-! ## Numbers -/

theorem half : Ideal.ofBits .f32 0x3F000000#32 = ((1 / 2 : ℝ) : EReal) := by
  simp [Ideal.ofBits, Ideal.ieee]; rw [← EReal.coe_mul]; norm_num
theorem two : Ideal.ofBits .f32 0x40000000#32 = ((2 : ℝ) : EReal) := by
  simp [Ideal.ofBits, Ideal.ieee]; rw [← EReal.coe_mul]; norm_num
theorem wide : Ideal.ofBits .f32 0x44800000#32 = ((1024 : ℝ) : EReal) := by
  simp [Ideal.ofBits, Ideal.ieee]; rw [← EReal.coe_mul]; norm_num
theorem part1 : Ideal.ofBits .f32 0x3A800000#32 = ((1 / 1024 : ℝ) : EReal) := by
  simp [Ideal.ofBits, Ideal.ieee]; rw [← EReal.coe_mul]; norm_num
theorem part2 : Ideal.ofBits .f32 0x3A000000#32 = ((1 / 2048 : ℝ) : EReal) := by
  simp [Ideal.ofBits, Ideal.ieee]; rw [← EReal.coe_mul]; norm_num

/-- A real factor that is not negative goes into a sum. -/
theorem into {ι : Type} (S : Finset ι) (a : ℝ) (ha : 0 ≤ a) (f : ι → EReal) : (a : EReal) * ∑ k ∈ S, f k = ∑ k ∈ S, (a : EReal) * f k := by
  classical
  induction S using Finset.induction_on with
  | empty => simp
  | insert k S hk ih =>
    rw [Finset.sum_insert hk, Finset.sum_insert hk, EReal.left_distrib_of_nonneg_of_ne_top (by exact_mod_cast ha) (EReal.coe_ne_top a), ih]

theorem step (d : EReal) : Ideal.div (Ideal.ofBits .f32 0x3F000000#32) (Ideal.ofBits .f32 0x44800000#32)
    * (Ideal.ofBits .f32 0x40000000#32 * d) = d * Ideal.ofBits .f32 0x3A800000#32 := by
  rw [half, two, wide, part1, Ideal.div_coe (by norm_num), mul_comm d, ← mul_assoc, ← EReal.coe_mul, ← EReal.coe_mul]
  norm_num

theorem share (s : EReal) : Ideal.ofBits .f32 0x3F000000#32 * Ideal.div s (Ideal.ofBits .f32 0x44800000#32) = Ideal.ofBits .f32 0x3A000000#32 * s := by
  rw [half, wide, part2, Ideal.div_coe (by norm_num), mul_comm s, ← mul_assoc, ← EReal.coe_mul]
  norm_num

variable (m : (ℓ : Loc nD τ sig) → Buf (Elt Ideal) ℓ)

theorem grads (c : Dev nD) (t : Fin cfg0.N) : (outsAt0 m c t.val t.isLt).2.1 = k0_pay2 (iblk m c 0 t) (iblk m c 1 t) := by
  by_cases h0 : t.val % 8 = 0
  · rw [outsAt0_A m c t h0]
    dsimp only
    rw [grad_first]
  · rw [outsAt0_B m c t h0]
    dsimp only
    rw [grad_next]

theorem casts (c : Dev nD) (t : Fin cfg0.N) : (outsAt0 m c t.val t.isLt).2.2 = k0_pay3 (iblk m c 0 t) (iblk m c 1 t) := by
  by_cases h0 : t.val % 8 = 0
  · rw [outsAt0_A m c t h0]
    dsimp only
    rw [cast_first]
  · rw [outsAt0_B m c t h0]
    dsimp only
    rw [cast_next]

theorem grad (c : Dev nD) :
    (dats m 0 c).arrAt 3 cfg0.N = Want.grad (m ((c : Thread nD τ).loc main_arg0)) (m ((c : Thread nD τ).loc main_arg1)) := by
  refine (dats m 0 c).arrAt_eq_of_covers 3 _ (by decide +kernel) fun t _ y => ?_
  blk_simp
  rw [after0_3, grads]
  pointwise [k0_pay2, k0_pay1, Want.grad, Want.num]
  rw [step]
  blk_point [iblk, V, idx t]

theorem cast (c : Dev nD) : (dats m 0 c).arrAt 4 cfg0.N
    = truncf .bf16 (Want.grad (m ((c : Thread nD τ).loc main_arg0)) (m ((c : Thread nD τ).loc main_arg1))) bitsLt_bf16_f32 := by
  refine (dats m 0 c).arrAt_eq_of_covers 4 _ (by decide +kernel) fun t _ y => ?_
  blk_simp
  rw [after0_4, casts]
  pointwise [k0_pay3, k0_pay1, Want.grad, Want.num]
  rw [step]
  blk_point [iblk, V, idx t]

abbrev out (c : Dev nD) : (⟨2, ![4096, 1024]⟩ : Shape).Idx → EReal := m ((c : Thread nD τ).loc main_arg0)
abbrev aim (c : Dev nD) : (⟨2, ![4096, 1024]⟩ : Shape).Idx → EReal := m ((c : Thread nD τ).loc main_arg1)

theorem at0 : ∀ t : Fin cfg0.N, win0_0.index t (0 : Fin 2) = t.val % 8 ∧ win0_0.index t (1 : Fin 2) = 0 :=
  (by decide +kernel : ∀ t : Fin grid0.N, _)
theorem at1 : ∀ t : Fin cfg0.N, win0_1.index t (0 : Fin 2) = t.val % 8 ∧ win0_1.index t (1 : Fin 2) = 0 :=
  (by decide +kernel : ∀ t : Fin grid0.N, _)

theorem y_at (c : Dev nD) (t : Fin cfg0.N) (k : Fin 512) (q : Fin 1024) :
    (iblk m c 0 t (ix2 k q) : EReal) = Mm.ent (out m c) (512 * (t.val % 8) + k.val) q.val := by
  unfold iblk
  rw [View.read_apply]
  show V m c main_arg0 _ = _
  rw [V_main_arg0, ← show 1024 * 0 + q.val = q.val by omega]
  exact Mm.ent_emb (out m c) ((cfg0.win 0).blk t).view.emb _ _ (fun j => congrArg (· * 512 + 1 * (j 0).val) (at0 t).1)
    (fun j => congrArg (· * 1024 + 1 * (j 1).val) (at0 t).2) k q

theorem w_at (c : Dev nD) (t : Fin cfg0.N) (k : Fin 512) (q : Fin 1024) :
    (iblk m c 1 t (ix2 k q) : EReal) = Mm.ent (aim m c) (512 * (t.val % 8) + k.val) q.val := by
  unfold iblk
  rw [View.read_apply]
  show V m c main_arg1 _ = _
  rw [V_main_arg1, ← show 1024 * 0 + q.val = q.val by omega]
  exact Mm.ent_emb (aim m c) ((cfg0.win 1).blk t).view.emb _ _ (fun j => congrArg (· * 512 + 1 * (j 0).val) (at1 t).1)
    (fun j => congrArg (· * 1024 + 1 * (j 1).val) (at1 t).2) k q

/-- A row's share of the loss. -/
def row (y w : Fin 1024 → EReal) : EReal := Ideal.ofBits .f32 0x3A000000#32 * ∑ j, (y j - w j) * (y j - w j)

theorem pay (y w : Vec Ideal S512x1024 .f32) (s : Vec Ideal S8x128 .f32) (i : S8x128.Idx) :
    (k0_pay5 y w s i : EReal) = s i + ∑ k : Fin 512, row (fun j => y (ix2 k j)) (fun j => w (ix2 k j)) := by
  unfold row
  rw [part2, ← into _ _ (by norm_num), ← part2]
  pointwise [k0_pay5, k0_pay1]

theorem pay0 (y w : Vec Ideal S512x1024 .f32) (i : S8x128.Idx) :
    (k0_pay5 y w (k0_pay4 (F := Ideal)) i : EReal) = ∑ k : Fin 512, row (fun j => y (ix2 k j)) (fun j => w (ix2 k j)) := by
  rw [pay]
  pointwise [k0_pay4]

/-- The share of row `k`. -/
abbrev term (c : Dev nD) (k : ℕ) : EReal := row (fun j => Mm.ent (out m c) k j.val) fun j => Mm.ent (aim m c) k j.val

theorem part (c : Dev nD) (t : Fin cfg0.N) :
    (∑ k : Fin 512, row (fun j => iblk m c 0 t (ix2 k j)) (fun j => iblk m c 1 t (ix2 k j)))
      = ∑ k : Fin 512, term m c (512 * (t.val % 8) + k.val) :=
  Finset.sum_congr rfl fun k _ => by simp only [y_at, w_at]

/-- What the last point leaves. -/
theorem block (c : Dev nD) (t : ℕ) (ht : t < cfg0.N) (h : t = 7) (i : S8x128.Idx) :
    ((outsAt0 m c t ht).1 i : EReal) = ∑ k : Fin 4096, term m c k.val := by
  have hn : ∀ t ht, ¬ t % 8 = 0 → ((outsAt0 m c t ht).1 i : EReal)
      = (outsAt0 m c (t - 1) (by omega)).1 i + ∑ k : Fin 512, term m c (512 * (t % 8) + k.val) := fun t ht h0 => by
    rw [outsAt0_B m c ⟨t, ht⟩ h0]
    dsimp only
    rw [loss_next, pay]
    exact congrArg _ (part m c ⟨t, ht⟩)
  refine Mm.blocked 8 512 4096 (by decide) rfl (fun _ => term m c) (fun t ht => (outsAt0 m c t ht).1 i)
    (fun t ht => (outsAt0 m c t ht).1 i) (fun t ht h0 => ?_) (fun t ht h0 _ => hn t ht h0) (fun t ht h1 => hn t ht (by omega)) 0 t ht h
  rw [outsAt0_A m c ⟨t, ht⟩ h0]
  dsimp only
  rw [loss_first, pay0]
  exact part m c ⟨t, ht⟩

theorem want (c : Dev nD) (i : S8x128.Idx) : (Want.loss (out m c) (aim m c) i : EReal) = ∑ k : Fin 4096, term m c k.val := by
  pointwise [Want.loss, Want.num]
  rw [half, into _ _ (by norm_num), ← half]
  refine Finset.sum_congr rfl fun k _ => ?_
  rw [share]
  unfold term row
  simp only [Mm.ent_of _ k.isLt (Fin.isLt _)]

theorem loss (c : Dev nD) :
    (dats m 0 c).arrAt 2 cfg0.N = Want.loss (m ((c : Thread nD τ).loc main_arg0)) (m ((c : Thread nD τ).loc main_arg1)) := by
  refine (dats m 0 c).arrAt_eq_of_covers 2 _ (by decide +kernel) fun t hf y => ?_
  have h7 : t.val = 7 := (by decide +kernel : ∀ t : Fin cfg0.N, (cfg0.win 2).flush t = true → t.val = 7) t hf
  blk_simp
  rw [after0_2]
  exact (block m c t.val t.isLt h7 y).trans (want m c _).symm

/-- The results are the reference's. -/
theorem algebraic : algebraic_LossIdeal_LossRefIdeal (hLossIdeal := Cert.LossIdeal.Gen.facts)
    (hLossRefIdeal := Cert.LossRefIdeal.Gen.facts) := fun m g m' g' _ ha => by
  refine ⟨_, _, _, Value.run_blocks m g, (θ_run Cert.LossRefIdeal.defs _ _).mono
    (fun r h c => ⟨(h c).1.trans ?_, (h c).2.1.trans ?_, (h c).2.2.1.trans ?_, (h c).2.2.2⟩) (Cert.LossRefIdeal.Value.run m' g')⟩
  · rw [(ha c).1, (ha c).2]
    exact (loss m c).symm
  · rw [(ha c).1, (ha c).2]
    exact (grad m c).symm
  · rw [(ha c).1, (ha c).2]
    exact (cast m c).symm

/-- The reference leaves its arguments and no semaphore raised. -/
theorem reference : quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run m ρ)

end Cert.LossIdeal.Norm

end
-- ==== Proof.lean ====
/-
  The claims of the certificate: what each program leaves, from the modules that show it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Dil.KRun
public import proofs.«01_k».proof.Proof.Dil.RefRun
public import proofs.«01_k».proof.Proof.Dil.Finite
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Mm.Up
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxRefIdeal
public import proofs.«01_k».proof.Proof.Mm.UpDx
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwRefIdeal
public import proofs.«01_k».proof.Proof.Mm.UpDw
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Mm.Down
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxRefIdeal
public import proofs.«01_k».proof.Proof.Mm.DownDx
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwRefIdeal
public import proofs.«01_k».proof.Proof.Mm.DownDw
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxRefIdeal
public import proofs.«01_k».proof.Proof.Mm.InDx
public import proofs.«01_k».proof.Proof.Gen.StepOut
public import proofs.«01_k».proof.Proof.Gen.StepOut.Frame
public import proofs.«01_k».proof.Proof.Gen.StepOutIdeal
public import proofs.«01_k».proof.Proof.Gen.StepOutIdeal.Frame
public import proofs.«01_k».proof.Proof.Gen.StepOutRefIdeal
public import proofs.«01_k».proof.Proof.Opt.StepOut
public import proofs.«01_k».proof.Proof.Gen.StepMem
public import proofs.«01_k».proof.Proof.Gen.StepMem.Frame
public import proofs.«01_k».proof.Proof.Gen.StepMemIdeal
public import proofs.«01_k».proof.Proof.Gen.StepMemIdeal.Frame
public import proofs.«01_k».proof.Proof.Gen.StepMemRefIdeal
public import proofs.«01_k».proof.Proof.Opt.StepMem
public import proofs.«01_k».proof.Proof.Gen.StepDown
public import proofs.«01_k».proof.Proof.Gen.StepDown.Frame
public import proofs.«01_k».proof.Proof.Gen.StepDownIdeal
public import proofs.«01_k».proof.Proof.Gen.StepDownIdeal.Frame
public import proofs.«01_k».proof.Proof.Gen.StepDownRefIdeal
public import proofs.«01_k».proof.Proof.Opt.StepDown
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInRefIdeal
public import proofs.«01_k».proof.Proof.Opt.SumIn
public import proofs.«01_k».proof.Proof.Gen.SumKv
public import proofs.«01_k».proof.Proof.Gen.SumKv.Frame
public import proofs.«01_k».proof.Proof.Gen.SumKvIdeal
public import proofs.«01_k».proof.Proof.Gen.SumKvIdeal.Frame
public import proofs.«01_k».proof.Proof.Gen.SumKvRefIdeal
public import proofs.«01_k».proof.Proof.Opt.SumKv
public import proofs.«01_k».proof.Proof.Gen.SumMix
public import proofs.«01_k».proof.Proof.Gen.SumMix.Frame
public import proofs.«01_k».proof.Proof.Gen.SumMixIdeal
public import proofs.«01_k».proof.Proof.Gen.SumMixIdeal.Frame
public import proofs.«01_k».proof.Proof.Gen.SumMixRefIdeal
public import proofs.«01_k».proof.Proof.Opt.SumMix
public import proofs.«01_k».proof.Proof.Gen.SumUp
public import proofs.«01_k».proof.Proof.Gen.SumUp.Frame
public import proofs.«01_k».proof.Proof.Gen.SumUpIdeal
public import proofs.«01_k».proof.Proof.Gen.SumUpIdeal.Frame
public import proofs.«01_k».proof.Proof.Gen.SumUpRefIdeal
public import proofs.«01_k».proof.Proof.Opt.SumUp
public import proofs.«01_k».proof.Proof.Gen.StepIn
public import proofs.«01_k».proof.Proof.Gen.StepIn.Frame
public import proofs.«01_k».proof.Proof.Gen.StepInIdeal
public import proofs.«01_k».proof.Proof.Gen.StepInIdeal.Frame
public import proofs.«01_k».proof.Proof.Gen.StepInRefIdeal
public import proofs.«01_k».proof.Proof.Opt.StepIn
public import proofs.«01_k».proof.Proof.Gen.StepKv
public import proofs.«01_k».proof.Proof.Gen.StepKv.Frame
public import proofs.«01_k».proof.Proof.Gen.StepKvIdeal
public import proofs.«01_k».proof.Proof.Gen.StepKvIdeal.Frame
public import proofs.«01_k».proof.Proof.Gen.StepKvRefIdeal
public import proofs.«01_k».proof.Proof.Opt.StepKv
public import proofs.«01_k».proof.Proof.Gen.StepMix
public import proofs.«01_k».proof.Proof.Gen.StepMix.Frame
public import proofs.«01_k».proof.Proof.Gen.StepMixIdeal
public import proofs.«01_k».proof.Proof.Gen.StepMixIdeal.Frame
public import proofs.«01_k».proof.Proof.Gen.StepMixRefIdeal
public import proofs.«01_k».proof.Proof.Opt.StepMix
public import proofs.«01_k».proof.Proof.Gen.StepUp
public import proofs.«01_k».proof.Proof.Gen.StepUp.Frame
public import proofs.«01_k».proof.Proof.Gen.StepUpIdeal
public import proofs.«01_k».proof.Proof.Gen.StepUpIdeal.Frame
public import proofs.«01_k».proof.Proof.Gen.StepUpRefIdeal
public import proofs.«01_k».proof.Proof.Opt.StepUp
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallRefIdeal
public import proofs.«01_k».proof.Proof.Opt.SumSmall
public import proofs.«01_k».proof.Proof.Gen.StepSmall
public import proofs.«01_k».proof.Proof.Gen.StepSmall.Frame
public import proofs.«01_k».proof.Proof.Gen.StepSmallIdeal
public import proofs.«01_k».proof.Proof.Gen.StepSmallIdeal.Frame
public import proofs.«01_k».proof.Proof.Gen.StepSmallRefIdeal
public import proofs.«01_k».proof.Proof.Opt.StepSmall
public import proofs.«01_k».proof.Proof.Gen.NormDx
public import proofs.«01_k».proof.Proof.Gen.NormDx.Frame
public import proofs.«01_k».proof.Proof.Gen.NormDxIdeal
public import proofs.«01_k».proof.Proof.Gen.NormDxIdeal.Frame
public import proofs.«01_k».proof.Proof.Gen.NormDxRefIdeal
public import proofs.«01_k».proof.Proof.Norm.NormDx
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Norm.Norm
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormRefIdeal
public import proofs.«01_k».proof.Proof.Norm.MemNorm
public import proofs.«01_k».proof.Proof.Gen.NormTwo
public import proofs.«01_k».proof.Proof.Gen.NormTwo.Frame
public import proofs.«01_k».proof.Proof.Gen.NormTwoIdeal
public import proofs.«01_k».proof.Proof.Gen.NormTwoIdeal.Frame
public import proofs.«01_k».proof.Proof.Gen.NormTwoRefIdeal
public import proofs.«01_k».proof.Proof.Norm.NormTwo
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Norm.Loss
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference leaves its arguments and no semaphore raised. -/
theorem dil_reference : quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩)
    (Cert.ReferenceIdeal.Value.run m ρ)

/-- The kernel's three gradients are the reference's. -/
theorem dil_algebraic : algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp ha => by
  have hq : ∀ c i, ∃ x : ℝ, DilBwd.K.aq m c i = x := fun c => DilBwd.real_q (hp c).1
  have hk : ∀ c i, ∃ x : ℝ, DilBwd.K.ak m c i = x := fun c => DilBwd.real_k (hp c).2
  have eq : ∀ c, DilBwd.R.mq m' c = DilBwd.K.aq m c := fun c => (ha c).1
  have ek : ∀ c, DilBwd.R.mk m' c = DilBwd.K.ak m c := fun c => (ha c).2.1
  have ev : ∀ c, DilBwd.R.mv m' c = DilBwd.K.av m c := fun c => (ha c).2.2.1
  have eo : ∀ c, DilBwd.R.mo m' c = DilBwd.K.ao m c := fun c => (ha c).2.2.2.1
  have eu : ∀ c, DilBwd.R.mu m' c = DilBwd.K.au m c := fun c => (ha c).2.2.2.2
  refine ⟨_, _, _, DilBwd.K.run m g hq hk, (θ_run Cert.ReferenceIdeal.defs _ _).mono (fun r h c => ?_)
    (DilBwd.R.run m' g' (fun c i => ?_) (fun c i => ?_))⟩
  · obtain ⟨h0, h1, h2, h3⟩ := h c
    rw [eq, ek, ev, eo, eu] at h0 h1
    rw [eq, ek, eo] at h2
    exact ⟨h0, h1, h2, h3⟩
  · rw [eq]; exact hq c i
  · rw [ek]; exact hk c i

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.Down.Gen.facts, Cert.DownIdeal.Gen.facts, Cert.DownRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.InDx.Gen.facts, Cert.InDxIdeal.Gen.facts, Cert.InDxRefIdeal.Gen.facts,
    Cert.StepOut.Gen.facts, Cert.StepOutIdeal.Gen.facts, Cert.StepOutRefIdeal.Gen.facts,
    Cert.StepMem.Gen.facts, Cert.StepMemIdeal.Gen.facts, Cert.StepMemRefIdeal.Gen.facts,
    Cert.StepDown.Gen.facts, Cert.StepDownIdeal.Gen.facts, Cert.StepDownRefIdeal.Gen.facts,
    Cert.SumIn.Gen.facts, Cert.SumInIdeal.Gen.facts, Cert.SumInRefIdeal.Gen.facts,
    Cert.SumKv.Gen.facts, Cert.SumKvIdeal.Gen.facts, Cert.SumKvRefIdeal.Gen.facts,
    Cert.SumMix.Gen.facts, Cert.SumMixIdeal.Gen.facts, Cert.SumMixRefIdeal.Gen.facts,
    Cert.SumUp.Gen.facts, Cert.SumUpIdeal.Gen.facts, Cert.SumUpRefIdeal.Gen.facts,
    Cert.StepIn.Gen.facts, Cert.StepInIdeal.Gen.facts, Cert.StepInRefIdeal.Gen.facts,
    Cert.StepKv.Gen.facts, Cert.StepKvIdeal.Gen.facts, Cert.StepKvRefIdeal.Gen.facts,
    Cert.StepMix.Gen.facts, Cert.StepMixIdeal.Gen.facts, Cert.StepMixRefIdeal.Gen.facts,
    Cert.StepUp.Gen.facts, Cert.StepUpIdeal.Gen.facts, Cert.StepUpRefIdeal.Gen.facts,
    Cert.SumSmall.Gen.facts, Cert.SumSmallIdeal.Gen.facts, Cert.SumSmallRefIdeal.Gen.facts,
    Cert.StepSmall.Gen.facts, Cert.StepSmallIdeal.Gen.facts, Cert.StepSmallRefIdeal.Gen.facts,
    Cert.NormDx.Gen.facts, Cert.NormDxIdeal.Gen.facts, Cert.NormDxRefIdeal.Gen.facts,
    Cert.Norm.Gen.facts, Cert.NormIdeal.Gen.facts, Cert.NormRefIdeal.Gen.facts,
    Cert.MemNorm.Gen.facts, Cert.MemNormIdeal.Gen.facts, Cert.MemNormRefIdeal.Gen.facts,
    Cert.NormTwo.Gen.facts, Cert.NormTwoIdeal.Gen.facts, Cert.NormTwoRefIdeal.Gen.facts,
    Cert.Loss.Gen.facts, Cert.LossIdeal.Gen.facts, Cert.LossRefIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    dil_reference,
    fun m ρ _ => dil_reference m ρ trivial,
    fun m ρ _ => Cert.Up.Gen.frame m ρ, fun m ρ _ => Cert.UpIdeal.Gen.frame m ρ, Cert.UpIdeal.Prod.reference,
    fun m ρ _ => Cert.UpDx.Gen.frame m ρ, fun m ρ _ => Cert.UpDxIdeal.Gen.frame m ρ, Cert.UpDxIdeal.Prod.reference,
    fun m ρ _ => Cert.UpDw.Gen.frame m ρ, fun m ρ _ => Cert.UpDwIdeal.Gen.frame m ρ, Cert.UpDwIdeal.Prod.reference,
    fun m ρ _ => Cert.Down.Gen.frame m ρ, fun m ρ _ => Cert.DownIdeal.Gen.frame m ρ, Cert.DownIdeal.Prod.reference,
    fun m ρ _ => Cert.DownDx.Gen.frame m ρ, fun m ρ _ => Cert.DownDxIdeal.Gen.frame m ρ, Cert.DownDxIdeal.Prod.reference,
    fun m ρ _ => Cert.DownDw.Gen.frame m ρ, fun m ρ _ => Cert.DownDwIdeal.Gen.frame m ρ, Cert.DownDwIdeal.Prod.reference,
    fun m ρ _ => Cert.InDx.Gen.frame m ρ, fun m ρ _ => Cert.InDxIdeal.Gen.frame m ρ, Cert.InDxIdeal.Prod.reference,
    fun m ρ _ => Cert.StepOut.Gen.frame m ρ, fun m ρ _ => Cert.StepOutIdeal.Gen.frame m ρ, Cert.StepOutIdeal.Opt.reference,
    fun m ρ _ => Cert.StepMem.Gen.frame m ρ, fun m ρ _ => Cert.StepMemIdeal.Gen.frame m ρ, Cert.StepMemIdeal.Opt.reference,
    fun m ρ _ => Cert.StepDown.Gen.frame m ρ, fun m ρ _ => Cert.StepDownIdeal.Gen.frame m ρ, Cert.StepDownIdeal.Opt.reference,
    fun m ρ _ => Cert.SumIn.Gen.frame m ρ, fun m ρ _ => Cert.SumInIdeal.Gen.frame m ρ, Cert.SumInIdeal.Opt.reference,
    fun m ρ _ => Cert.SumKv.Gen.frame m ρ, fun m ρ _ => Cert.SumKvIdeal.Gen.frame m ρ, Cert.SumKvIdeal.Opt.reference,
    fun m ρ _ => Cert.SumMix.Gen.frame m ρ, fun m ρ _ => Cert.SumMixIdeal.Gen.frame m ρ, Cert.SumMixIdeal.Opt.reference,
    fun m ρ _ => Cert.SumUp.Gen.frame m ρ, fun m ρ _ => Cert.SumUpIdeal.Gen.frame m ρ, Cert.SumUpIdeal.Opt.reference,
    fun m ρ _ => Cert.StepIn.Gen.frame m ρ, fun m ρ _ => Cert.StepInIdeal.Gen.frame m ρ, Cert.StepInIdeal.Opt.reference,
    fun m ρ _ => Cert.StepKv.Gen.frame m ρ, fun m ρ _ => Cert.StepKvIdeal.Gen.frame m ρ, Cert.StepKvIdeal.Opt.reference,
    fun m ρ _ => Cert.StepMix.Gen.frame m ρ, fun m ρ _ => Cert.StepMixIdeal.Gen.frame m ρ, Cert.StepMixIdeal.Opt.reference,
    fun m ρ _ => Cert.StepUp.Gen.frame m ρ, fun m ρ _ => Cert.StepUpIdeal.Gen.frame m ρ, Cert.StepUpIdeal.Opt.reference,
    fun m ρ _ => Cert.SumSmall.Gen.frame m ρ, fun m ρ _ => Cert.SumSmallIdeal.Gen.frame m ρ, Cert.SumSmallIdeal.Opt.reference,
    fun m ρ _ => Cert.StepSmall.Gen.frame m ρ, fun m ρ _ => Cert.StepSmallIdeal.Gen.frame m ρ, Cert.StepSmallIdeal.Opt.reference,
    fun m ρ _ => Cert.NormDx.Gen.frame m ρ, fun m ρ _ => Cert.NormDxIdeal.Gen.frame m ρ, Cert.NormDxIdeal.Norm.reference,
    fun m ρ _ => Cert.Norm.Gen.frame m ρ, fun m ρ _ => Cert.NormIdeal.Gen.frame m ρ, Cert.NormIdeal.Norm.reference,
    fun m ρ _ => Cert.MemNorm.Gen.frame m ρ, fun m ρ _ => Cert.MemNormIdeal.Gen.frame m ρ, Cert.MemNormIdeal.Norm.reference,
    fun m ρ _ => Cert.NormTwo.Gen.frame m ρ, fun m ρ _ => Cert.NormTwoIdeal.Gen.frame m ρ, Cert.NormTwoIdeal.Norm.reference,
    fun m ρ _ => Cert.Loss.Gen.frame m ρ, fun m ρ _ => Cert.LossIdeal.Gen.frame m ρ, Cert.LossIdeal.Norm.reference,
    IdealRules.named_const.statement Cert.KernelIdeal.κ "mask" .f32 0xF149F2CA#32 ⊥ rfl, dil_algebraic,
    trivial, Cert.UpIdeal.Prod.algebraic,
    trivial, Cert.UpDxIdeal.Prod.algebraic,
    trivial, Cert.UpDwIdeal.Prod.algebraic,
    trivial, Cert.DownIdeal.Prod.algebraic,
    trivial, Cert.DownDxIdeal.Prod.algebraic,
    trivial, Cert.DownDwIdeal.Prod.algebraic,
    trivial, Cert.InDxIdeal.Prod.algebraic,
    Cert.StepOutIdeal.Opt.named, Cert.StepOutIdeal.Opt.algebraic,
    Cert.StepMemIdeal.Opt.named, Cert.StepMemIdeal.Opt.algebraic,
    Cert.StepDownIdeal.Opt.named, Cert.StepDownIdeal.Opt.algebraic,
    trivial, Cert.SumInIdeal.Opt.algebraic,
    trivial, Cert.SumKvIdeal.Opt.algebraic,
    trivial, Cert.SumMixIdeal.Opt.algebraic,
    trivial, Cert.SumUpIdeal.Opt.algebraic,
    Cert.StepInIdeal.Opt.named, Cert.StepInIdeal.Opt.algebraic,
    Cert.StepKvIdeal.Opt.named, Cert.StepKvIdeal.Opt.algebraic,
    Cert.StepMixIdeal.Opt.named, Cert.StepMixIdeal.Opt.algebraic,
    Cert.StepUpIdeal.Opt.named, Cert.StepUpIdeal.Opt.algebraic,
    trivial, Cert.SumSmallIdeal.Opt.algebraic,
    Cert.StepSmallIdeal.Opt.named, Cert.StepSmallIdeal.Opt.algebraic,
    trivial, Cert.NormDxIdeal.Norm.algebraic,
    trivial, Cert.NormIdeal.Norm.algebraic,
    trivial, Cert.MemNormIdeal.Norm.algebraic,
    trivial, Cert.NormTwoIdeal.Norm.algebraic,
    trivial, Cert.LossIdeal.Norm.algebraic⟩

end Cert.Proof

end
